-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_scores [hPre_finite_scores : Cert.Pre_finite_scores.Facts] (m : (ℓ : Loc Cert.OutIdeal.nD Cert.OutIdeal.τ Cert.OutIdeal.sig) → Buf (Elt Ideal) ℓ) : Prop :=
  ∀ c : Dev Cert.OutIdeal.nD,
    (Cert.Pre_finite_scores.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8))).1 = (fun _ => 1#1)
    ∧ (Cert.Pre_finite_scores.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8))).2.1 = (fun _ => 1#1)
    ∧ (Cert.Pre_finite_scores.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8))).2.2.1 = (fun _ => 1#1)
    ∧ (Cert.Pre_finite_scores.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8))).2.2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_scores [hPre_finite_scores : Cert.Pre_finite_scores.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_scores.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8))).1 = (fun _ => 1#1)
    ∧ (Cert.Pre_finite_scores.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8))).2.1 = (fun _ => 1#1)
    ∧ (Cert.Pre_finite_scores.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8))).2.2.1 = (fun _ => 1#1)
    ∧ (Cert.Pre_finite_scores.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8))).2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_recurrence [hPre_finite_recurrence : Cert.Pre_finite_recurrence.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).1 = (fun _ => 1#1)
    ∧ (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).2.1 = (fun _ => 1#1)
    ∧ (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).2.2.1 = (fun _ => 1#1)
    ∧ (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).2.2.2.1 = (fun _ => 1#1)
    ∧ (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).2.2.2.2.1 = (fun _ => 1#1)
    ∧ (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).2.2.2.2.2.1 = (fun _ => 1#1)
    ∧ (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).2.2.2.2.2.2.1 = (fun _ => 1#1)
    ∧ (Cert.Pre_finite_recurrence.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))).2.2.2.2.2.2.2 = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite_recurrence [hPre_finite_recurrence : Cert.Pre_finite_recurrence.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).1 = (fun _ => 1#1)
    ∧ (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).2.1 = (fun _ => 1#1)
    ∧ (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).2.2.1 = (fun _ => 1#1)
    ∧ (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).2.2.2.1 = (fun _ => 1#1)
    ∧ (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).2.2.2.2.1 = (fun _ => 1#1)
    ∧ (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).2.2.2.2.2.1 = (fun _ => 1#1)
    ∧ (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).2.2.2.2.2.2.1 = (fun _ => 1#1)
    ∧ (Cert.Pre_finite_recurrence.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))).2.2.2.2.2.2.2 = (fun _ => 1#1)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutIdeal_pre_finite_scores [hOutIdeal : Cert.OutIdeal.Facts] [hPre_finite_scores : Cert.Pre_finite_scores.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_scores m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_OutRefIdeal_pre_finite_scores [hOutRefIdeal : Cert.OutRefIdeal.Facts] [hPre_finite_scores : Cert.Pre_finite_scores.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_scores m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7)
      ∧ r.2.mem ((c.tc : Thread Cert.Mlstm.nD Cert.Mlstm.τ).loc Cert.Mlstm.main_arg8) = m ((c.tc : Thread Cert.Mlstm.nD Cert.Mlstm.τ).loc Cert.Mlstm.main_arg8)
      ∧ r.2.mem ((c.tc : Thread Cert.Mlstm.nD Cert.Mlstm.τ).loc Cert.Mlstm.main_arg9) = m ((c.tc : Thread Cert.Mlstm.nD Cert.Mlstm.τ).loc Cert.Mlstm.main_arg9))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
      ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ r.2.sem = fun _ => 0)

def quiescent_MlstmIdeal_pre_finite_recurrence [hMlstmIdeal : Cert.MlstmIdeal.Facts] [hPre_finite_recurrence : Cert.Pre_finite_recurrence.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_recurrence m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
      ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7)
      ∧ r.2.mem ((c.tc : Thread Cert.MlstmRefIdeal.nD Cert.MlstmRefIdeal.τ).loc Cert.MlstmRefIdeal.main_arg8) = m ((c.tc : Thread Cert.MlstmRefIdeal.nD Cert.MlstmRefIdeal.τ).loc Cert.MlstmRefIdeal.main_arg8)
      ∧ r.2.mem ((c.tc : Thread Cert.MlstmRefIdeal.nD Cert.MlstmRefIdeal.τ).loc Cert.MlstmRefIdeal.main_arg9) = m ((c.tc : Thread Cert.MlstmRefIdeal.nD Cert.MlstmRefIdeal.τ).loc Cert.MlstmRefIdeal.main_arg9))
      ∧ r.2.sem = fun _ => 0)

def quiescent_MlstmRefIdeal_pre_finite_recurrence [hMlstmRefIdeal : Cert.MlstmRefIdeal.Facts] [hPre_finite_recurrence : Cert.Pre_finite_recurrence.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite_recurrence m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7)
      ∧ r.2.mem ((c.tc : Thread Cert.MlstmRefIdeal.nD Cert.MlstmRefIdeal.τ).loc Cert.MlstmRefIdeal.main_arg8) = m ((c.tc : Thread Cert.MlstmRefIdeal.nD Cert.MlstmRefIdeal.τ).loc Cert.MlstmRefIdeal.main_arg8)
      ∧ r.2.mem ((c.tc : Thread Cert.MlstmRefIdeal.nD Cert.MlstmRefIdeal.τ).loc Cert.MlstmRefIdeal.main_arg9) = m ((c.tc : Thread Cert.MlstmRefIdeal.nD Cert.MlstmRefIdeal.τ).loc Cert.MlstmRefIdeal.main_arg9))
      ∧ r.2.sem = fun _ => 0)

def preserves_Out_OutIdeal : Prop :=
  True

def algebraic_OutIdeal_OutRefIdeal_pre_finite_scores [hOutIdeal : Cert.OutIdeal.Facts] [hOutRefIdeal : Cert.OutRefIdeal.Facts] [hPre_finite_scores : Cert.Pre_finite_scores.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_scores m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v8)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v66) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)) (v3 : (c : Dev Cert.InIdeal.nD) → Buf (Elt Ideal) ((c.tc : Thread Cert.InIdeal.nD Cert.InIdeal.τ).loc Cert.InIdeal.main_v5_3)) (v4 : (c : Dev Cert.InIdeal.nD) → Buf (Elt Ideal) ((c.tc : Thread Cert.InIdeal.nD Cert.InIdeal.τ).loc Cert.InIdeal.main_v5_4)) (v5 : (c : Dev Cert.InIdeal.nD) → Buf (Elt Ideal) ((c.tc : Thread Cert.InIdeal.nD Cert.InIdeal.τ).loc Cert.InIdeal.main_v5_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_v5_3) = v3 c
          ∧ r.2.mem ((c.tc : Thread Cert.InIdeal.nD Cert.InIdeal.τ).loc Cert.InIdeal.main_v5_4) = v4 c
          ∧ r.2.mem ((c.tc : Thread Cert.InIdeal.nD Cert.InIdeal.τ).loc Cert.InIdeal.main_v5_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v24) = v0 c
          ∧ r.2.mem ((c.tc : Thread Cert.InRefIdeal.nD Cert.InRefIdeal.τ).loc Cert.InRefIdeal.main_v27) = v1 c
          ∧ r.2.mem ((c.tc : Thread Cert.InRefIdeal.nD Cert.InRefIdeal.τ).loc Cert.InRefIdeal.main_v30) = v2 c
          ∧ r.2.mem ((c.tc : Thread Cert.InRefIdeal.nD Cert.InRefIdeal.τ).loc Cert.InRefIdeal.main_v33) = v3 c
          ∧ r.2.mem ((c.tc : Thread Cert.InRefIdeal.nD Cert.InRefIdeal.τ).loc Cert.InRefIdeal.main_v36) = v4 c
          ∧ r.2.mem ((c.tc : Thread Cert.InRefIdeal.nD Cert.InRefIdeal.τ).loc Cert.InRefIdeal.main_v38) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Mlstm_MlstmIdeal : Prop :=
  IdealRules.named_const.Statement Cert.MlstmIdeal.κ "mask" .f32 0xF149F2CA#32 ⊥

def algebraic_MlstmIdeal_MlstmRefIdeal_pre_finite_recurrence [hMlstmIdeal : Cert.MlstmIdeal.Facts] [hMlstmRefIdeal : Cert.MlstmRefIdeal.Facts] [hPre_finite_recurrence : Cert.Pre_finite_recurrence.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite_recurrence m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)
      ∧ m' ((c.tc : Thread Cert.MlstmRefIdeal.nD Cert.MlstmRefIdeal.τ).loc Cert.MlstmRefIdeal.main_arg7) = m ((c.tc : Thread Cert.MlstmIdeal.nD Cert.MlstmIdeal.τ).loc Cert.MlstmIdeal.main_arg7)
      ∧ m' ((c.tc : Thread Cert.MlstmRefIdeal.nD Cert.MlstmRefIdeal.τ).loc Cert.MlstmRefIdeal.main_arg8) = m ((c.tc : Thread Cert.MlstmIdeal.nD Cert.MlstmIdeal.τ).loc Cert.MlstmIdeal.main_arg8)
      ∧ m' ((c.tc : Thread Cert.MlstmRefIdeal.nD Cert.MlstmRefIdeal.τ).loc Cert.MlstmRefIdeal.main_arg9) = m ((c.tc : Thread Cert.MlstmIdeal.nD Cert.MlstmIdeal.τ).loc Cert.MlstmIdeal.main_arg9)) →
    ∃ (v0 : (c : Dev Cert.MlstmIdeal.nD) → Buf (Elt Ideal) ((c.tc : Thread Cert.MlstmIdeal.nD Cert.MlstmIdeal.τ).loc Cert.MlstmIdeal.main_v58)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v58) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
          ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
          ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
          ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v145) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6)
          ∧ r.2.mem ((c.tc : Thread Cert.MlstmRefIdeal.nD Cert.MlstmRefIdeal.τ).loc Cert.MlstmRefIdeal.main_arg7) = m' ((c.tc : Thread Cert.MlstmRefIdeal.nD Cert.MlstmRefIdeal.τ).loc Cert.MlstmRefIdeal.main_arg7)
          ∧ r.2.mem ((c.tc : Thread Cert.MlstmRefIdeal.nD Cert.MlstmRefIdeal.τ).loc Cert.MlstmRefIdeal.main_arg8) = m' ((c.tc : Thread Cert.MlstmRefIdeal.nD Cert.MlstmRefIdeal.τ).loc Cert.MlstmRefIdeal.main_arg8)
          ∧ r.2.mem ((c.tc : Thread Cert.MlstmRefIdeal.nD Cert.MlstmRefIdeal.τ).loc Cert.MlstmRefIdeal.main_arg9) = m' ((c.tc : Thread Cert.MlstmRefIdeal.nD Cert.MlstmRefIdeal.τ).loc Cert.MlstmRefIdeal.main_arg9))

def Claim : Prop :=
  ∃ (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hMlstm : Cert.Mlstm.Facts) (hMlstmIdeal : Cert.MlstmIdeal.Facts) (hMlstmRefIdeal : Cert.MlstmRefIdeal.Facts) (hPre_finite_scores : Cert.Pre_finite_scores.Facts) (hPre_finite_recurrence : Cert.Pre_finite_recurrence.Facts),
    quiescent_Out (hOut := hOut)
    ∧ quiescent_OutIdeal (hOutIdeal := hOutIdeal)
    ∧ quiescent_OutIdeal_pre_finite_scores (hOutIdeal := hOutIdeal) (hPre_finite_scores := hPre_finite_scores)
    ∧ quiescent_OutRefIdeal (hOutRefIdeal := hOutRefIdeal)
    ∧ quiescent_OutRefIdeal_pre_finite_scores (hOutRefIdeal := hOutRefIdeal) (hPre_finite_scores := hPre_finite_scores)
    ∧ quiescent_In (hIn := hIn)
    ∧ quiescent_InIdeal (hInIdeal := hInIdeal)
    ∧ quiescent_InRefIdeal (hInRefIdeal := hInRefIdeal)
    ∧ quiescent_Mlstm (hMlstm := hMlstm)
    ∧ quiescent_MlstmIdeal (hMlstmIdeal := hMlstmIdeal)
    ∧ quiescent_MlstmIdeal_pre_finite_recurrence (hMlstmIdeal := hMlstmIdeal) (hPre_finite_recurrence := hPre_finite_recurrence)
    ∧ quiescent_MlstmRefIdeal (hMlstmRefIdeal := hMlstmRefIdeal)
    ∧ quiescent_MlstmRefIdeal_pre_finite_recurrence (hMlstmRefIdeal := hMlstmRefIdeal) (hPre_finite_recurrence := hPre_finite_recurrence)
    ∧ preserves_Out_OutIdeal
    ∧ algebraic_OutIdeal_OutRefIdeal_pre_finite_scores (hOutIdeal := hOutIdeal) (hOutRefIdeal := hOutRefIdeal) (hPre_finite_scores := hPre_finite_scores)
    ∧ preserves_In_InIdeal
    ∧ algebraic_InIdeal_InRefIdeal (hInIdeal := hInIdeal) (hInRefIdeal := hInRefIdeal)
    ∧ preserves_Mlstm_MlstmIdeal
    ∧ algebraic_MlstmIdeal_MlstmRefIdeal_pre_finite_recurrence (hMlstmIdeal := hMlstmIdeal) (hMlstmRefIdeal := hMlstmRefIdeal) (hPre_finite_recurrence := hPre_finite_recurrence)
-- ==== Pre_finite_recurrence.lean ====
abbrev S65536x3072 : Shape := ⟨2, ![65536, 3072]⟩
abbrev S1x4x1024 : Shape := ⟨3, ![1, 4, 1024]⟩
abbrev S1x1024 : Shape := ⟨2, ![1, 1024]⟩
abbrev S1x256x4x4 : Shape := ⟨4, ![1, 256, 4, 4]⟩
abbrev S1x3072x8 : Shape := ⟨3, ![1, 3072, 8]⟩
abbrev S1x8 : Shape := ⟨2, ![1, 8]⟩
abbrev S65536x1024 : Shape := ⟨2, ![65536, 1024]⟩
abbrev S_ : Shape := ⟨0, ![]⟩

class Facts : Prop where
  slices_S65536x3072_S65536x1024_0_0 : S65536x3072.Slices ![0, 0] S65536x1024
  bitsLt_bf16_f32 : FTy.bits .bf16 < FTy.bits .f32
  bcast_S_S65536x1024 : S_.BroadcastsInDim S65536x1024 (![] : Fin 0 → Fin S65536x1024.rank)
  bcast_S_S1x4x1024 : S_.BroadcastsInDim S1x4x1024 (![] : Fin 0 → Fin S1x4x1024.rank)
  bcast_S_S1x1024 : S_.BroadcastsInDim S1x1024 (![] : Fin 0 → Fin S1x1024.rank)
  bcast_S_S1x256x4x4 : S_.BroadcastsInDim S1x256x4x4 (![] : Fin 0 → Fin S1x256x4x4.rank)
  bcast_S_S1x3072x8 : S_.BroadcastsInDim S1x3072x8 (![] : Fin 0 → Fin S1x3072x8.rank)
  bcast_S_S1x8 : S_.BroadcastsInDim S1x8 (![] : Fin 0 → Fin S1x8.rank)

variable [Facts]

def fn_part1 {F : FTy → Type} [FloatOps F] (main_arg6 : FVec F S1x3072x8 .f32) (main_arg7 : FVec F S1x8 .f32) (main_v4 : IVec S65536x1024 1) (main_v7 : IVec S1x4x1024 1) (main_v10 : IVec S1x1024 1) (main_v13 : IVec S1x256x4x4 1) (main_v16 : IVec S1x256x4x4 1) (main_v17 : FVec F S1x256x4x4 .f32) (main_cst_4 : FVec F S_ .f32) : IVec S65536x1024 1 × IVec S1x4x1024 1 × IVec S1x1024 1 × IVec S1x256x4x4 1 × IVec S1x256x4x4 1 × IVec S1x256x4x4 1 × IVec S1x3072x8 1 × IVec S1x8 1 :=
  let main_v18 : FVec F S1x256x4x4 .f32 := broadcastInDim S1x256x4x4 ![] bcast_S_S1x256x4x4 main_cst_4
  let main_v19 : IVec S1x256x4x4 1 := cmpf .olt main_v17 main_v18
  let main_v20 : FVec F S1x3072x8 .f32 := Host.absf main_arg6
  let main_cst_5 : FVec F S_ .f32 := constant S_ .f32 0x7F800000#32
  let main_v21 : FVec F S1x3072x8 .f32 := broadcastInDim S1x3072x8 ![] bcast_S_S1x3072x8 main_cst_5
  let main_v22 : IVec S1x3072x8 1 := cmpf .olt main_v20 main_v21
  let main_v23 : FVec F S1x8 .f32 := Host.absf main_arg7
  let main_cst_6 : FVec F S_ .f32 := constant S_ .f32 0x7F800000#32
  let main_v24 : FVec F S1x8 .f32 := broadcastInDim S1x8 ![] bcast_S_S1x8 main_cst_6
  let main_v25 : IVec S1x8 1 := cmpf .olt main_v23 main_v24
  (main_v4, main_v7, main_v10, main_v13, main_v16, main_v19, main_v22, main_v25)

def fn {F : FTy → Type} [FloatOps F] (main_arg0 : FVec F S65536x3072 .bf16) (main_arg1 : FVec F S1x4x1024 .f32) (main_arg2 : FVec F S1x1024 .f32) (main_arg3 : FVec F S1x256x4x4 .f32) (main_arg4 : FVec F S1x256x4x4 .f32) (main_arg5 : FVec F S1x256x4x4 .f32) (main_arg6 : FVec F S1x3072x8 .f32) (main_arg7 : FVec F S1x8 .f32) (main_arg8 : FVec F S1x1024 .f32) (main_arg9 : FVec F S1x1024 .f32) : IVec S65536x1024 1 × IVec S1x4x1024 1 × IVec S1x1024 1 × IVec S1x256x4x4 1 × IVec S1x256x4x4 1 × IVec S1x256x4x4 1 × IVec S1x3072x8 1 × IVec S1x8 1 :=
  let main_v0 : FVec F S65536x1024 .bf16 := (extractStridedSlice S65536x1024 ![0, 0] · slices_S65536x3072_S65536x1024_0_0) main_arg0
  let main_v1 : FVec F S65536x1024 .f32 := (extf .f32 · bitsLt_bf16_f32) main_v0
  let main_v2 : FVec F S65536x1024 .f32 := Host.absf main_v1
  let main_cst : FVec F S_ .f32 := constant S_ .f32 0x7F800000#32
  let main_v3 : FVec F S65536x1024 .f32 := broadcastInDim S65536x1024 ![] bcast_S_S65536x1024 main_cst
  let main_v4 : IVec S65536x1024 1 := cmpf .olt main_v2 main_v3
  let main_v5 : FVec F S1x4x1024 .f32 := Host.absf main_arg1
  let main_cst_0 : FVec F S_ .f32 := constant S_ .f32 0x7F800000#32
  let main_v6 : FVec F S1x4x1024 .f32 := broadcastInDim S1x4x1024 ![] bcast_S_S1x4x1024 main_cst_0
  let main_v7 : IVec S1x4x1024 1 := cmpf .olt main_v5 main_v6
  let main_v8 : FVec F S1x1024 .f32 := Host.absf main_arg2
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x256x4x4 .f32 := Host.absf main_arg3
  let main_cst_2 : FVec F S_ .f32 := constant S_ .f32 0x7F800000#32
  let main_v12 : FVec F S1x256x4x4 .f32 := broadcastInDim S1x256x4x4 ![] bcast_S_S1x256x4x4 main_cst_2
  let main_v13 : IVec S1x256x4x4 1 := cmpf .olt main_v11 main_v12
  let main_v14 : FVec F S1x256x4x4 .f32 := Host.absf main_arg4
  let main_cst_3 : FVec F S_ .f32 := constant S_ .f32 0x7F800000#32
  let main_v15 : FVec F S1x256x4x4 .f32 := broadcastInDim S1x256x4x4 ![] bcast_S_S1x256x4x4 main_cst_3
  let main_v16 : IVec S1x256x4x4 1 := cmpf .olt main_v14 main_v15
  let main_v17 : FVec F S1x256x4x4 .f32 := Host.absf main_arg5
  let main_cst_4 : FVec F S_ .f32 := constant S_ .f32 0x7F800000#32
  fn_part1 (F := F) main_arg6 main_arg7 main_v4 main_v7 main_v10 main_v13 main_v16 main_v17 main_cst_4
-- ==== Pre_finite_scores.lean ====
abbrev S32x2048x1024 : Shape := ⟨3, ![32, 2048, 1024]⟩
abbrev S65536x1024 : Shape := ⟨2, ![65536, 1024]⟩
abbrev S32x4x2048x128 : Shape := ⟨4, ![32, 4, 2048, 128]⟩
abbrev S32x256x1024 : Shape := ⟨3, ![32, 256, 1024]⟩
abbrev S1x1024 : Shape := ⟨2, ![1, 1024]⟩
abbrev S1x1024x1024 : Shape := ⟨3, ![1, 1024, 1024]⟩
abbrev S1x2048x1024 : Shape := ⟨3, ![1, 2048, 1024]⟩
abbrev S1024 : Shape := ⟨1, ![1024]⟩
abbrev S65536x512 : Shape := ⟨2, ![65536, 512]⟩
abbrev S_ : Shape := ⟨0, ![]⟩

class Facts : Prop where
  slices_S65536x1024_S65536x512_0_0 : S65536x1024.Slices ![0, 0] S65536x512
  bitsLt_bf16_f32 : FTy.bits .bf16 < FTy.bits .f32
  bcast_S_S65536x512 : S_.BroadcastsInDim S65536x512 (![] : Fin 0 → Fin S65536x512.rank)
  bcast_S_S32x256x1024 : S_.BroadcastsInDim S32x256x1024 (![] : Fin 0 → Fin S32x256x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S32x2048x1024 .f32) (main_arg1 : FVec F S65536x1024 .bf16) (main_arg2 : FVec F S32x4x2048x128 .bf16) (main_arg3 : FVec F S65536x1024 .bf16) (main_arg4 : FVec F S32x256x1024 .f32) (main_arg5 : FVec F S1x1024 .f32) (main_arg6 : FVec F S1x1024x1024 .f32) (main_arg7 : FVec F S1x2048x1024 .f32) (main_arg8 : FVec F S1024 .f32) : IVec S65536x512 1 × IVec S32x256x1024 1 × IVec S1x1024 1 × IVec S1x1024x1024 1 :=
  let main_v0 : FVec F S65536x512 .bf16 := (extractStridedSlice S65536x512 ![0, 0] · slices_S65536x1024_S65536x512_0_0) main_arg3
  let main_v1 : FVec F S65536x512 .f32 := (extf .f32 · bitsLt_bf16_f32) main_v0
  let main_v2 : FVec F S65536x512 .f32 := Host.absf main_v1
  let main_cst : FVec F S_ .f32 := constant S_ .f32 0x7F800000#32
  let main_v3 : FVec F S65536x512 .f32 := broadcastInDim S65536x512 ![] bcast_S_S65536x512 main_cst
  let main_v4 : IVec S65536x512 1 := cmpf .olt main_v2 main_v3
  let main_v5 : FVec F S32x256x1024 .f32 := Host.absf main_arg4
  let main_cst_0 : FVec F S_ .f32 := constant S_ .f32 0x7F800000#32
  let main_v6 : FVec F S32x256x1024 .f32 := broadcastInDim S32x256x1024 ![] bcast_S_S32x256x1024 main_cst_0
  let main_v7 : IVec S32x256x1024 1 := cmpf .olt main_v5 main_v6
  let main_v8 : FVec F S1x1024 .f32 := Host.absf main_arg5
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x1024x1024 .f32 := Host.absf main_arg6
  let main_cst_2 : FVec F S_ .f32 := constant S_ .f32 0x7F800000#32
  let main_v12 : FVec F S1x1024x1024 .f32 := broadcastInDim S1x1024x1024 ![] bcast_S_S1x1024x1024 main_cst_2
  let main_v13 : IVec S1x1024x1024 1 := cmpf .olt main_v11 main_v12
  (main_v4, main_v7, main_v10, main_v13)
-- ==== Out.lean ====
abbrev S32x2048x1024 : Shape := ⟨3, ![32, 2048, 1024]⟩
abbrev S65536x1024 : Shape := ⟨2, ![65536, 1024]⟩
abbrev S32x4x2048x128 : Shape := ⟨4, ![32, 4, 2048, 128]⟩
abbrev S32x256x1024 : Shape := ⟨3, ![32, 256, 1024]⟩
abbrev S1x1024 : Shape := ⟨2, ![1, 1024]⟩
abbrev S1x1024x1024 : Shape := ⟨3, ![1, 1024, 1024]⟩
abbrev S1x2048x1024 : Shape := ⟨3, ![1, 2048, 1024]⟩
abbrev S1024 : Shape := ⟨1, ![1024]⟩
abbrev S1024x1024 : Shape := ⟨2, ![1024, 1024]⟩
abbrev S2048x1024 : Shape := ⟨2, ![2048, 1024]⟩
abbrev S512x1024 : Shape := ⟨2, ![512, 1024]⟩
abbrev S1x4x512x128 : Shape := ⟨4, ![1, 4, 512, 128]⟩
abbrev S1x256x1024 : Shape := ⟨3, ![1, 256, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S1x1x512x128 : Shape := ⟨4, ![1, 1, 512, 128]⟩

abbrev nBuf : Space → Nat
  | .hbm => 18
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S32x4x2048x128, .bf16⟩
  | .hbm, ⟨3, _⟩ => ⟨S65536x1024, .bf16⟩
  | .hbm, ⟨4, _⟩ => ⟨S32x256x1024, .f32⟩
  | .hbm, ⟨5, _⟩ => ⟨S1x1024, .f32⟩
  | .hbm, ⟨6, _⟩ => ⟨S1x1024x1024, .f32⟩
  | .hbm, ⟨7, _⟩ => ⟨S1x2048x1024, .f32⟩
  | .hbm, ⟨8, _⟩ => ⟨S1024, .f32⟩
  | .hbm, ⟨9, _⟩ => ⟨S65536x1024, .f32⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S2048x1024, .f32⟩
  | .hbm, ⟨15, _⟩ => ⟨S2048x1024, .bf16⟩
  | .hbm, ⟨16, _⟩ => ⟨S1x1024, .f32⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S512x1024, .bf16⟩
  | .local _ .vmem, ⟨7, _⟩ => ⟨S512x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x1024, .f32⟩
  | .local _ .vmem, ⟨11, _⟩ => ⟨S1024x1024, .bf16⟩
  | .local _ .vmem, ⟨12, _⟩ => ⟨S2048x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S256x512, .bf16⟩
  | .local _ .vmem, ⟨17, _⟩ => ⟨S256x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutRefIdeal.lean ====
abbrev S32x2048x1024 : Shape := ⟨3, ![32, 2048, 1024]⟩
abbrev S65536x1024 : Shape := ⟨2, ![65536, 1024]⟩
abbrev S32x4x2048x128 : Shape := ⟨4, ![32, 4, 2048, 128]⟩
abbrev S32x256x1024 : Shape := ⟨3, ![32, 256, 1024]⟩
abbrev S1x1024 : Shape := ⟨2, ![1, 1024]⟩
abbrev S1x1024x1024 : Shape := ⟨3, ![1, 1024, 1024]⟩
abbrev S1x2048x1024 : Shape := ⟨3, ![1, 2048, 1024]⟩
abbrev S1024 : Shape := ⟨1, ![1024]⟩
abbrev S32x2048x4x128 : Shape := ⟨4, ![32, 2048, 4, 128]⟩
abbrev S32x2048x512 : Shape := ⟨3, ![32, 2048, 512]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x1024 : Shape := ⟨2, ![1024, 1024]⟩
abbrev S32x256x512 : Shape := ⟨3, ![32, 256, 512]⟩
abbrev S32x256x4x128 : Shape := ⟨4, ![32, 256, 4, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S32x2048x2048 : Shape := ⟨3, ![32, 2048, 2048]⟩
abbrev S2048x1024 : Shape := ⟨2, ![2048, 1024]⟩
abbrev S32x2048 : Shape := ⟨2, ![32, 2048]⟩
abbrev S32x2048x1 : Shape := ⟨3, ![32, 2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S32x4x2048x128, .bf16⟩
  | .hbm, ⟨3, _⟩ => ⟨S65536x1024, .bf16⟩
  | .hbm, ⟨4, _⟩ => ⟨S32x256x1024, .f32⟩
  | .hbm, ⟨5, _⟩ => ⟨S1x1024, .f32⟩
  | .hbm, ⟨6, _⟩ => ⟨S1x1024x1024, .f32⟩
  | .hbm, ⟨7, _⟩ => ⟨S1x2048x1024, .f32⟩
  | .hbm, ⟨8, _⟩ => ⟨S1024, .f32⟩
  | .hbm, ⟨9, _⟩ => ⟨S65536x1024, .f32⟩
  | .hbm, ⟨10, _⟩ => ⟨S32x2048x1024, .f32⟩
  | .hbm, ⟨11, _⟩ => ⟨S32x4x2048x128, .f32⟩
  | .hbm, ⟨12, _⟩ => ⟨S32x2048x4x128, .f32⟩
  | .hbm, ⟨13, _⟩ => ⟨S32x2048x512, .f32⟩
  | .hbm, ⟨14, _⟩ => ⟨S65536x1024, .f32⟩
  | .hbm, ⟨15, _⟩ => ⟨S32x2048x1024, .f32⟩
  | .hbm, ⟨16, _⟩ => ⟨S32x2048x512, .f32⟩
  | .hbm, ⟨17, _⟩ => ⟨S32x2048x512, .f32⟩
  | .hbm, ⟨18, _⟩ => ⟨S1024, .f32⟩
  | .hbm, ⟨19, _⟩ => ⟨S32x256x1024, .f32⟩
  | .hbm, ⟨20, _⟩ => ⟨S_, .f32⟩
  | .hbm, ⟨21, _⟩ => ⟨S32x256, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S_, .f32⟩
  | .hbm, ⟨27, _⟩ => ⟨S32x256x1, .f32⟩
  | .hbm, ⟨28, _⟩ => ⟨S32x256x1, .f32⟩
  | .hbm, ⟨29, _⟩ => ⟨S32x256x1, .f32⟩
  | .hbm, ⟨30, _⟩ => ⟨S32x256x1024, .f32⟩
  | .hbm, ⟨31, _⟩ => ⟨S32x256x1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S1024x1024, .f32⟩
  | .hbm, ⟨36, _⟩ => ⟨S32x256x1024, .f32⟩
  | .hbm, ⟨37, _⟩ => ⟨S32x256x512, .f32⟩
  | .hbm, ⟨38, _⟩ => ⟨S32x256x512, .f32⟩
  | .hbm, ⟨39, _⟩ => ⟨S32x2048x4x128, .f32⟩
  | .hbm, ⟨40, _⟩ => ⟨S32x256x4x128, .f32⟩
  | .hbm, ⟨41, _⟩ => ⟨S32x256x4x128, .f32⟩
  | .hbm, ⟨42, _⟩ => ⟨S32x4x2048x256, .f32⟩
  | .hbm, ⟨43, _⟩ => ⟨S_, .f32⟩
  | .hbm, ⟨44, _⟩ => ⟨S32x4x2048x256, .f32⟩
  | .hbm, ⟨45, _⟩ => ⟨S32x4x2048x256, .f32⟩
  | .hbm, ⟨46, _⟩ => ⟨S_, .f32⟩
  | .hbm, ⟨47, _⟩ => ⟨S32x4x2048, .f32⟩
  | .hbm, ⟨48, _⟩ => ⟨S_, .f32⟩
  | .hbm, ⟨49, _⟩ => ⟨S32x4x2048, .f32⟩
  | .hbm, ⟨50, _⟩ => ⟨S32x4x2048, .f32⟩
  | .hbm, ⟨51, _⟩ => ⟨S32x4x2048x1, .f32⟩
  | .hbm, ⟨52, _⟩ => ⟨S32x4x2048x256, .f32⟩
  | .hbm, ⟨53, _⟩ => ⟨S32x4x2048x256, .f32⟩
  | .hbm, ⟨54, _⟩ => ⟨S32x4x2048x256, .f32⟩
  | .hbm, ⟨55, _⟩ => ⟨S_, .f32⟩
  | .hbm, ⟨56, _⟩ => ⟨S32x4x2048, .f32⟩
  | .hbm, ⟨57, _⟩ => ⟨S32x4x2048x1, .f32⟩
  | .hbm, ⟨58, _⟩ => ⟨S32x4x2048x256, .f32⟩
  | .hbm, ⟨59, _⟩ => ⟨S32x4x2048x256, .f32⟩
  | .hbm, ⟨60, _⟩ => ⟨S32x4x128x2048, .f32⟩
  | .hbm, ⟨61, _⟩ => ⟨S32x2048x4x128, .f32⟩
  | .hbm, ⟨62, _⟩ => ⟨S32x2048x512, .f32⟩
  | .hbm, ⟨63, _⟩ => ⟨S32x2048x512, .f32⟩
  | .hbm, ⟨64, _⟩ => ⟨S32x2048x512, .f32⟩
  | .hbm, ⟨65, _⟩ => ⟨S_, .f32⟩
  | .hbm, ⟨66, _⟩ => ⟨S32x2048x512, .f32⟩
  | .hbm, ⟨67, _⟩ => ⟨S32x2048x512, .f32⟩
  | .hbm, ⟨68, _⟩ => ⟨S_, .f32⟩
  | .hbm, ⟨69, _⟩ => ⟨S32x2048x512, .f32⟩
  | .hbm, ⟨70, _⟩ => ⟨S32x2048x512, .f32⟩
  | .hbm, ⟨71, _⟩ => ⟨S32x2048x512, .f32⟩
  | .hbm, ⟨72, _⟩ => ⟨S32x2048x512, .f32⟩
  | .hbm, ⟨73, _⟩ => ⟨S32x2048x2048, .f32⟩
  | .hbm, ⟨74, _⟩ => ⟨S2048x1024, .f32⟩
  | .hbm, ⟨75, _⟩ => ⟨S32x2048x1024, .f32⟩
  | .hbm, ⟨76, _⟩ => ⟨S32x2048x1024, .f32⟩
  | .hbm, ⟨77, _⟩ => ⟨S32x2048x1024, .f32⟩
  | .hbm, ⟨78, _⟩ => ⟨S_, .f32⟩
  | .hbm, ⟨79, _⟩ => ⟨S32x2048, .f32⟩
  | .hbm, ⟨80, _⟩ => ⟨S32x2048x1, .f32⟩
  | .hbm, ⟨81, _⟩ => ⟨S_, .f32⟩
  | .hbm, ⟨82, _⟩ => ⟨S32x2048x1, .f32⟩
  | .hbm, ⟨83, _⟩ => ⟨S32x2048x1, .f32⟩
  | .hbm, ⟨84, _⟩ => ⟨S_, .f32⟩
  | .hbm, ⟨85, _⟩ => ⟨S32x2048x1, .f32⟩
  | .hbm, ⟨86, _⟩ => ⟨S32x2048x1, .f32⟩
  | .hbm, ⟨87, _⟩ => ⟨S32x2048x1, .f32⟩
  | .hbm, ⟨88, _⟩ => ⟨S32x2048x1024, .f32⟩
  | .hbm, ⟨89, _⟩ => ⟨S32x2048x1024, .f32⟩
  | .hbm, ⟨90, _⟩ => ⟨S1x1x1024, .f32⟩
  | .hbm, ⟨91, _⟩ => ⟨S32x2048x1024, .f32⟩
  | .hbm, ⟨92, _⟩ => ⟨S32x2048x1024, .f32⟩
  | .hbm, ⟨93, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== In.lean ====
abbrev S32x2048x1024 : Shape := ⟨3, ![32, 2048, 1024]⟩
abbrev S1x1024 : Shape := ⟨2, ![1, 1024]⟩
abbrev S1x1024x6144 : Shape := ⟨3, ![1, 1024, 6144]⟩
abbrev S65536x1024 : Shape := ⟨2, ![65536, 1024]⟩
abbrev S1024 : Shape := ⟨1, ![1024]⟩
abbrev S1024x6144 : Shape := ⟨2, ![1024, 6144]⟩
abbrev S65536x3072 : Shape := ⟨2, ![65536, 3072]⟩
abbrev S32x4x2048x128 : Shape := ⟨4, ![32, 4, 2048, 128]⟩
abbrev S512x1024 : Shape := ⟨2, ![512, 1024]⟩
abbrev S512x3072 : Shape := ⟨2, ![512, 3072]⟩
abbrev S1x4x512x128 : Shape := ⟨4, ![1, 4, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x1x512x128 : Shape := ⟨4, ![1, 1, 512, 128]⟩

abbrev nBuf : Space → Nat
  | .hbm => 14
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S65536x1024, .f32⟩
  | .hbm, ⟨4, _⟩ => ⟨S1024, .f32⟩
  | .hbm, ⟨5, _⟩ => ⟨S1x1024, .f32⟩
  | .hbm, ⟨6, _⟩ => ⟨S1024x6144, .f32⟩
  | .hbm, ⟨7, _⟩ => ⟨S1024x6144, .bf16⟩
  | .hbm, ⟨8, _⟩ => ⟨S65536x3072, .bf16⟩
  | .hbm, ⟨9, _⟩ => ⟨S32x4x2048x128, .bf16⟩
  | .hbm, ⟨10, _⟩ => ⟨S32x4x2048x128, .bf16⟩
  | .hbm, ⟨11, _⟩ => ⟨S32x4x2048x128, .bf16⟩
  | .hbm, ⟨12, _⟩ => ⟨S32x4x2048x128, .bf16⟩
  | .hbm, ⟨13, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x3072, .bf16⟩
  | .local _ .vmem, ⟨5, _⟩ => ⟨S512x3072, .bf16⟩
  | .local _ .vmem, ⟨6, _⟩ => ⟨S1x4x512x128, .bf16⟩
  | .local _ .vmem, ⟨7, _⟩ => ⟨S1x4x512x128, .bf16⟩
  | .local _ .vmem, ⟨8, _⟩ => ⟨S1x4x512x128, .bf16⟩
  | .local _ .vmem, ⟨9, _⟩ => ⟨S1x4x512x128, .bf16⟩
  | .local _ .vmem, ⟨10, _⟩ => ⟨S1x4x512x128, .bf16⟩
  | .local _ .vmem, ⟨11, _⟩ => ⟨S1x4x512x128, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRefIdeal.lean ====
abbrev S32x2048x1024 : Shape := ⟨3, ![32, 2048, 1024]⟩
abbrev S1x1024 : Shape := ⟨2, ![1, 1024]⟩
abbrev S1x1024x6144 : Shape := ⟨3, ![1, 1024, 6144]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x6144 : Shape := ⟨2, ![1024, 6144]⟩
abbrev S32x2048x6144 : Shape := ⟨3, ![32, 2048, 6144]⟩
abbrev S32x2048x3072 : Shape := ⟨3, ![32, 2048, 3072]⟩
abbrev S32x2048x2048 : Shape := ⟨3, ![32, 2048, 2048]⟩
abbrev S32x2048x512 : Shape := ⟨3, ![32, 2048, 512]⟩
abbrev S65536x3072 : Shape := ⟨2, ![65536, 3072]⟩
abbrev S32x2048x4x128 : Shape := ⟨4, ![32, 2048, 4, 128]⟩
abbrev S32x4x2048x128 : Shape := ⟨4, ![32, 4, 2048, 128]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S1024x6144, .f32⟩
  | .hbm, ⟨21, _⟩ => ⟨S32x2048x6144, .f32⟩
  | .hbm, ⟨22, _⟩ => ⟨S32x2048x3072, .f32⟩
  | .hbm, ⟨23, _⟩ => ⟨S32x2048x2048, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S32x2048x1024, .f32⟩
  | .hbm, ⟨29, _⟩ => ⟨S65536x3072, .f32⟩
  | .hbm, ⟨30, _⟩ => ⟨S65536x3072, .bf16⟩
  | .hbm, ⟨31, _⟩ => ⟨S32x2048x4x128, .f32⟩
  | .hbm, ⟨32, _⟩ => ⟨S32x4x2048x128, .f32⟩
  | .hbm, ⟨33, _⟩ => ⟨S32x4x2048x128, .bf16⟩
  | .hbm, ⟨34, _⟩ => ⟨S32x2048x4x128, .f32⟩
  | .hbm, ⟨35, _⟩ => ⟨S32x4x2048x128, .f32⟩
  | .hbm, ⟨36, _⟩ => ⟨S32x4x2048x128, .bf16⟩
  | .hbm, ⟨37, _⟩ => ⟨S32x2048x4x128, .f32⟩
  | .hbm, ⟨38, _⟩ => ⟨S32x4x2048x128, .f32⟩
  | .hbm, ⟨39, _⟩ => ⟨S32x4x2048x128, .bf16⟩
  | .hbm, ⟨40, _⟩ => ⟨S32x2048x4x128, .f32⟩
  | .hbm, ⟨41, _⟩ => ⟨S32x4x2048x128, .f32⟩
  | .hbm, ⟨42, _⟩ => ⟨S32x4x2048x128, .bf16⟩
  | .hbm, ⟨43, _⟩ => ⟨S65536x1024, .f32⟩
  | .hbm, ⟨44, _⟩ => ⟨S65536x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Mlstm.lean ====
abbrev S65536x3072 : Shape := ⟨2, ![65536, 3072]⟩
abbrev S1x4x1024 : Shape := ⟨3, ![1, 4, 1024]⟩
abbrev S1x1024 : Shape := ⟨2, ![1, 1024]⟩
abbrev S1x256x4x4 : Shape := ⟨4, ![1, 256, 4, 4]⟩
abbrev S1x3072x8 : Shape := ⟨3, ![1, 3072, 8]⟩
abbrev S1x8 : Shape := ⟨2, ![1, 8]⟩
abbrev S3072x8 : Shape := ⟨2, ![3072, 8]⟩
abbrev S_ : Shape := ⟨0, ![]⟩
abbrev S3072x128 : Shape := ⟨2, ![3072, 128]⟩
abbrev S8 : Shape := ⟨1, ![8]⟩
abbrev S128 : Shape := ⟨1, ![128]⟩
abbrev S1x128 : Shape := ⟨2, ![1, 128]⟩
abbrev S4x1024 : Shape := ⟨2, ![4, 1024]⟩
abbrev S1024 : Shape := ⟨1, ![1024]⟩
abbrev S256x4x4 : Shape := ⟨3, ![256, 4, 4]⟩
abbrev S4x64x4x4 : Shape := ⟨4, ![4, 64, 4, 4]⟩
abbrev S64x64 : Shape := ⟨2, ![64, 64]⟩
abbrev S4x64x4x1x4 : Shape := ⟨5, ![4, 64, 4, 1, 4]⟩
abbrev S1x64x1x64x1 : Shape := ⟨5, ![1, 64, 1, 64, 1]⟩
abbrev S4x64x4x64x4 : Shape := ⟨5, ![4, 64, 4, 64, 4]⟩
abbrev S4x256x256 : Shape := ⟨3, ![4, 256, 256]⟩
abbrev S65536x1024 : Shape := ⟨2, ![65536, 1024]⟩
abbrev S256x1024 : Shape := ⟨2, ![256, 1024]⟩
abbrev S264x1024 : Shape := ⟨2, ![264, 1024]⟩
abbrev S4x8x256 : Shape := ⟨3, ![4, 8, 256]⟩
abbrev S4x8x128 : Shape := ⟨3, ![4, 8, 128]⟩
abbrev S8x1024 : Shape := ⟨2, ![8, 1024]⟩
abbrev S256x256 : Shape := ⟨2, ![256, 256]⟩
abbrev S1x256x256 : Shape := ⟨3, ![1, 256, 256]⟩
abbrev S256x3072 : Shape := ⟨2, ![256, 3072]⟩
abbrev S256x128 : Shape := ⟨2, ![256, 128]⟩
abbrev S128x256 : Shape := ⟨2, ![128, 256]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S1x1x256 : Shape := ⟨3, ![1, 1, 256]⟩
abbrev S256 : Shape := ⟨1, ![256]⟩
abbrev S1 : Shape := ⟨1, ![1]⟩
abbrev S8x128 : Shape := ⟨2, ![8, 128]⟩
abbrev S1x8x128 : Shape := ⟨3, ![1, 8, 128]⟩

abbrev nBuf : Space → Nat
  | .hbm => 76
  | .vmem => 21
  | .smem => 0
  | _ => 0

abbrev bufTy : (tb : Table) → Fin (tcTables nBuf tb) → BufTy
  | .hbm, ⟨0, _⟩ => ⟨S65536x3072, .bf16⟩
  | .hbm, ⟨1, _⟩ => ⟨S1x4x1024, .f32⟩
  | .hbm, ⟨2, _⟩ => ⟨S1x1024, .f32⟩
  | .hbm, ⟨3, _⟩ => ⟨S1x256x4x4, .f32⟩
  | .hbm, ⟨4, _⟩ => ⟨S1x256x4x4, .f32⟩
  | .hbm, ⟨5, _⟩ => ⟨S1x256x4x4, .f32⟩
  | .hbm, ⟨6, _⟩ => ⟨S1x3072x8, .f32⟩
  | .hbm, ⟨7, _⟩ => ⟨S1x8, .f32⟩
  | .hbm, ⟨8, _⟩ => ⟨S1x1024, .f32⟩
  | .hbm, ⟨9, _⟩ => ⟨S1x1024, .f32⟩
  | .hbm, ⟨10, _⟩ => ⟨S3072x8, .f32⟩
  | .hbm, ⟨11, _⟩ => ⟨S_, .i32⟩
  | .hbm, ⟨12, _⟩ => ⟨S_, .f32⟩
  | .hbm, ⟨13, _⟩ => ⟨S3072x128, .f32⟩
  | .hbm, ⟨14, _⟩ => ⟨S3072x128, .bf16⟩
  | .hbm, ⟨15, _⟩ => ⟨S8, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S4x1024, .f32⟩
  | .hbm, ⟨21, _⟩ => ⟨S1024, .f32⟩
  | .hbm, ⟨22, _⟩ => ⟨S1x1024, .f32⟩
  | .hbm, ⟨23, _⟩ => ⟨S256x4x4, .f32⟩
  | .hbm, ⟨24, _⟩ => ⟨S4x64x4x4, .f32⟩
  | .hbm, ⟨25, _⟩ => ⟨S64x64, .i32⟩
  | .hbm, ⟨26, _⟩ => ⟨S64x64, .i32⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x64, .f32⟩
  | .hbm, ⟨32, _⟩ => ⟨S4x64x4x1x4, .f32⟩
  | .hbm, ⟨33, _⟩ => ⟨S1x64x1x64x1, .f32⟩
  | .hbm, ⟨34, _⟩ => ⟨S4x64x4x64x4, .f32⟩
  | .hbm, ⟨35, _⟩ => ⟨S4x64x4x64x4, .f32⟩
  | .hbm, ⟨36, _⟩ => ⟨S4x64x4x64x4, .f32⟩
  | .hbm, ⟨37, _⟩ => ⟨S4x256x256, .f32⟩
  | .hbm, ⟨38, _⟩ => ⟨S4x256x256, .bf16⟩
  | .hbm, ⟨39, _⟩ => ⟨S256x4x4, .f32⟩
  | .hbm, ⟨40, _⟩ => ⟨S4x64x4x4, .f32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S64x64, .f32⟩
  | .hbm, ⟨48, _⟩ => ⟨S4x64x4x1x4, .f32⟩
  | .hbm, ⟨49, _⟩ => ⟨S1x64x1x64x1, .f32⟩
  | .hbm, ⟨50, _⟩ => ⟨S4x64x4x64x4, .f32⟩
  | .hbm, ⟨51, _⟩ => ⟨S4x64x4x64x4, .f32⟩
  | .hbm, ⟨52, _⟩ => ⟨S4x64x4x64x4, .f32⟩
  | .hbm, ⟨53, _⟩ => ⟨S4x256x256, .f32⟩
  | .hbm, ⟨54, _⟩ => ⟨S4x256x256, .bf16⟩
  | .hbm, ⟨55, _⟩ => ⟨S256x4x4, .f32⟩
  | .hbm, ⟨56, _⟩ => ⟨S4x64x4x4, .f32⟩
  | .hbm, ⟨57, _⟩ => ⟨S64x64, .i32⟩
  | .hbm, ⟨58, _⟩ => ⟨S64x64, .i32⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S64x64, .i1⟩
  | .hbm, ⟨63, _⟩ => ⟨S64x64, .f32⟩
  | .hbm, ⟨64, _⟩ => ⟨S4x64x4x1x4, .f32⟩
  | .hbm, ⟨65, _⟩ => ⟨S1x64x1x64x1, .f32⟩
  | .hbm, ⟨66, _⟩ => ⟨S4x64x4x64x4, .f32⟩
  | .hbm, ⟨67, _⟩ => ⟨S4x64x4x64x4, .f32⟩
  | .hbm, ⟨68, _⟩ => ⟨S4x64x4x64x4, .f32⟩
  | .hbm, ⟨69, _⟩ => ⟨S4x256x256, .f32⟩
  | .hbm, ⟨70, _⟩ => ⟨S4x256x256, .bf16⟩
  | .hbm, ⟨71, _⟩ => ⟨S1024, .f32⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S65536x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4x1024, .f32⟩
  | .local _ .vmem, ⟨7, _⟩ => ⟨S1x1024, .f32⟩
  | .local _ .vmem, ⟨8, _⟩ => ⟨S4x256x256, .bf16⟩
  | .local _ .vmem, ⟨9, _⟩ => ⟨S4x256x256, .bf16⟩
  | .local _ .vmem, ⟨10, _⟩ => ⟨S4x256x256, .bf16⟩
  | .local _ .vmem, ⟨11, _⟩ => ⟨S3072x128, .bf16⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S264x1024, .f32⟩
  | .local _ .vmem, ⟨18, _⟩ => ⟨S4x256x256, .f32⟩
  | .local _ .vmem, ⟨19, _⟩ => ⟨S4x8x256, .f32⟩
  | .local _ .vmem, ⟨20, _⟩ => ⟨S4x8x128, .f32⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3072x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MlstmIdeal.lean ====
variable {F : FTy → Type} [FloatOps F] [Named F]
def κ : String → Option EReal := fun
  | "mask" => some ⊥
  | _ => none
-- ==== MlstmRefIdeal.lean ====
abbrev S65536x3072 : Shape := ⟨2, ![65536, 3072]⟩
abbrev S1x4x1024 : Shape := ⟨3, ![1, 4, 1024]⟩
abbrev S1x1024 : Shape := ⟨2, ![1, 1024]⟩
abbrev S1x256x4x4 : Shape := ⟨4, ![1, 256, 4, 4]⟩
abbrev S1x3072x8 : Shape := ⟨3, ![1, 3072, 8]⟩
abbrev S1x8 : Shape := ⟨2, ![1, 8]⟩
abbrev S32x2048x3072 : Shape := ⟨3, ![32, 2048, 3072]⟩
abbrev S32x2048x1024 : Shape := ⟨3, ![32, 2048, 1024]⟩
abbrev S4x1024 : Shape := ⟨2, ![4, 1024]⟩
abbrev S1024 : Shape := ⟨1, ![1024]⟩
abbrev S_ : Shape := ⟨0, ![]⟩
abbrev S32x2051x1024 : Shape := ⟨3, ![32, 2051, 1024]⟩
abbrev S1x1x1024 : Shape := ⟨3, ![1, 1, 1024]⟩
abbrev S256x4x4 : Shape := ⟨3, ![256, 4, 4]⟩
abbrev S32x2048x256x4 : Shape := ⟨4, ![32, 2048, 256, 4]⟩
abbrev S256x4x32x2048 : Shape := ⟨4, ![256, 4, 32, 2048]⟩
abbrev S3072x8 : Shape := ⟨2, ![3072, 8]⟩
abbrev S32x2048x8 : Shape := ⟨3, ![32, 2048, 8]⟩
abbrev S8 : Shape := ⟨1, ![8]⟩
abbrev S1x1x8 : Shape := ⟨3, ![1, 1, 8]⟩
abbrev S32x2048x4 : Shape := ⟨3, ![32, 2048, 4]⟩
abbrev S32x2048x4x256 : Shape := ⟨4, ![32, 2048, 4, 256]⟩
abbrev S32x4x2048x256 : Shape := ⟨4, ![32, 4, 2048, 256]⟩
abbrev S32x4x2048 : Shape := ⟨3, ![32, 4, 2048]⟩
abbrev S2048x2048 : Shape := ⟨2, ![2048, 2048]⟩
abbrev S32x4x2048x1 : Shape := ⟨4, ![32, 4, 2048, 1]⟩
abbrev S32x4x1x2048 : Shape := ⟨4, ![32, 4, 1, 2048]⟩
abbrev S32x4x2048x2048 : Shape := ⟨4, ![32, 4, 2048, 2048]⟩
abbrev S32x2048x4x1 : Shape := ⟨4, ![32, 2048, 4, 1]⟩
abbrev S65536x1024 : Shape := ⟨2, ![65536, 1024]⟩

abbrev nBuf : Space → Nat
  | .hbm => 215
  | .vmem => 0
  | .smem => 0
  | _ => 0

abbrev hbmTy0_0 (i : Nat) : BufTy := match i % 128 with
  | 0 => ⟨S65536x3072, .bf16⟩
  | 1 => ⟨S1x4x1024, .f32⟩
  | 2 => ⟨S1x1024, .f32⟩
  | 3 => ⟨S1x256x4x4, .f32⟩
  | 4 => ⟨S1x256x4x4, .f32⟩
  | 5 => ⟨S1x256x4x4, .f32⟩
  | 6 => ⟨S1x3072x8, .f32⟩
  | 7 => ⟨S1x8, .f32⟩
  | 8 => ⟨S1x1024, .f32⟩
  | 9 => ⟨S1x1024, .f32⟩
  | 10 => ⟨S65536x3072, .f32⟩
  | 11 => ⟨S32x2048x3072, .f32⟩
  | 12 => ⟨S32x2048x1024, .f32⟩
  | 13 => ⟨S32x2048x1024, .f32⟩
  | 14 => ⟨S32x2048x1024, .f32⟩
  | 15 => ⟨S4x1024, .f32⟩
  | 16 => ⟨S1024, .f32⟩
  | 17 => ⟨S_, .i32⟩
  | 18 => ⟨S_, .f32⟩
  | 19 => ⟨S32x2051x1024, .f32⟩
  | 20 => ⟨S32x2048x1024, .f32⟩
  | 21 => ⟨S1x1024, .f32⟩
  | 22 => ⟨S1024, .f32⟩
  | 23 => ⟨S1x1x1024, .f32⟩
  | 24 => ⟨S32x2048x1024, .f32⟩
  | 25 => ⟨S32x2048x1024, .f32⟩
  | 26 => ⟨S_, .f32⟩
  | 27 => ⟨S32x2048x1024, .f32⟩
  | 28 => ⟨S32x2048x1024, .f32⟩
  | 29 => ⟨S32x2048x1024, .f32⟩
  | 30 => ⟨S1x1024, .f32⟩
  | 31 => ⟨S1024, .f32⟩
  | 32 => ⟨S1x1x1024, .f32⟩
  | 33 => ⟨S32x2048x1024, .f32⟩
  | 34 => ⟨S32x2048x1024, .f32⟩
  | 35 => ⟨S32x2048x1024, .f32⟩
  | 36 => ⟨S32x2048x1024, .f32⟩
  | 37 => ⟨S1x1024, .f32⟩
  | 38 => ⟨S1024, .f32⟩
  | 39 => ⟨S1x1x1024, .f32⟩
  | 40 => ⟨S32x2048x1024, .f32⟩
  | 41 => ⟨S32x2048x1024, .f32⟩
  | 42 => ⟨S32x2048x1024, .f32⟩
  | 43 => ⟨S32x2048x1024, .f32⟩
  | 44 => ⟨S1x1024, .f32⟩
  | 45 => ⟨S1024, .f32⟩
  | 46 => ⟨S1x1x1024, .f32⟩
  | 47 => ⟨S32x2048x1024, .f32⟩
  | 48 => ⟨S32x2048x1024, .f32⟩
  | 49 => ⟨S32x2048x1024, .f32⟩
  | 50 => ⟨S1x1x1024, .f32⟩
  | 51 => ⟨S32x2048x1024, .f32⟩
  | 52 => ⟨S32x2048x1024, .f32⟩
  | 53 => ⟨S32x2048x1024, .f32⟩
  | 54 => ⟨S32x2048x1024, .f32⟩
  | 55 => ⟨S_, .f32⟩
  | 56 => ⟨S32x2048x1024, .f32⟩
  | 57 => ⟨S32x2048x1024, .f32⟩
  | 58 => ⟨S_, .f32⟩
  | 59 => ⟨S32x2048x1024, .f32⟩
  | 60 => ⟨S32x2048x1024, .f32⟩
  | 61 => ⟨S32x2048x1024, .f32⟩
  | 62 => ⟨S256x4x4, .f32⟩
  | 63 => ⟨S32x2048x256x4, .f32⟩
  | 64 => ⟨S256x4x32x2048, .f32⟩
  | 65 => ⟨S32x2048x256x4, .f32⟩
  | 66 => ⟨S32x2048x1024, .f32⟩
  | 67 => ⟨S256x4x4, .f32⟩
  | 68 => ⟨S32x2048x256x4, .f32⟩
  | 69 => ⟨S256x4x32x2048, .f32⟩
  | 70 => ⟨S32x2048x256x4, .f32⟩
  | 71 => ⟨S32x2048x1024, .f32⟩
  | 72 => ⟨S256x4x4, .f32⟩
  | 73 => ⟨S32x2048x256x4, .f32⟩
  | 74 => ⟨S256x4x32x2048, .f32⟩
  | 75 => ⟨S32x2048x256x4, .f32⟩
  | 76 => ⟨S32x2048x1024, .f32⟩
  | 77 => ⟨S32x2048x3072, .f32⟩
  | 78 => ⟨S3072x8, .f32⟩
  | 79 => ⟨S32x2048x8, .f32⟩
  | 80 => ⟨S8, .f32⟩
  | 81 => ⟨S1x1x8, .f32⟩
  | 82 => ⟨S32x2048x8, .f32⟩
  | 83 => ⟨S32x2048x8, .f32⟩
  | 84 => ⟨S32x2048x4, .f32⟩
  | 85 => ⟨S32x2048x4, .f32⟩
  | 86 => ⟨S32x2048x4x256, .f32⟩
  | 87 => ⟨S32x2048x4x256, .f32⟩
  | 88 => ⟨S_, .f32⟩
  | 89 => ⟨S32x2048x4x256, .f32⟩
  | 90 => ⟨S32x2048x4x256, .f32⟩
  | 91 => ⟨S32x2048x4x256, .f32⟩
  | 92 => ⟨S32x4x2048x256, .f32⟩
  | 93 => ⟨S32x4x2048x256, .f32⟩
  | 94 => ⟨S32x4x2048x256, .f32⟩
  | 95 => ⟨S32x4x2048, .f32⟩
  | 96 => ⟨S32x4x2048, .f32⟩
  | 97 => ⟨S32x4x2048, .f32⟩
  | 98 => ⟨S_, .f32⟩
  | 99 => ⟨S32x4x2048, .f32⟩
  | 100 => ⟨S32x4x2048, .f32⟩
  | 101 => ⟨S32x4x2048, .f32⟩
  | 102 => ⟨S32x4x2048, .f32⟩
  | 103 => ⟨S32x4x2048, .i1⟩
  | 104 => ⟨S32x4x2048, .f32⟩
  | 105 => ⟨S32x4x2048, .f32⟩
  | 106 => ⟨S32x4x2048, .f32⟩
  | 107 => ⟨S32x4x2048, .f32⟩
  | 108 => ⟨S32x4x2048, .f32⟩
  | 109 => ⟨S32x4x2048, .f32⟩
  | 110 => ⟨S32x4x2048, .f32⟩
  | 111 => ⟨S32x4x2048, .f32⟩
  | 112 => ⟨S32x4x2048, .f32⟩
  | 113 => ⟨S_, .i1⟩
  | 114 => ⟨S2048x2048, .i1⟩
  | 115 => ⟨S2048x2048, .i32⟩
  | 116 => ⟨S_, .i32⟩
  | 117 => ⟨S2048x2048, .i32⟩
  | 118 => ⟨S2048x2048, .i32⟩
  | 119 => ⟨S2048x2048, .i32⟩
  | 120 => ⟨S2048x2048, .i1⟩
  | 121 => ⟨S_, .i1⟩
  | 122 => ⟨S2048x2048, .i1⟩
  | 123 => ⟨S2048x2048, .i1⟩
  | 124 => ⟨S_, .f32⟩
  | 125 => ⟨S_, .f32⟩
  | 126 => ⟨S32x4x2048, .f32⟩
  | 127 => ⟨S32x4x2048x1, .f32⟩
  | _ => ⟨S65536x3072, .bf16⟩

abbrev hbmTy0_1 (i : Nat) : BufTy := match i % 128 with
  | 0 => ⟨S32x4x1x2048, .f32⟩
  | 1 => ⟨S32x4x2048x2048, .f32⟩
  | 2 => ⟨S32x4x2048x2048, .f32⟩
  | 3 => ⟨S32x4x2048x2048, .f32⟩
  | 4 => ⟨S32x4x1x2048, .f32⟩
  | 5 => ⟨S32x4x2048x2048, .f32⟩
  | 6 => ⟨S32x4x2048x2048, .f32⟩
  | 7 => ⟨S_, .f32⟩
  | 8 => ⟨S_, .f32⟩
  | 9 => ⟨S32x4x2048x2048, .i1⟩
  | 10 => ⟨S32x4x2048x2048, .f32⟩
  | 11 => ⟨S32x4x2048x2048, .f32⟩
  | 12 => ⟨S_, .f32⟩
  | 13 => ⟨S32x4x2048, .f32⟩
  | 14 => ⟨S32x4x2048, .f32⟩
  | 15 => ⟨S32x4x2048x1, .f32⟩
  | 16 => ⟨S32x4x2048x2048, .f32⟩
  | 17 => ⟨S32x4x2048x2048, .f32⟩
  | 18 => ⟨S32x4x2048x2048, .f32⟩
  | 19 => ⟨S32x4x2048x2048, .f32⟩
  | 20 => ⟨S32x4x2048x2048, .f32⟩
  | 21 => ⟨S32x4x2048x256, .f32⟩
  | 22 => ⟨S_, .f32⟩
  | 23 => ⟨S32x4x2048, .f32⟩
  | 24 => ⟨S32x4x2048, .f32⟩
  | 25 => ⟨S32x4x2048, .f32⟩
  | 26 => ⟨S32x4x2048, .f32⟩
  | 27 => ⟨S32x4x2048, .f32⟩
  | 28 => ⟨S32x4x2048x1, .f32⟩
  | 29 => ⟨S32x4x2048x256, .f32⟩
  | 30 => ⟨S32x4x2048x256, .f32⟩
  | 31 => ⟨S32x2048x4x256, .f32⟩
  | 32 => ⟨S32x2048x4x256, .f32⟩
  | 33 => ⟨S32x2048x4x256, .f32⟩
  | 34 => ⟨S32x2048x4x256, .f32⟩
  | 35 => ⟨S_, .f32⟩
  | 36 => ⟨S32x2048x4x256, .f32⟩
  | 37 => ⟨S32x2048x4x256, .f32⟩
  | 38 => ⟨S_, .f32⟩
  | 39 => ⟨S32x2048x4x256, .f32⟩
  | 40 => ⟨S32x2048x4x256, .f32⟩
  | 41 => ⟨S32x2048x4x256, .f32⟩
  | 42 => ⟨S1024, .f32⟩
  | 43 => ⟨S_, .f32⟩
  | 44 => ⟨S32x2048x4, .f32⟩
  | 45 => ⟨S32x2048x4x1, .f32⟩
  | 46 => ⟨S_, .f32⟩
  | 47 => ⟨S32x2048x4x1, .f32⟩
  | 48 => ⟨S32x2048x4x1, .f32⟩
  | 49 => ⟨S32x2048x4x256, .f32⟩
  | 50 => ⟨S32x2048x4x256, .f32⟩
  | 51 => ⟨S32x2048x4x256, .f32⟩
  | 52 => ⟨S_, .f32⟩
  | 53 => ⟨S32x2048x4, .f32⟩
  | 54 => ⟨S32x2048x4x1, .f32⟩
  | 55 => ⟨S_, .f32⟩
  | 56 => ⟨S32x2048x4x1, .f32⟩
  | 57 => ⟨S32x2048x4x1, .f32⟩
  | 58 => ⟨S32x2048x4x256, .f32⟩
  | 59 => ⟨S32x2048x4x256, .f32⟩
  | 60 => ⟨S_, .f32⟩
  | 61 => ⟨S32x2048x4x1, .f32⟩
  | 62 => ⟨S32x2048x4x1, .f32⟩
  | 63 => ⟨S32x2048x4x1, .f32⟩
  | 64 => ⟨S32x2048x4x256, .f32⟩
  | 65 => ⟨S32x2048x4x256, .f32⟩
  | 66 => ⟨S32x2048x1024, .f32⟩
  | 67 => ⟨S1x1x1024, .f32⟩
  | 68 => ⟨S32x2048x1024, .f32⟩
  | 69 => ⟨S32x2048x1024, .f32⟩
  | 70 => ⟨S1024, .f32⟩
  | 71 => ⟨S1x1x1024, .f32⟩
  | 72 => ⟨S32x2048x1024, .f32⟩
  | 73 => ⟨S32x2048x1024, .f32⟩
  | 74 => ⟨S32x2048x1024, .f32⟩
  | 75 => ⟨S32x2048x1024, .f32⟩
  | 76 => ⟨S32x2048x1024, .f32⟩
  | 77 => ⟨S_, .f32⟩
  | 78 => ⟨S32x2048x1024, .f32⟩
  | 79 => ⟨S32x2048x1024, .f32⟩
  | 80 => ⟨S_, .f32⟩
  | 81 => ⟨S32x2048x1024, .f32⟩
  | 82 => ⟨S32x2048x1024, .f32⟩
  | 83 => ⟨S32x2048x1024, .f32⟩
  | 84 => ⟨S32x2048x1024, .f32⟩
  | 85 => ⟨S65536x1024, .f32⟩
  | 86 => ⟨S65536x1024, .bf16⟩
  | _ => ⟨S65536x3072, .bf16⟩

abbrev hbmTy (i : Nat) : BufTy := match i / 128 with
  | 0 => hbmTy0_0 i
  | 1 => hbmTy0_1 i
  | _ => ⟨S65536x3072, .bf16⟩

abbrev bufTy : (tb : Table) → Fin (tcTables nBuf tb) → BufTy
  | .hbm, ⟨i, _⟩ => hbmTy i
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call2_v0 : Ref sig .tc := ⟨.hbm, 97, rfl⟩
abbrev main_call2_call0_cst : Ref sig .tc := ⟨.hbm, 98, rfl⟩
abbrev main_call2_call0_v0 : Ref sig .tc := ⟨.hbm, 99, rfl⟩
abbrev main_call2_call0_v1 : Ref sig .tc := ⟨.hbm, 100, rfl⟩
abbrev main_call2_call0_v2 : Ref sig .tc := ⟨.hbm, 101, rfl⟩
abbrev main_call2_call0_v3 : Ref sig .tc := ⟨.hbm, 102, rfl⟩
abbrev main_call2_call0_v4 : Ref sig .tc := ⟨.hbm, 103, rfl⟩
abbrev main_call2_call0_v5 : Ref sig .tc := ⟨.hbm, 104, rfl⟩
abbrev main_call2_call0_v6 : Ref sig .tc := ⟨.hbm, 105, rfl⟩
abbrev main_call2_call0_v7 : Ref sig .tc := ⟨.hbm, 106, rfl⟩
abbrev main_call2_call0_v8 : Ref sig .tc := ⟨.hbm, 107, rfl⟩
abbrev main_call2_call0_v9 : Ref sig .tc := ⟨.hbm, 108, rfl⟩
abbrev main_call2_call0_v10 : Ref sig .tc := ⟨.hbm, 109, rfl⟩
abbrev main_call2_call0_v11 : Ref sig .tc := ⟨.hbm, 110, rfl⟩
abbrev main_call2_v1 : Ref sig .tc := ⟨.hbm, 111, rfl⟩
abbrev main_v75 : Ref sig .tc := ⟨.hbm, 112, rfl⟩
abbrev main_c_1 : Ref sig .tc := ⟨.hbm, 113, rfl⟩
abbrev main_v76 : Ref sig .tc := ⟨.hbm, 114, rfl⟩
abbrev main_call3_v0 : Ref sig .tc := ⟨.hbm, 115, rfl⟩
abbrev main_call3_c : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_c_0 : Ref sig .tc := ⟨.hbm, 121, rfl⟩
abbrev main_call3_v5 : Ref sig .tc := ⟨.hbm, 122, rfl⟩
abbrev main_v77 : Ref sig .tc := ⟨.hbm, 123, rfl⟩
abbrev main_call4_call0_cst : Ref sig .tc := ⟨.hbm, 124, rfl⟩
abbrev main_call4_call0_v0 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_2 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v87 : Ref sig .tc := ⟨.hbm, 139, rfl⟩
abbrev main_cst_3 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_4 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_5 : Ref sig .tc := ⟨.hbm, 163, rfl⟩
abbrev main_v109 : Ref sig .tc := ⟨.hbm, 164, rfl⟩
abbrev main_v110 : Ref sig .tc := ⟨.hbm, 165, rfl⟩
abbrev main_cst_6 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_7 : Ref sig .tc := ⟨.hbm, 171, rfl⟩
abbrev main_v115 : Ref sig .tc := ⟨.hbm, 172, rfl⟩
abbrev main_v116 : Ref sig .tc := ⟨.hbm, 173, rfl⟩
abbrev main_cst_8 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_9 : Ref sig .tc := ⟨.hbm, 180, rfl⟩
abbrev main_v122 : Ref sig .tc := ⟨.hbm, 181, rfl⟩
abbrev main_v123 : Ref sig .tc := ⟨.hbm, 182, rfl⟩
abbrev main_cst_10 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_11 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_call6_v0 : Ref sig .tc := ⟨.hbm, 203, rfl⟩
abbrev main_call6_v1 : Ref sig .tc := ⟨.hbm, 204, rfl⟩
abbrev main_call6_cst : Ref sig .tc := ⟨.hbm, 205, rfl⟩
abbrev main_call6_v2 : Ref sig .tc := ⟨.hbm, 206, rfl⟩
abbrev main_call6_v3 : Ref sig .tc := ⟨.hbm, 207, rfl⟩
abbrev main_call6_cst_0 : Ref sig .tc := ⟨.hbm, 208, rfl⟩
abbrev main_call6_v4 : Ref sig .tc := ⟨.hbm, 209, rfl⟩
abbrev main_call6_v5 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩

abbrev nD : Nat := 1
abbrev τ : Topo := Topo.v7x

variable {F : FTy → Type} [FloatOps F]
-- ==== Proof.InBlock.lean ====
/- What one grid point of the input projection leaves in its six output blocks, over the extended reals: every
   entry is the product of a normalised row of the point's `x` block with a column of the weight. -/
module

public import proofs.«01_k».proof.Defs
public import proofs.«01_k».proof.Proof.Gen.InIdeal.Value
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.InIdeal.Block

open Cert.InIdeal Cert.InIdeal.Gen

theorem hz : (![0, 0] : Fin 2 → Nat) = fun _ => 0 := funext fun a => by fin_cases a <;> rfl

/-- Entry (`r`, `n`) of one block's projection: row `r` of the block, divided by its root mean square and multiplied by
    the gain, times column `n` of the weight. -/
def proj (x : Vec Ideal S512x1024 .f32) (g : Vec Ideal S1x1024 .f32) (w : Vec Ideal S1024x6144 .bf16) (r : Fin 512)
    (n : Fin 6144) : EReal :=
  ∑ k : Fin 1024, (x (ix2 r k) * Ideal.rsqrt (Ideal.div (∑ j : Fin 1024, x (ix2 r j) * x (ix2 r j))
    (Ideal.ofBits .f32 1149239296#32) + Ideal.ofBits .f32 897988541#32) * g (ix2 0 k)) * w (ix2 k n)

theorem canon_of_ld {S : Shape} {e : EltTy} (G : Vec Ideal S e) (L : List (View.Piece (Elt Ideal) S e))
    (h : ∀ p ∈ L, ∀ x : p.1.shape.Idx, p.2 x = View.ld (Val := Elt Ideal) G p.1 x) (hc : ∀ y, ∃ p ∈ L, y ∈ p.1.set) :
    View.canon L = G :=
  funext fun y => View.canon_apply_of_pieces G L h y (hc y)

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole)
  (arg4 : Memref sig .tc .vmem S512x3072 .bf16) (harg4 : arg4.IsWhole) (arg5 : Memref sig .tc .vmem S1x4x512x128 .bf16) (harg5 : arg5.IsWhole) (arg6 : Memref sig .tc .vmem S1x4x512x128 .bf16) (harg6 : arg6.IsWhole)
  (arg7 : Memref sig .tc .vmem S1x4x512x128 .bf16) (harg7 : arg7.IsWhole) (arg8 : Memref sig .tc .vmem S1x4x512x128 .bf16) (harg8 : arg8.IsWhole) (arg9 : Memref sig .tc .vmem S512x1024 .bf16) (harg9 : arg9.IsWhole) (arg10 : Memref sig .tc .vmem S512x1024 .bf16) (harg10 : arg10.IsWhole)
  (x0 : Vec Ideal S512x1024 .f32) (x1 : Vec Ideal S1x1024 .f32) (x2 : Vec Ideal S1024x6144 .bf16)

/-- Output 3's block: columns `0` to `3071` of the projection. -/
abbrev blk3 : Vec Ideal S512x3072 .bf16 := fun y => proj x0 x1 x2 (y 0) ⟨0 + (y 1).val, by have := (y 1).isLt; dsimp only at this; simp at this; omega⟩

/-- Output 4's block: entry (0, `p`, `r`, `l`) is column `3072 + 128 p + l` of the projection's row `r`. -/
abbrev blk4 : Vec Ideal S1x4x512x128 .bf16 := fun y => proj x0 x1 x2 (y 2) ⟨3072 + 128 * (y 1).val + (y 3).val, by have := (y 1).isLt; have := (y 3).isLt; simp at *; omega⟩

/-- Output 5's block: entry (0, `p`, `r`, `l`) is column `3584 + 128 p + l` of the projection's row `r`. -/
abbrev blk5 : Vec Ideal S1x4x512x128 .bf16 := fun y => proj x0 x1 x2 (y 2) ⟨3584 + 128 * (y 1).val + (y 3).val, by have := (y 1).isLt; have := (y 3).isLt; simp at *; omega⟩

/-- Output 6's block: entry (0, `p`, `r`, `l`) is column `4096 + 128 p + l` of the projection's row `r`. -/
abbrev blk6 : Vec Ideal S1x4x512x128 .bf16 := fun y => proj x0 x1 x2 (y 2) ⟨4096 + 128 * (y 1).val + (y 3).val, by have := (y 1).isLt; have := (y 3).isLt; simp at *; omega⟩

/-- Output 7's block: entry (0, `p`, `r`, `l`) is column `4608 + 128 p + l` of the projection's row `r`. -/
abbrev blk7 : Vec Ideal S1x4x512x128 .bf16 := fun y => proj x0 x1 x2 (y 2) ⟨4608 + 128 * (y 1).val + (y 3).val, by have := (y 1).isLt; have := (y 3).isLt; simp at *; omega⟩

/-- Output 8's block: columns `5120` to `6143` of the projection. -/
abbrev blk8 : Vec Ideal S512x1024 .bf16 := fun y => proj x0 x1 x2 (y 0) ⟨5120 + (y 1).val, by have := (y 1).isLt; dsimp only at this; simp at this; omega⟩

/-- The body's pieces for the six outputs, put together, are the six blocks above. -/
theorem outs :
    out0_A_3 c i arg1 harg1 arg2 harg2 arg3 harg3 arg4 harg4 arg5 harg5 arg6 harg6 arg7 harg7 arg8 harg8 arg9 harg9 arg10 harg10 x0 x1 x2 = blk3 x0 x1 x2
    ∧ out0_A_4 c i arg1 harg1 arg2 harg2 arg3 harg3 arg4 harg4 arg5 harg5 arg6 harg6 arg7 harg7 arg8 harg8 arg9 harg9 arg10 harg10 x0 x1 x2 = blk4 x0 x1 x2
    ∧ out0_A_5 c i arg1 harg1 arg2 harg2 arg3 harg3 arg4 harg4 arg5 harg5 arg6 harg6 arg7 harg7 arg8 harg8 arg9 harg9 arg10 harg10 x0 x1 x2 = blk5 x0 x1 x2
    ∧ out0_A_6 c i arg1 harg1 arg2 harg2 arg3 harg3 arg4 harg4 arg5 harg5 arg6 harg6 arg7 harg7 arg8 harg8 arg9 harg9 arg10 harg10 x0 x1 x2 = blk6 x0 x1 x2
    ∧ out0_A_7 c i arg1 harg1 arg2 harg2 arg3 harg3 arg4 harg4 arg5 harg5 arg6 harg6 arg7 harg7 arg8 harg8 arg9 harg9 arg10 harg10 x0 x1 x2 = blk7 x0 x1 x2
    ∧ out0_A_8 c i arg1 harg1 arg2 harg2 arg3 harg3 arg4 harg4 arg5 harg5 arg6 harg6 arg7 harg7 arg8 harg8 arg9 harg9 arg10 harg10 x0 x1 x2 = blk8 x0 x1 x2 := by
  refine ⟨
    (View.read_writes_eq_canon _ _ _ (cover0_A_3 c i arg1 harg1 arg2 harg2 arg3 harg3 arg4 harg4 arg5 harg5 arg6 harg6 arg7 harg7 arg8 harg8 arg9 harg9 arg10 harg10 x0 x1 x2)).trans
      (canon_of_ld _ _ ?_ (cover0_A_3 c i arg1 harg1 arg2 harg2 arg3 harg3 arg4 harg4 arg5 harg5 arg6 harg6 arg7 harg7 arg8 harg8 arg9 harg9 arg10 harg10 x0 x1 x2)),
    (View.read_writes_eq_canon _ _ _ (cover0_A_4 c i arg1 harg1 arg2 harg2 arg3 harg3 arg4 harg4 arg5 harg5 arg6 harg6 arg7 harg7 arg8 harg8 arg9 harg9 arg10 harg10 x0 x1 x2)).trans
      (canon_of_ld _ _ ?_ (cover0_A_4 c i arg1 harg1 arg2 harg2 arg3 harg3 arg4 harg4 arg5 harg5 arg6 harg6 arg7 harg7 arg8 harg8 arg9 harg9 arg10 harg10 x0 x1 x2)),
    (View.read_writes_eq_canon _ _ _ (cover0_A_5 c i arg1 harg1 arg2 harg2 arg3 harg3 arg4 harg4 arg5 harg5 arg6 harg6 arg7 harg7 arg8 harg8 arg9 harg9 arg10 harg10 x0 x1 x2)).trans
      (canon_of_ld _ _ ?_ (cover0_A_5 c i arg1 harg1 arg2 harg2 arg3 harg3 arg4 harg4 arg5 harg5 arg6 harg6 arg7 harg7 arg8 harg8 arg9 harg9 arg10 harg10 x0 x1 x2)),
    (View.read_writes_eq_canon _ _ _ (cover0_A_6 c i arg1 harg1 arg2 harg2 arg3 harg3 arg4 harg4 arg5 harg5 arg6 harg6 arg7 harg7 arg8 harg8 arg9 harg9 arg10 harg10 x0 x1 x2)).trans
      (canon_of_ld _ _ ?_ (cover0_A_6 c i arg1 harg1 arg2 harg2 arg3 harg3 arg4 harg4 arg5 harg5 arg6 harg6 arg7 harg7 arg8 harg8 arg9 harg9 arg10 harg10 x0 x1 x2)),
    (View.read_writes_eq_canon _ _ _ (cover0_A_7 c i arg1 harg1 arg2 harg2 arg3 harg3 arg4 harg4 arg5 harg5 arg6 harg6 arg7 harg7 arg8 harg8 arg9 harg9 arg10 harg10 x0 x1 x2)).trans
      (canon_of_ld _ _ ?_ (cover0_A_7 c i arg1 harg1 arg2 harg2 arg3 harg3 arg4 harg4 arg5 harg5 arg6 harg6 arg7 harg7 arg8 harg8 arg9 harg9 arg10 harg10 x0 x1 x2)),
    (View.read_writes_eq_canon _ _ _ (cover0_A_8 c i arg1 harg1 arg2 harg2 arg3 harg3 arg4 harg4 arg5 harg5 arg6 harg6 arg7 harg7 arg8 harg8 arg9 harg9 arg10 harg10 x0 x1 x2)).trans
      (canon_of_ld _ _ ?_ (cover0_A_8 c i arg1 harg1 arg2 harg2 arg3 harg3 arg4 harg4 arg5 harg5 arg6 harg6 arg7 harg7 arg8 harg8 arg9 harg9 arg10 harg10 x0 x1 x2))⟩
  all_goals
    unfold kernelRun0_A
    dsimp only
    sl_unfold_words
    simp only [View.readAt_eq_ld, harg1.read_unread, harg2.read_unread, harg3.read_unread,
      View.ld_unit_zero (S := S512x1024) hz, View.ld_unit_zero (S := S1x1024) hz,
      View.readCov_unit_zero (S := S512x1024) _ hz]
    simp only [List.forall_mem_cons, List.not_mem_nil, false_imp_iff, implies_true, and_true]
    repeat' apply And.intro
  all_goals
    intro x
    (try dsimp only at x ⊢)
    idx_vars x
    unfold_payloads
    pointwise [proj, blk3, blk4, blk5, blk6, blk7, blk8]
    (try simp only [← Nat.add_assoc, Nat.reduceAdd])

end Cert.InIdeal.Block
end
-- ==== Proof.InValue.lean ====
/- The six arrays the input projection's run leaves, and the reference's, over the extended reals: both hold the
   normalised rows of `x` times the columns of the weight, each output its own range of columns. -/
module

public import proofs.«01_k».proof.Proof.InBlock
public import proofs.«01_k».proof.Proof.Gen.InRefIdeal.Run
public import Idealize.ShloMosaic.Lib.Pipeline.ValueKit
public import Idealize.ShloMosaic.Lib.Quiescent
public import proofs.«01_k».proof.Proof.Gen.In.Frame

@[expose] public section

set_option maxRecDepth 16384

noncomputable section

open Idealize.ShloMosaic Idealize.ShloMosaic.TcCoe Idealize.SL.Sem
open Idealize.ShloMosaic.Pipeline (Dat)

namespace Cert.InIdeal.Whole

open Cert.InIdeal Cert.InIdeal.Gen

variable (m : (ℓ : Loc nD τ sig) → Buf (Elt Ideal) ℓ) (ρ : Dev nD → PrngReg)

/-- Entry (`b`, `s`, `n`) of the projection: the row (`b`, `s`) of `x`, divided by its root mean square and multiplied by
    the gain, times column `n` of the weight. -/
def rowProj (x : FVec Ideal S32x2048x1024 .f32) (g : FVec Ideal S1x1024 .f32) (w : FVec Ideal S1x1024x6144 .f32)
    (b : Fin 32) (s : Fin 2048) (n : Fin 6144) : EReal :=
  ∑ k : Fin 1024, (x (ix3 b s k) * Ideal.rsqrt (Ideal.div (∑ j : Fin 1024, x (ix3 b s j) * x (ix3 b s j))
    (Ideal.ofBits .f32 1149239296#32) + Ideal.ofBits .f32 897988541#32) * g (ix2 0 k)) * w (ix3 0 k n)

/-- The three argument arrays. -/
abbrev argX (c : Dev nD) : FVec Ideal S32x2048x1024 .f32 := m ((c : Thread nD τ).loc main_arg0)
abbrev argG (c : Dev nD) : FVec Ideal S1x1024 .f32 := m ((c : Thread nD τ).loc main_arg1)
abbrev argW (c : Dev nD) : FVec Ideal S1x1024x6144 .f32 := m ((c : Thread nD τ).loc main_arg2)

theorem V_x (c : Dev nD) : V m c main_v0 = shapeCast S65536x1024 (argX m c) shapeCasts_S32x2048x1024_S65536x1024 := by
  show StableHlo.after hostOps0 _ _ = _
  unfold hostOps0
  after_results_simp <;> rfl

theorem V_g (c : Dev nD) : V m c main_v2 = broadcastInDim S1x1024 ![1] bcast_S1024_S1x1024_1
    (shapeCast S1024 (argG m c) shapeCasts_S1x1024_S1024) := by
  show StableHlo.after hostOps0 _ _ = _
  unfold hostOps0
  after_results_simp <;> rfl

theorem V_w (c : Dev nD) : V m c main_v4 = (truncf .bf16 (shapeCast S1024x6144 (argW m c)
    shapeCasts_S1x1024x6144_S1024x6144 : FVec Ideal S1024x6144 .f32) bitsLt_bf16_f32 : FVec Ideal S1024x6144 .bf16) := by
  show StableHlo.after hostOps0 _ _ = _
  unfold hostOps0
  after_results_simp <;> rfl

theorem lt_N (t : Fin cfg0.N) : t.val < 128 := lt_of_lt_of_eq t.isLt N_0

/-- Where the windows' blocks sit at point `t`. -/
theorem idx_in : ∀ t : Fin cfg0.N, win0_0.index t 0 = t.val ∧ win0_0.index t 1 = 0 ∧ win0_1.index t 0 = 0
    ∧ win0_1.index t 1 = 0 ∧ win0_2.index t 0 = 0 ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = 0 ∧ win0_2.index t 1 = 0)

theorem idx_wide : ∀ t : Fin cfg0.N, win0_3.index t 0 = t.val ∧ win0_3.index t 1 = 0 ∧ win0_8.index t 0 = t.val
    ∧ win0_8.index t 1 = 0 :=
  (by decide +kernel : ∀ t : Fin grid0.N, win0_3.index t 0 = t.val ∧ win0_3.index t 1 = 0 ∧ win0_8.index t 0 = t.val
    ∧ win0_8.index t 1 = 0)

theorem idx_pair : ∀ t : Fin cfg0.N, ∀ a : Fin 4,
    win0_4.index t a = ![t.val / 4, 0, t.val % 4, 0] a ∧ win0_5.index t a = ![t.val / 4, 0, t.val % 4, 0] a
    ∧ win0_6.index t a = ![t.val / 4, 0, t.val % 4, 0] a ∧ win0_7.index t a = ![t.val / 4, 0, t.val % 4, 0] a :=
  (by decide +kernel : ∀ t : Fin grid0.N, ∀ a : Fin 4,
    win0_4.index t a = ![t.val / 4, 0, t.val % 4, 0] a ∧ win0_5.index t a = ![t.val / 4, 0, t.val % 4, 0] a
    ∧ win0_6.index t a = ![t.val / 4, 0, t.val % 4, 0] a ∧ win0_7.index t a = ![t.val / 4, 0, t.val % 4, 0] a)

/-- Row `r` of the block of `x` at point `t` is row `512 (t mod 4) + r` of batch element `t / 4`. -/
theorem read_x (c : Dev nD) (t : Fin cfg0.N) (r : Fin 512) (k : Fin 1024) : iblk m c 0 t (ix2 r k) =
    argX m c (ix3 ⟨t.val / 4, by have := lt_N t; omega⟩ ⟨t.val % 4 * 512 + r.val, by omega⟩ k) := by
  have ht := lt_N t
  obtain ⟨e0, e1, -, -, -, -⟩ := idx_in t
  have h : iblk m c 0 t (ix2 r k) = V m c main_v0 (ix2 ⟨t.val * 512 + r.val, by omega⟩ k) := by
    blk_ext [iblk, e0, e1]
  rw [h, V_x]
  pointwise
  exact congrArg₂ (fun b s => argX m c (ix3 b s k)) (Fin.ext (by dsimp only; omega)) (Fin.ext (by dsimp only; omega))

theorem read_g (c : Dev nD) (t : Fin cfg0.N) (k : Fin 1024) : iblk m c 1 t (ix2 0 k) =
    argG m c (ix2 0 k) := by
  obtain ⟨-, -, e0, e1, -, -⟩ := idx_in t
  have h : iblk m c 1 t (ix2 0 k) = V m c main_v2 (ix2 0 k) := by
    blk_ext [iblk, e0, e1]
  rw [h, V_g]
  pointwise

theorem read_w (c : Dev nD) (t : Fin cfg0.N) (k : Fin 1024) (n : Fin 6144) : iblk m c 2 t (ix2 k n) =
    argW m c (ix3 0 k n) := by
  obtain ⟨-, -, -, -, e0, e1⟩ := idx_in t
  have h : iblk m c 2 t (ix2 k n) = V m c main_v4 (ix2 k n) := by
    blk_ext [iblk, e0, e1]
  rw [h, V_w]
  pointwise

/-- The projection of point `t`'s blocks is the rows `512 (t mod 4) + r` of batch element `t / 4`. -/
theorem proj_blk (c : Dev nD) (t : Fin cfg0.N) (r : Fin 512) (n n' : Fin 6144) (b : Fin 32) (s : Fin 2048)
    (hb : b.val = t.val / 4) (hs : s.val = t.val % 4 * 512 + r.val) (hn : n.val = n'.val) :
    Block.proj (iblk m c 0 t) (iblk m c 1 t) (iblk m c 2 t) r n =
      rowProj (argX m c) (argG m c) (argW m c) b s n' := by
  obtain rfl := Fin.ext hn
  have eb : (⟨t.val / 4, by have := lt_N t; omega⟩ : Fin 32) = b := Fin.ext hb.symm
  have es : (⟨t.val % 4 * 512 + r.val, by omega⟩ : Fin 2048) = s := Fin.ext hs.symm
  unfold Block.proj rowProj
  simp only [read_x, read_g, read_w, eb, es]

/-- Output of `n` columns of the projection from column `off` on, row (`b`, `s`) at row `2048 b + s`. -/
def wide (off n : Nat) (h : off + n ≤ 6144) (c : Dev nD) : FVec Ideal ⟨2, ![65536, n]⟩ .bf16 := fun j =>
  rowProj (argX m c) (argG m c) (argW m c)
    ⟨(j 0).val / 2048, by have : (j 0).val < 65536 := (j 0).isLt; omega⟩ ⟨(j 0).val % 2048, by omega⟩
    ⟨off + (j 1).val, by have : (j 1).val < n := (j 1).isLt; omega⟩

/-- Output of the 512 columns from `off` on as four groups of 128: entry (`b`, `p`, `s`, `l`) is column `off + 128 p + l`
    of row (`b`, `s`). -/
def pairs (off : Nat) (h : off + 512 ≤ 6144) (c : Dev nD) : FVec Ideal S32x4x2048x128 .bf16 := fun j =>
  rowProj (argX m c) (argG m c) (argW m c)
    (j 0) (j 2) ⟨off + 128 * (j 1).val + (j 3).val, by
      have : (j 1).val < 4 := (j 1).isLt
      have : (j 3).val < 128 := (j 3).isLt
      omega⟩

/-- What the run leaves in the six outputs. -/
theorem finals (c : Dev nD) : (dats m 0 c).arrAt 3 cfg0.N = wide m 0 3072 (by decide) c
    ∧ (dats m 0 c).arrAt 4 cfg0.N = pairs m 3072 (by decide) c ∧ (dats m 0 c).arrAt 5 cfg0.N = pairs m 3584 (by decide) c
    ∧ (dats m 0 c).arrAt 6 cfg0.N = pairs m 4096 (by decide) c ∧ (dats m 0 c).arrAt 7 cfg0.N = pairs m 4608 (by decide) c
    ∧ (dats m 0 c).arrAt 8 cfg0.N = wide m 5120 1024 (by decide) c := by
  refine ⟨(dats m 0 c).arrAt_eq_of_covers 3 _ (by decide +kernel) fun t hf y => ?_,
    (dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  all_goals
    obtain ⟨o3, o4, o5, o6, o7, o8⟩ := Block.outs c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      scM0_0 (Memref.isWhole_whole _) (iblk m c 0 t) (iblk m c 1 t) (iblk m c 2 t)
    obtain ⟨e30, e31, e80, e81⟩ := idx_wide t
    have ep := idx_pair t
    have ht := lt_N t
    blk_simp
    simp only [after0_3, after0_4, after0_5, after0_6, after0_7, after0_8, outsAt0, o3, o4, o5, o6, o7, o8]
    refine proj_blk m c t _ _ _ _ _ ?_ ?_ ?_ <;> blk_simp [e30, e31, e80, e81, ep]
    all_goals (try dsimp only [Fin.isValue, Matrix.cons_val_zero, Matrix.cons_val_one, Matrix.cons_val])
    all_goals idx_bounds_all
    all_goals omega

/-- The run of the projection: each output at its columns, the arguments unchanged. -/
theorem run : θ_run defs (onTc (τ := τ) (main (F := Ideal))) ⟨m, fun _ => 0, ρ⟩ fun r => ∀ c : Dev nD,
    r.2.mem ((c : Thread nD τ).loc main_v5_0) = wide m 0 3072 (by decide) c
    ∧ r.2.mem ((c : Thread nD τ).loc main_v5_1) = pairs m 3072 (by decide) c
    ∧ r.2.mem ((c : Thread nD τ).loc main_v5_2) = pairs m 3584 (by decide) c
    ∧ r.2.mem ((c : Thread nD τ).loc main_v5_3) = pairs m 4096 (by decide) c
    ∧ r.2.mem ((c : Thread nD τ).loc main_v5_4) = pairs m 4608 (by decide) c
    ∧ r.2.mem ((c : Thread nD τ).loc main_v5_5) = wide m 5120 1024 (by decide) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun _ h c => ?_) (Value.run_blocks m ρ)
  obtain ⟨f3, f4, f5, f6, f7, f8⟩ := finals m c
  obtain ⟨h3, h4, h5, h6, h7, h8, ha⟩ := h c
  exact ⟨h3.trans f3, h4.trans f4, h5.trans f5, h6.trans f6, h7.trans f7, h8.trans f8, ha⟩

end Cert.InIdeal.Whole

/-! ## The reference -/

namespace Cert.InRefIdeal.Read

open Cert.InRefIdeal Cert.InRefIdeal.Gen

/-- The reference's projection before it is cut into outputs. -/
def whole (x : FVec Ideal S32x2048x1024 .f32) (g : FVec Ideal S1x1024 .f32) (w : FVec Ideal S1x1024x6144 .f32) :
    FVec Ideal S32x2048x6144 .f32 :=
  Host.dotGeneral dot_S32x2048x1024_S1024x6144_S32x2048x6144_2_0_01_1_n_n none (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))) (shapeCast _ w shapeCasts_S1x1024x6144_S1024x6144)

/-- The same, read as an equation that folds it. -/
theorem whole_fold (x : FVec Ideal S32x2048x1024 .f32) (g : FVec Ideal S1x1024 .f32) (w : FVec Ideal S1x1024x6144 .f32) :
    Host.dotGeneral dot_S32x2048x1024_S1024x6144_S32x2048x6144_2_0_01_1_n_n none (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))) (shapeCast _ w shapeCasts_S1x1024x6144_S1024x6144) = whole x g w := rfl

/-- Its entries are the normalised rows times the columns. -/
theorem whole_apply (x : FVec Ideal S32x2048x1024 .f32) (g : FVec Ideal S1x1024 .f32) (w : FVec Ideal S1x1024x6144 .f32)
    (b : Fin 32) (s : Fin 2048) (n : Fin 6144) :
    whole x g w (ix3 b s n) = Cert.InIdeal.Whole.rowProj x g w b s n := by
  pointwise [whole, Cert.InIdeal.Whole.rowProj]

end Cert.InRefIdeal.Read

/-! ## The reference and the claims -/

namespace Cert.Proof.InClaims

theorem frame_in : Cert.quiescent_In := fun m ρ _ => Cert.In.Gen.frame m ρ
theorem frame_in_ideal : Cert.quiescent_InIdeal := fun m ρ _ => Cert.InIdeal.Gen.frame m ρ
theorem frame_in_ref : Cert.quiescent_InRefIdeal := fun m ρ _ =>
  (θ_run Cert.InRefIdeal.defs _ _).mono (fun r h => ⟨fun c => (h c).2.2.2.2.2.2,
      Idealize.ShloMosaic.sem_eq_zero_of_no_sems (by decide) r.2⟩)
    (Cert.InRefIdeal.Value.run (F := Ideal) m ρ)

theorem preserves_in : Cert.preserves_In_InIdeal := trivial

open Cert.InIdeal.Whole in
theorem algebraic_in : Cert.algebraic_InIdeal_InRefIdeal := by
  intro m ρ m' ρ' _ hag
  refine ⟨fun c => wide m 0 3072 (by decide) c, fun c => pairs m 3072 (by decide) c, fun c => pairs m 3584 (by decide) c,
    fun c => pairs m 4096 (by decide) c, fun c => pairs m 4608 (by decide) c, fun c => wide m 5120 1024 (by decide) c,
    run m ρ, (θ_run _ _ _).mono (fun _ h c => ?_) (Cert.InRefIdeal.Value.run (F := Ideal) m' ρ')⟩
  obtain ⟨h0, h1, h2, h3, h4, h5, ha⟩ := h c
  obtain ⟨e0, e1, e2⟩ := hag c
  refine ⟨h0.trans ?_, h1.trans ?_, h2.trans ?_, h3.trans ?_, h4.trans ?_, h5.trans ?_, ha⟩
  all_goals
    rw [e0, e1, e2, Cert.InRefIdeal.Read.whole_fold]
    funext j
    idx_vars j
    pointwise [wide, pairs, Cert.InRefIdeal.Read.whole_apply]
    first | done | exact congrArg (rowProj (argX m c) (argG m c) (argW m c) _ _) (Fin.ext (by dsimp only; omega))

end Cert.Proof.InClaims
end
-- ==== Proof.OutBlock.lean ====
/- What one grid point of the output projection leaves in its output block and in the two scratch buffers, over the
   extended reals: keys and values of the point's memory rows, four attention heads over them, the gate, the mixing of
   the three parts by the weight, the residual and the last norm. -/
module

public import proofs.«01_k».proof.Defs
public import proofs.«01_k».proof.Proof.Gen.OutIdeal.Value
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.OutIdeal.Block

open Cert.OutIdeal Cert.OutIdeal.Gen

/-! ## The row functions -/

/-- Head `h`'s score of a query row against memory row `j`. -/
def score (q : Fin 512 → EReal) (K : Fin 256 → Fin 512 → EReal) (h : Fin 4) (j : Fin 256) : EReal :=
  (∑ d : Fin 128, q ⟨128 * h.val + d.val, by omega⟩ * K j ⟨128 * h.val + d.val, by omega⟩) * Ideal.ofBits .f32 1035273459#32

/-- A score's weight before normalisation: the exponential of its distance to the row's largest. -/
def weight (s : Fin 256 → EReal) (j : Fin 256) : EReal :=
  Ideal.exp (s j - Finset.fold max (Ideal.ofBits .f32 4286578688#32) s Finset.univ)

/-- Head `h`'s output at lane `d`: the weighted sum of the values, divided by the weights' sum afterwards. -/
def head (q : Fin 512 → EReal) (K V : Fin 256 → Fin 512 → EReal) (h : Fin 4) (d : Fin 128) : EReal :=
  (∑ j : Fin 256, weight (score q K h) j * V j ⟨128 * h.val + d.val, by omega⟩)
    * Ideal.div 1 (∑ j : Fin 256, weight (score q K h) j)

/-- A gate value times its logistic. -/
def gate (z : EReal) : EReal := z * Ideal.div 1 (1 + Ideal.exp (0 - z))

/-- The four heads side by side, gated. -/
def mixed (q z : Fin 512 → EReal) (K V : Fin 256 → Fin 512 → EReal) (k : Fin 512) : EReal :=
  head q K V ⟨k.val / 128, by omega⟩ ⟨k.val % 128, by omega⟩ * gate (z k)

/-- The residual row: `x` plus the three parts times their rows of the weight. -/
def resid (x ym : Fin 1024 → EReal) (ya yx : Fin 512 → EReal) (w : Fin 2048 → Fin 1024 → EReal) (n : Fin 1024) : EReal :=
  x n + ((∑ k : Fin 1024, ym k * w ⟨k.val, by omega⟩ n) + (∑ k : Fin 512, ya k * w ⟨1024 + k.val, by omega⟩ n)
    + ∑ k : Fin 512, yx k * w ⟨1536 + k.val, by omega⟩ n)

/-- A row divided by its root mean square, times the gain. -/
def norm (r g : Fin 1024 → EReal) (n : Fin 1024) : EReal :=
  r n * Ideal.rsqrt (Ideal.div (∑ k : Fin 1024, r k * r k) (Ideal.ofBits .f32 1149239296#32)
    + Ideal.ofBits .f32 897988541#32) * g n

/-- Entry `n` of a normalised memory row times the key/value weight. -/
def keyval (mem g : Fin 1024 → EReal) (w : Fin 1024 → Fin 1024 → EReal) (n : Fin 1024) : EReal :=
  ∑ k : Fin 1024, norm mem g k * w k n

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x4x512x128 .bf16) (harg4 : arg4.IsWhole) (arg5 : Memref sig .tc .vmem S512x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S256x512 .bf16) (harg12 : arg12.IsWhole) (arg13 : Memref sig .tc .vmem S256x512 .bf16) (harg13 : arg13.IsWhole)
  (x0 : Vec Ideal S512x1024 .f32) (x1 : Vec Ideal S512x1024 .bf16) (x2 : Vec Ideal S1x4x512x128 .bf16) (x3 : Vec Ideal S512x1024 .bf16) (x4 : Vec Ideal S1x256x1024 .f32) (x5 : Vec Ideal S1x1024 .f32) (x6 : Vec Ideal S1024x1024 .bf16) (x7 : Vec Ideal S2048x1024 .bf16) (x8 : Vec Ideal S1x1024 .f32)
  (xs0 xs1 : Vec Ideal S256x512 .bf16)

/-- Loads of a whole buffer's slice after one store of the whole buffer read the stored value. -/
theorem readCov_whole {S : Shape} {e : EltTy} {sp : Space} (v : View sig .tc sp S e) {off : Fin S.rank → Nat} (h : off = fun _ => 0)
    (inb : ∀ a, off a + S.size a ≤ S.size a) (w : Vec Ideal S e) (r : Rect S) :
    v.readCov (Val := Elt Ideal) [⟨Rect.unit off S.size inb, w⟩] r.toLoadRect = View.ld (Val := Elt Ideal) w r := by
  rw [View.readCov_eq_canon', View.canon_unit_zero h]

/-- The output block as the body's operations on its nine inputs and the keys and values `kx`, `vx`. -/
def tile (kx vx : Vec Ideal S256x512 .bf16) : Vec Ideal S512x1024 .f32 :=
  k0_pay1
      (k0_pay13
        (k0_pay5 (View.ld x3 (Rect.unit ![0, 0] ![512, 128] inb_S512x1024_S512x128_0_0))
          (View.ld kx (Rect.unit ![0, 0] ![256, 128] inb_S256x512_S256x128_0_0))
          (View.ld vx (Rect.unit ![0, 0] ![256, 128] inb_S256x512_S256x128_0_0)))
        (k0_pay9
          (k0_pay7 (View.ld x3 (Rect.unit ![0, 128] ![512, 128] inb_S512x1024_S512x128_0_128))
            (View.ld kx (Rect.unit ![0, 128] ![256, 128] inb_S256x512_S256x128_0_128)))
          (k0_pay8 (View.ld x3 (Rect.unit ![0, 128] ![512, 128] inb_S512x1024_S512x128_0_128))
            (View.ld kx (Rect.unit ![0, 128] ![256, 128] inb_S256x512_S256x128_0_128)))
          (View.ld vx (Rect.unit ![0, 128] ![256, 128] inb_S256x512_S256x128_0_128)))
        (k0_pay10 (View.ld x3 (Rect.unit ![0, 256] ![512, 128] inb_S512x1024_S512x128_0_256))
          (View.ld kx (Rect.unit ![0, 256] ![256, 128] inb_S256x512_S256x128_0_256))
          (View.ld vx (Rect.unit ![0, 256] ![256, 128] inb_S256x512_S256x128_0_256)))
        (k0_pay11 (View.ld x3 (Rect.unit ![0, 384] ![512, 128] inb_S512x1024_S512x128_0_384))
          (View.ld kx (Rect.unit ![0, 384] ![256, 128] inb_S256x512_S256x128_0_384)))
        (k0_pay12 (View.ld x3 (Rect.unit ![0, 384] ![512, 128] inb_S512x1024_S512x128_0_384))
          (View.ld kx (Rect.unit ![0, 384] ![256, 128] inb_S256x512_S256x128_0_384)))
        (View.ld vx (Rect.unit ![0, 384] ![256, 128] inb_S256x512_S256x128_0_384))
        (View.ld x3 (Rect.unit ![0, 512] ![512, 512] inb_S512x1024_S512x512_0_512)))
      (k0_pay14 (View.ld x2 (Rect.unit ![0, 0, 0, 0] ![1, 1, 512, 128] inb_S1x4x512x128_S1x1x512x128_0_0_0_0))
        (View.ld x2 (Rect.unit ![0, 1, 0, 0] ![1, 1, 512, 128] inb_S1x4x512x128_S1x1x512x128_0_1_0_0))
        (View.ld x2 (Rect.unit ![0, 2, 0, 0] ![1, 1, 512, 128] inb_S1x4x512x128_S1x1x512x128_0_2_0_0))
        (View.ld x2 (Rect.unit ![0, 3, 0, 0] ![1, 1, 512, 128] inb_S1x4x512x128_S1x1x512x128_0_3_0_0)))
      x1
      (View.ld x7 (Rect.unit ![0, 0] ![1024, 1024] inb_S2048x1024_S1024x1024_0_0))
      (View.ld x7 (Rect.unit ![1024, 0] ![512, 1024] inb_S2048x1024_S512x1024_1024_0))
      (View.ld x7 (Rect.unit ![1536, 0] ![512, 1024] inb_S2048x1024_S512x1024_1536_0)) x0 x8

theorem outB (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = tile x0 x1 x2 x3 x7 x8 xs0 xs1 := by
  refine (View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)).trans ?_
  unfold kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread,
    harg12.read_unread, harg13.read_unread, readCov_whole,
    View.ld_unit_zero (S := S512x1024) hz, View.ld_unit_zero (S := S1x1024) hz, View.ld_unit_zero (S := S1024x1024) hz,
    View.ld_unit_zero (S := S1x256x1024) hz3, View.canon_unit_zero (S := S512x1024) hz,
    View.canon_unit_zero (S := S256x512) hz]
  rfl

theorem outA (hc0 : cond0_0 i) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = tile x0 x1 x2 x3 x7 x8 (k0_pay3 x4 x5 x6) (k0_pay4 x4 x5 x6) := by
  refine (View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)).trans ?_
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread,
    harg12.read_unread, harg13.read_unread, readCov_whole (S := S256x512) _ hz,
    View.ld_unit_zero (S := S512x1024) hz, View.ld_unit_zero (S := S1x1024) hz, View.ld_unit_zero (S := S1024x1024) hz,
    View.ld_unit_zero (S := S1x256x1024) hz3, View.canon_unit_zero (S := S512x1024) hz,
    View.canon_unit_zero (S := S256x512) hz]
  rfl

theorem keysA (hc0 : cond0_0 i) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x4 x5 x6 := by
  refine (View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)).trans ?_
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread,
    harg12.read_unread, harg13.read_unread,
    View.ld_unit_zero (S := S512x1024) hz, View.ld_unit_zero (S := S1x1024) hz, View.ld_unit_zero (S := S1024x1024) hz,
    View.ld_unit_zero (S := S1x256x1024) hz3, View.canon_unit_zero (S := S512x1024) hz,
    View.canon_unit_zero (S := S256x512) hz]

theorem valuesA (hc0 : cond0_0 i) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay4 x4 x5 x6 := by
  refine (View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)).trans ?_
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread,
    harg12.read_unread, harg13.read_unread,
    View.ld_unit_zero (S := S512x1024) hz, View.ld_unit_zero (S := S1x1024) hz, View.ld_unit_zero (S := S1024x1024) hz,
    View.ld_unit_zero (S := S1x256x1024) hz3, View.canon_unit_zero (S := S512x1024) hz,
    View.canon_unit_zero (S := S256x512) hz]

theorem pay3_apply (j : Fin 256) (n : Fin 512) : k0_pay3 x4 x5 x6 (ix2 j n) =
    keyval (fun k => x4 (ix3 0 j k)) (fun k => x5 (ix2 0 k)) (fun k n => x6 (ix2 k n)) ⟨n.val, by omega⟩ := by
  unfold_payloads
  pointwise [keyval, norm]

theorem pay4_apply (j : Fin 256) (n : Fin 512) : k0_pay4 x4 x5 x6 (ix2 j n) =
    keyval (fun k => x4 (ix3 0 j k)) (fun k => x5 (ix2 0 k)) (fun k n => x6 (ix2 k n)) ⟨512 + n.val, by omega⟩ := by
  unfold_payloads
  pointwise [keyval, norm]

theorem pay1_apply (v91 v100 : FVec Ideal S512x512 .bf16) (v101 : Vec Ideal S512x1024 .bf16) (v102 : Vec Ideal S1024x1024 .bf16)
    (v105 v109 : Vec Ideal S512x1024 .bf16) (v113 : Vec Ideal S512x1024 .f32) (v126 : Vec Ideal S1x1024 .f32) (r : Fin 512)
    (n : Fin 1024) (w : Fin 2048 → Fin 1024 → EReal) (hw0 : ∀ (k : Fin 1024) n, v102 (ix2 k n) = w ⟨k.val, by omega⟩ n)
    (hw1 : ∀ (k : Fin 512) n, v105 (ix2 k n) = w ⟨1024 + k.val, by omega⟩ n)
    (hw2 : ∀ (k : Fin 512) n, v109 (ix2 k n) = w ⟨1536 + k.val, by omega⟩ n) :
    k0_pay1 v91 v100 v101 v102 v105 v109 v113 v126 (ix2 r n) =
      norm (resid (fun k => v113 (ix2 r k)) (fun k => v101 (ix2 r k)) (fun k => v100 (ix2 r k)) (fun k => v91 (ix2 r k)) w)
        (fun k => v126 (ix2 0 k)) n := by
  unfold_payloads
  pointwise [norm, resid, hw0, hw1, hw2]

theorem pay13_apply (f g h : FVec Ideal S512x128 .f32) (p : FVec Ideal S512x256 .f32) (l : FVec Ideal S512 .f32)
    (v : Vec Ideal S256x128 .bf16) (z : Vec Ideal S512x512 .bf16) (r k : Fin 512) (o : Fin 4 → Fin 128 → EReal)
    (h0 : ∀ d, f (ix2 r d) = o 0 d) (h1 : ∀ d, g (ix2 r d) = o 1 d) (h2 : ∀ d, h (ix2 r d) = o 2 d)
    (h3 : ∀ d, (∑ j : Fin 256, p (ix2 r j) * v (ix2 j d)) * Ideal.div 1 (l (ix1 r)) = o 3 d) :
    k0_pay13 f g h p l v z (ix2 r k) = o ⟨k.val / 128, by omega⟩ ⟨k.val % 128, by omega⟩ * gate (z (ix2 r k)) := by
  unfold_payloads
  pointwise [h0, h1, h2, h3, gate]
  refine congrArg₂ (· * ·) ?_ rfl
  split_ifs <;> exact congrArg₂ o (Fin.ext (by dsimp only [Fin.isValue]; omega)) (Fin.ext (by dsimp only; omega))

theorem head0 (kx vx : Vec Ideal S256x512 .bf16) (r : Fin 512) (d : Fin 128) :
    k0_pay5 (View.ld x3 (Rect.unit ![0, 0] ![512, 128] inb_S512x1024_S512x128_0_0))
          (View.ld kx (Rect.unit ![0, 0] ![256, 128] inb_S256x512_S256x128_0_0))
          (View.ld vx (Rect.unit ![0, 0] ![256, 128] inb_S256x512_S256x128_0_0)) (ix2 r d) =
      head (fun k => x3 (ix2 r ⟨k.val, by omega⟩)) (fun j k => kx (ix2 j k)) (fun j k => vx (ix2 j k)) 0 d := by
  unfold_payloads
  pointwise [head, weight, score]
  try rfl

theorem head1 (kx vx : Vec Ideal S256x512 .bf16) (r : Fin 512) (d : Fin 128) :
    k0_pay9 (k0_pay7 (View.ld x3 (Rect.unit ![0, 128] ![512, 128] inb_S512x1024_S512x128_0_128)) (View.ld kx (Rect.unit ![0, 128] ![256, 128] inb_S256x512_S256x128_0_128)))
          (k0_pay8 (View.ld x3 (Rect.unit ![0, 128] ![512, 128] inb_S512x1024_S512x128_0_128)) (View.ld kx (Rect.unit ![0, 128] ![256, 128] inb_S256x512_S256x128_0_128)))
          (View.ld vx (Rect.unit ![0, 128] ![256, 128] inb_S256x512_S256x128_0_128)) (ix2 r d) =
      head (fun k => x3 (ix2 r ⟨k.val, by omega⟩)) (fun j k => kx (ix2 j k)) (fun j k => vx (ix2 j k)) 1 d := by
  unfold_payloads
  pointwise [head, weight, score]
  try rfl

theorem head2 (kx vx : Vec Ideal S256x512 .bf16) (r : Fin 512) (d : Fin 128) :
    k0_pay10 (View.ld x3 (Rect.unit ![0, 256] ![512, 128] inb_S512x1024_S512x128_0_256))
          (View.ld kx (Rect.unit ![0, 256] ![256, 128] inb_S256x512_S256x128_0_256))
          (View.ld vx (Rect.unit ![0, 256] ![256, 128] inb_S256x512_S256x128_0_256)) (ix2 r d) =
      head (fun k => x3 (ix2 r ⟨k.val, by omega⟩)) (fun j k => kx (ix2 j k)) (fun j k => vx (ix2 j k)) 2 d := by
  unfold_payloads
  pointwise [head, weight, score]
  try rfl

theorem head3 (kx vx : Vec Ideal S256x512 .bf16) (r : Fin 512) (d : Fin 128) :
    (∑ j : Fin 256, k0_pay11 (View.ld x3 (Rect.unit ![0, 384] ![512, 128] inb_S512x1024_S512x128_0_384)) (View.ld kx (Rect.unit ![0, 384] ![256, 128] inb_S256x512_S256x128_0_384)) (ix2 r j)
        * (View.ld vx (Rect.unit ![0, 384] ![256, 128] inb_S256x512_S256x128_0_384)) (ix2 j d))
      * Ideal.div 1 (k0_pay12 (View.ld x3 (Rect.unit ![0, 384] ![512, 128] inb_S512x1024_S512x128_0_384)) (View.ld kx (Rect.unit ![0, 384] ![256, 128] inb_S256x512_S256x128_0_384)) (ix1 r)) =
      head (fun k => x3 (ix2 r ⟨k.val, by omega⟩)) (fun j k => kx (ix2 j k)) (fun j k => vx (ix2 j k)) 3 d := by
  unfold_payloads
  pointwise [head, weight, score]
  try rfl

theorem mixed_apply (kx vx : Vec Ideal S256x512 .bf16) (r k : Fin 512) :
    k0_pay13
        (k0_pay5 (View.ld x3 (Rect.unit ![0, 0] ![512, 128] inb_S512x1024_S512x128_0_0))
          (View.ld kx (Rect.unit ![0, 0] ![256, 128] inb_S256x512_S256x128_0_0))
          (View.ld vx (Rect.unit ![0, 0] ![256, 128] inb_S256x512_S256x128_0_0)))
        (k0_pay9
          (k0_pay7 (View.ld x3 (Rect.unit ![0, 128] ![512, 128] inb_S512x1024_S512x128_0_128))
            (View.ld kx (Rect.unit ![0, 128] ![256, 128] inb_S256x512_S256x128_0_128)))
          (k0_pay8 (View.ld x3 (Rect.unit ![0, 128] ![512, 128] inb_S512x1024_S512x128_0_128))
            (View.ld kx (Rect.unit ![0, 128] ![256, 128] inb_S256x512_S256x128_0_128)))
          (View.ld vx (Rect.unit ![0, 128] ![256, 128] inb_S256x512_S256x128_0_128)))
        (k0_pay10 (View.ld x3 (Rect.unit ![0, 256] ![512, 128] inb_S512x1024_S512x128_0_256))
          (View.ld kx (Rect.unit ![0, 256] ![256, 128] inb_S256x512_S256x128_0_256))
          (View.ld vx (Rect.unit ![0, 256] ![256, 128] inb_S256x512_S256x128_0_256)))
        (k0_pay11 (View.ld x3 (Rect.unit ![0, 384] ![512, 128] inb_S512x1024_S512x128_0_384))
          (View.ld kx (Rect.unit ![0, 384] ![256, 128] inb_S256x512_S256x128_0_384)))
        (k0_pay12 (View.ld x3 (Rect.unit ![0, 384] ![512, 128] inb_S512x1024_S512x128_0_384))
          (View.ld kx (Rect.unit ![0, 384] ![256, 128] inb_S256x512_S256x128_0_384)))
        (View.ld vx (Rect.unit ![0, 384] ![256, 128] inb_S256x512_S256x128_0_384))
        (View.ld x3 (Rect.unit ![0, 512] ![512, 512] inb_S512x1024_S512x512_0_512)) (ix2 r k) =
      mixed (fun k => x3 (ix2 r ⟨k.val, by omega⟩)) (fun k => x3 (ix2 r ⟨512 + k.val, by omega⟩))
          (fun j k => kx (ix2 j k)) (fun j k => vx (ix2 j k)) k := by
  refine (pay13_apply _ _ _ _ _ _ _ r k _ (head0 x3 kx vx r) (head1 x3 kx vx r) (head2 x3 kx vx r) (head3 x3 kx vx r)).trans ?_
  refine congrArg₂ (· * ·) rfl (congrArg gate ?_)
  pointwise

theorem pay14_apply (v92 v94 v96 v98 : Vec Ideal S1x1x512x128 .bf16) (r k : Fin 512) (o : Fin 4 → Fin 128 → EReal)
    (h0 : ∀ d, v92 (ix4 0 0 r d) = o 0 d) (h1 : ∀ d, v94 (ix4 0 0 r d) = o 1 d) (h2 : ∀ d, v96 (ix4 0 0 r d) = o 2 d)
    (h3 : ∀ d, v98 (ix4 0 0 r d) = o 3 d) :
    k0_pay14 v92 v94 v96 v98 (ix2 r k) = o ⟨k.val / 128, by omega⟩ ⟨k.val % 128, by omega⟩ := by
  unfold_payloads
  pointwise [h0, h1, h2, h3]
  split_ifs <;> exact congrArg₂ o (Fin.ext (by dsimp only [Fin.isValue]; omega)) (Fin.ext (by dsimp only; omega))

theorem attn_apply (r k : Fin 512) :
    k0_pay14 (View.ld x2 (Rect.unit ![0, 0, 0, 0] ![1, 1, 512, 128] inb_S1x4x512x128_S1x1x512x128_0_0_0_0))
        (View.ld x2 (Rect.unit ![0, 1, 0, 0] ![1, 1, 512, 128] inb_S1x4x512x128_S1x1x512x128_0_1_0_0))
        (View.ld x2 (Rect.unit ![0, 2, 0, 0] ![1, 1, 512, 128] inb_S1x4x512x128_S1x1x512x128_0_2_0_0))
        (View.ld x2 (Rect.unit ![0, 3, 0, 0] ![1, 1, 512, 128] inb_S1x4x512x128_S1x1x512x128_0_3_0_0)) (ix2 r k) =
      x2 (ix4 0 ⟨k.val / 128, by omega⟩ r ⟨k.val % 128, by omega⟩) := by
  refine pay14_apply _ _ _ _ r k (fun p l => x2 (ix4 0 p r l)) (fun d => ?_) (fun d => ?_) (fun d => ?_) (fun d => ?_) <;>
    pointwise

theorem tile_apply (kx vx : Vec Ideal S256x512 .bf16) (r : Fin 512) (n : Fin 1024) :
    tile x0 x1 x2 x3 x7 x8 kx vx (ix2 r n) =
      norm (resid (fun k => x0 (ix2 r k)) (fun k => x1 (ix2 r k))
        (fun k => x2 (ix4 0 ⟨k.val / 128, by omega⟩ r ⟨k.val % 128, by omega⟩))
        (mixed (fun k => x3 (ix2 r ⟨k.val, by omega⟩)) (fun k => x3 (ix2 r ⟨512 + k.val, by omega⟩))
          (fun j k => kx (ix2 j k)) (fun j k => vx (ix2 j k)))
        (fun k n => x7 (ix2 k n))) (fun k => x8 (ix2 0 k)) n := by
  unfold tile
  refine (pay1_apply _ _ _ _ _ _ _ _ r n (fun k n => x7 (ix2 k n)) (fun k n => ?_) (fun k n => ?_) (fun k n => ?_)).trans ?_
  · pointwise
  · pointwise
  · pointwise
  · rw [funext (mixed_apply x3 kx vx r), funext (attn_apply x2 r)]

end Cert.OutIdeal.Block
end
-- ==== Proof.OutValue.lean ====
/- The array the output projection's run leaves, over the extended reals, as one formula of the nine arguments. -/
module

public import proofs.«01_k».proof.Proof.OutBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutIdeal.Whole

open Cert.OutIdeal Cert.OutIdeal.Gen Cert.OutIdeal.Block

variable (m : (ℓ : Loc nD τ sig) → Buf (Elt Ideal) ℓ) (ρ : Dev nD → PrngReg)

/-- The nine argument arrays. -/
abbrev argX (c : Dev nD) : FVec Ideal S32x2048x1024 .f32 := m ((c : Thread nD τ).loc main_arg0)
abbrev argM (c : Dev nD) : FVec Ideal S65536x1024 .bf16 := m ((c : Thread nD τ).loc main_arg1)
abbrev argA (c : Dev nD) : FVec Ideal S32x4x2048x128 .bf16 := m ((c : Thread nD τ).loc main_arg2)
abbrev argP (c : Dev nD) : FVec Ideal S65536x1024 .bf16 := m ((c : Thread nD τ).loc main_arg3)
abbrev argMem (c : Dev nD) : FVec Ideal S32x256x1024 .f32 := m ((c : Thread nD τ).loc main_arg4)
abbrev argGm (c : Dev nD) : FVec Ideal S1x1024 .f32 := m ((c : Thread nD τ).loc main_arg5)
abbrev argWkv (c : Dev nD) : FVec Ideal S1x1024x1024 .f32 := m ((c : Thread nD τ).loc main_arg6)
abbrev argWo (c : Dev nD) : FVec Ideal S1x2048x1024 .f32 := m ((c : Thread nD τ).loc main_arg7)
abbrev argGf (c : Dev nD) : FVec Ideal S1024 .f32 := m ((c : Thread nD τ).loc main_arg8)

/-! ## What the body's windows read -/

theorem V_x (c : Dev nD) : V m c main_v0 = shapeCast S65536x1024 (argX m c) shapeCasts_S32x2048x1024_S65536x1024 := by
  show StableHlo.after hostOps0 _ _ = _
  unfold hostOps0
  after_results_simp <;> rfl

theorem V_args (c : Dev nD) : V m c main_arg1 = argM m c ∧ V m c main_arg2 = argA m c ∧ V m c main_arg3 = argP m c
    ∧ V m c main_arg4 = argMem m c := by
  refine ⟨?_, ?_, ?_, ?_⟩ <;>
  · show StableHlo.after hostOps0 _ _ = _
    unfold hostOps0
    after_results_simp

theorem V_gm (c : Dev nD) : V m c main_v2 = broadcastInDim S1x1024 ![1] bcast_S1024_S1x1024_1
    (shapeCast S1024 (argGm m c) shapeCasts_S1x1024_S1024) := by
  show StableHlo.after hostOps0 _ _ = _
  unfold hostOps0
  after_results_simp <;> rfl

theorem V_wkv (c : Dev nD) : V m c main_v4 = (truncf .bf16 (shapeCast S1024x1024 (argWkv m c)
    shapeCasts_S1x1024x1024_S1024x1024 : FVec Ideal S1024x1024 .f32) bitsLt_bf16_f32 : FVec Ideal S1024x1024 .bf16) := by
  show StableHlo.after hostOps0 _ _ = _
  unfold hostOps0
  after_results_simp <;> rfl

theorem V_wo (c : Dev nD) : V m c main_v6 = (truncf .bf16 (shapeCast S2048x1024 (argWo m c)
    shapeCasts_S1x2048x1024_S2048x1024 : FVec Ideal S2048x1024 .f32) bitsLt_bf16_f32 : FVec Ideal S2048x1024 .bf16) := by
  show StableHlo.after hostOps0 _ _ = _
  unfold hostOps0
  after_results_simp <;> rfl

theorem V_gf (c : Dev nD) : V m c main_v7 = broadcastInDim S1x1024 ![1] bcast_S1024_S1x1024_1 (argGf m c) := by
  show StableHlo.after hostOps0 _ _ = _
  unfold hostOps0
  after_results_simp <;> rfl

theorem lt_N (t : Fin cfg0.N) : t.val < 128 := lt_of_lt_of_eq t.isLt N_0

/-- Where the row windows' blocks sit at point `t`. -/
theorem idx_rows : ∀ t : Fin cfg0.N, ∀ a : Fin 2, win0_0.index t a = ![t.val, 0] a ∧ win0_1.index t a = ![t.val, 0] a
    ∧ win0_3.index t a = ![t.val, 0] a ∧ win0_9.index t a = ![t.val, 0] a :=
  (by decide +kernel : ∀ t : Fin grid0.N, ∀ a : Fin 2, win0_0.index t a = ![t.val, 0] a ∧ win0_1.index t a = ![t.val, 0] a
    ∧ win0_3.index t a = ![t.val, 0] a ∧ win0_9.index t a = ![t.val, 0] a)

/-- Where the whole-array windows' blocks sit. -/
theorem idx_full : ∀ t : Fin cfg0.N, ∀ a : Fin 2, win0_5.index t a = 0 ∧ win0_6.index t a = 0
    ∧ win0_7.index t a = 0 ∧ win0_8.index t a = 0 :=
  (by decide +kernel : ∀ t : Fin grid0.N, ∀ a : Fin 2, win0_5.index t a = 0 ∧ win0_6.index t a = 0
    ∧ win0_7.index t a = 0 ∧ win0_8.index t a = 0)

/-- Where the blocks of the batch element's attention rows and memory sit. -/
theorem idx_batch : ∀ t : Fin cfg0.N, (∀ a : Fin 4, win0_2.index t a = ![t.val / 4, 0, t.val % 4, 0] a)
    ∧ ∀ a : Fin 3, win0_4.index t a = ![t.val / 4, 0, 0] a :=
  (by decide +kernel : ∀ t : Fin grid0.N, (∀ a : Fin 4, win0_2.index t a = ![t.val / 4, 0, t.val % 4, 0] a)
    ∧ ∀ a : Fin 3, win0_4.index t a = ![t.val / 4, 0, 0] a)

theorem read_x (c : Dev nD) (t : Fin cfg0.N) (r : Fin 512) (k : Fin 1024) : iblk m c 0 t (ix2 r k) =
    argX m c (ix3 ⟨t.val / 4, by have := lt_N t; omega⟩ ⟨t.val % 4 * 512 + r.val, by omega⟩ k) := by
  have ht := lt_N t
  have e := idx_rows t
  have h : iblk m c 0 t (ix2 r k) = V m c main_v0 (ix2 ⟨t.val * 512 + r.val, by omega⟩ k) := by
    blk_ext [iblk, e]
  rw [h, V_x]
  pointwise
  exact congrArg₂ (fun b s => argX m c (ix3 b s k)) (Fin.ext (by dsimp only; omega)) (Fin.ext (by dsimp only; omega))

theorem read_m (c : Dev nD) (t : Fin cfg0.N) (r : Fin 512) (k : Fin 1024) : iblk m c 1 t (ix2 r k) =
    argM m c (ix2 ⟨t.val * 512 + r.val, by have := lt_N t; omega⟩ k) := by
  have e := idx_rows t
  rw [← (V_args m c).1]
  blk_ext [iblk, e]

theorem read_a (c : Dev nD) (t : Fin cfg0.N) (p : Fin 4) (r : Fin 512) (l : Fin 128) : iblk m c 2 t (ix4 0 p r l) =
    argA m c (ix4 ⟨t.val / 4, by have := lt_N t; omega⟩ p ⟨t.val % 4 * 512 + r.val, by omega⟩ l) := by
  have e := (idx_batch t).1
  rw [← (V_args m c).2.1]
  blk_ext [iblk, e]

theorem read_p (c : Dev nD) (t : Fin cfg0.N) (r : Fin 512) (k : Fin 1024) : iblk m c 3 t (ix2 r k) =
    argP m c (ix2 ⟨t.val * 512 + r.val, by have := lt_N t; omega⟩ k) := by
  have e := idx_rows t
  rw [← (V_args m c).2.2.1]
  blk_ext [iblk, e]

theorem read_mem (c : Dev nD) (t : Fin cfg0.N) (j : Fin 256) (k : Fin 1024) : iblk m c 4 t (ix3 0 j k) =
    argMem m c (ix3 ⟨t.val / 4, by have := lt_N t; omega⟩ j k) := by
  have e := (idx_batch t).2
  rw [← (V_args m c).2.2.2]
  blk_ext [iblk, e]

theorem read_gm (c : Dev nD) (t : Fin cfg0.N) (k : Fin 1024) : iblk m c 5 t (ix2 0 k) = argGm m c (ix2 0 k) := by
  have e := idx_full t
  have h : iblk m c 5 t (ix2 0 k) = V m c main_v2 (ix2 0 k) := by blk_ext [iblk, e]
  rw [h, V_gm]
  pointwise

theorem read_wkv (c : Dev nD) (t : Fin cfg0.N) (k n : Fin 1024) : iblk m c 6 t (ix2 k n) = argWkv m c (ix3 0 k n) := by
  have e := idx_full t
  have h : iblk m c 6 t (ix2 k n) = V m c main_v4 (ix2 k n) := by blk_ext [iblk, e]
  rw [h, V_wkv]
  pointwise

theorem read_wo (c : Dev nD) (t : Fin cfg0.N) (k : Fin 2048) (n : Fin 1024) :
    iblk m c 7 t (ix2 k n) = argWo m c (ix3 0 k n) := by
  have e := idx_full t
  have h : iblk m c 7 t (ix2 k n) = V m c main_v6 (ix2 k n) := by blk_ext [iblk, e]
  rw [h, V_wo]
  pointwise

theorem read_gf (c : Dev nD) (t : Fin cfg0.N) (k : Fin 1024) : iblk m c 8 t (ix2 0 k) = argGf m c (ix1 k) := by
  have e := idx_full t
  have h : iblk m c 8 t (ix2 0 k) = V m c main_v7 (ix2 0 k) := by blk_ext [iblk, e]
  rw [h, V_gf]
  pointwise

/-! ## The scratch buffers -/

/-- Entry (`j`, `n`) of batch element `b`'s normalised memory times the key/value weight. -/
def kvOf (c : Dev nD) (b : Fin 32) (j : Fin 256) (n : Fin 1024) : EReal :=
  keyval (fun k => argMem m c (ix3 b j k)) (fun k => argGm m c (ix2 0 k)) (fun k n => argWkv m c (ix3 0 k n)) n

/-- The keys: the first 512 columns. -/
def keysOf (c : Dev nD) (b : Fin 32) : Vec Ideal S256x512 .bf16 := fun y =>
  kvOf m c b (y 0) ⟨(y 1).val, by have : (y 1).val < 512 := (y 1).isLt; omega⟩

/-- The values: the last 512 columns. -/
def valuesOf (c : Dev nD) (b : Fin 32) : Vec Ideal S256x512 .bf16 := fun y =>
  kvOf m c b (y 0) ⟨512 + (y 1).val, by have : (y 1).val < 512 := (y 1).isLt; omega⟩

theorem keys_read (c : Dev nD) (t : Fin cfg0.N) :
    (k0_pay3 (iblk m c 4 t) (iblk m c 5 t) (iblk m c 6 t) : FVec Ideal S256x512 .bf16)
      = keysOf m c ⟨t.val / 4, by have := lt_N t; omega⟩ := by
  funext y
  idx_vars y
  rw [pay3_apply]
  simp only [read_mem, read_gm, read_wkv]
  rfl

theorem values_read (c : Dev nD) (t : Fin cfg0.N) :
    (k0_pay4 (iblk m c 4 t) (iblk m c 5 t) (iblk m c 6 t) : FVec Ideal S256x512 .bf16)
      = valuesOf m c ⟨t.val / 4, by have := lt_N t; omega⟩ := by
  funext y
  idx_vars y
  rw [pay4_apply]
  simp only [read_mem, read_gm, read_wkv]
  rfl

/-- After every point of batch element `b` the scratch holds that element's keys and values. -/
theorem scratch (c : Dev nD) : ∀ (n : Nat) (hn : n < cfg0.N),
    (outsAt0 m c n hn).2.1 = keysOf m c ⟨n / 4, by have := lt_N ⟨n, hn⟩; dsimp only at this; omega⟩
    ∧ (outsAt0 m c n hn).2.2 = valuesOf m c ⟨n / 4, by have := lt_N ⟨n, hn⟩; dsimp only at this; omega⟩ := by
  intro n
  induction n with
  | zero =>
    intro hn
    have h := outsAt0_A m c ⟨0, hn⟩ (Nat.zero_mod _)
    dsimp only at h
    rw [h]
    dsimp only
    rw [keysA, valuesA]
    exact ⟨keys_read m c ⟨0, hn⟩, values_read m c ⟨0, hn⟩⟩
  | succ n ih =>
    intro hn
    by_cases h0 : (n + 1) % 4 = 0
    · have h := outsAt0_A m c ⟨n + 1, hn⟩ h0
      dsimp only at h
      rw [h]
      dsimp only
      rw [keysA, valuesA]
      exact ⟨keys_read m c ⟨n + 1, hn⟩, values_read m c ⟨n + 1, hn⟩⟩
    · have h := outsAt0_B m c ⟨n + 1, hn⟩ h0
      dsimp only at h
      rw [h]
      obtain ⟨i1, i2⟩ := ih (by omega)
      have e : (⟨n / 4, by have := lt_N ⟨n + 1, hn⟩; dsimp only at this; omega⟩ : Fin 32) = ⟨(n + 1) / 4, by have := lt_N ⟨n + 1, hn⟩; dsimp only at this; omega⟩ :=
        Fin.ext (by dsimp only; omega)
      rw [e] at i1 i2
      exact ⟨i1, i2⟩

/-! ## The whole array -/

/-- Entry `n` of row (`b`, `s`) of the result. -/
def rowOut (c : Dev nD) (b : Fin 32) (s : Fin 2048) (n : Fin 1024) : EReal :=
  norm (resid (fun k => argX m c (ix3 b s k)) (fun k => argM m c (ix2 ⟨2048 * b.val + s.val, by omega⟩ k))
    (fun k => argA m c (ix4 b ⟨k.val / 128, by omega⟩ s ⟨k.val % 128, by omega⟩))
    (mixed (fun k => argP m c (ix2 ⟨2048 * b.val + s.val, by omega⟩ ⟨k.val, by omega⟩))
      (fun k => argP m c (ix2 ⟨2048 * b.val + s.val, by omega⟩ ⟨512 + k.val, by omega⟩))
      (fun j k => kvOf m c b j ⟨k.val, by omega⟩) (fun j k => kvOf m c b j ⟨512 + k.val, by omega⟩))
    (fun k n => argWo m c (ix3 0 k n))) (fun k => argGf m c (ix1 k)) n

/-- Row `r` of the block point `t` computes. -/
theorem tile_read (c : Dev nD) (t : Fin cfg0.N) (r : Fin 512) (n : Fin 1024) (b : Fin 32) (s : Fin 2048)
    (hb : b.val = t.val / 4) (hs : s.val = t.val % 4 * 512 + r.val) :
    tile (iblk m c 0 t) (iblk m c 1 t) (iblk m c 2 t) (iblk m c 3 t) (iblk m c 7 t) (iblk m c 8 t)
      (keysOf m c b) (valuesOf m c b) (ix2 r n) = rowOut m c b s n := by
  have eb : (⟨t.val / 4, by have := lt_N t; omega⟩ : Fin 32) = b := Fin.ext hb.symm
  have es : (⟨t.val % 4 * 512 + r.val, by omega⟩ : Fin 2048) = s := Fin.ext hs.symm
  have et : (⟨t.val * 512 + r.val, by have := lt_N t; omega⟩ : Fin 65536) = ⟨2048 * b.val + s.val, by omega⟩ :=
    Fin.ext (by dsimp only; omega)
  rw [tile_apply]
  simp only [read_x, read_m, read_a, read_p, read_wo, read_gf, eb, es, et]
  rfl

/-- The result: row `2048 b + s` is row (`b`, `s`). -/
def result (c : Dev nD) : FVec Ideal S65536x1024 .f32 := fun j =>
  rowOut m c ⟨(j 0).val / 2048, by have : (j 0).val < 65536 := (j 0).isLt; omega⟩ ⟨(j 0).val % 2048, by omega⟩ (j 1)

/-- The same at any index of the block. -/
theorem tile_read' (c : Dev nD) (t : Fin cfg0.N) (y : S512x1024.Idx) (b : Fin 32) (s : Fin 2048) (n : Fin 1024)
    (hb : b.val = t.val / 4) (hs : s.val = t.val % 4 * 512 + (y 0).val) (hn : n.val = (y 1).val) :
    tile (iblk m c 0 t) (iblk m c 1 t) (iblk m c 2 t) (iblk m c 3 t) (iblk m c 7 t) (iblk m c 8 t)
      (keysOf m c ⟨t.val / 4, by have := lt_N t; omega⟩) (valuesOf m c ⟨t.val / 4, by have := lt_N t; omega⟩) y
      = rowOut m c b s n := by
  idx_vars y
  have eb : (⟨t.val / 4, by have := lt_N t; omega⟩ : Fin 32) = b := Fin.ext hb.symm
  rw [eb]
  obtain rfl := Fin.ext hn
  exact tile_read m c t _ _ b s hb hs

/-- The block point `t` leaves in the output's buffer. -/
theorem block (c : Dev nD) (t : Fin cfg0.N) : (outsAt0 m c t.val t.isLt).1 =
    tile (iblk m c 0 t) (iblk m c 1 t) (iblk m c 2 t) (iblk m c 3 t) (iblk m c 7 t) (iblk m c 8 t)
      (keysOf m c ⟨t.val / 4, by have := lt_N t; omega⟩) (valuesOf m c ⟨t.val / 4, by have := lt_N t; omega⟩) := by
  by_cases h0 : t.val % 4 = 0
  · rw [outsAt0_A m c t h0]
    dsimp only
    rw [outA, keys_read, values_read]
  · rw [outsAt0_B m c t h0]
    dsimp only
    rw [outB]
    obtain ⟨i1, i2⟩ := scratch m c (t.val - 1) (Nat.lt_of_le_of_lt (Nat.sub_le _ _) t.isLt)
    have e : (⟨(t.val - 1) / 4, by have := lt_N t; omega⟩ : Fin 32) = ⟨t.val / 4, by have := lt_N t; omega⟩ :=
      Fin.ext (by dsimp only; omega)
    rw [e] at i1 i2
    rw [i1, i2]

theorem final (c : Dev nD) : (dats m 0 c).arrAt 9 cfg0.N = result m c := by
  refine (dats m 0 c).arrAt_eq_of_covers 9 _ (by decide +kernel) fun t hf y => ?_
  have e := idx_rows t
  have ht := lt_N t
  blk_simp
  rw [after0_9, block]
  refine tile_read' m c t _ _ _ _ ?_ ?_ ?_ <;> blk_simp [e]
  all_goals (try dsimp only [Fin.isValue, Matrix.cons_val_zero, Matrix.cons_val_one, Matrix.cons_val])
  all_goals idx_bounds_all
  all_goals omega

/-- The run: the result, the arguments unchanged. -/
theorem run : θ_run defs (onTc (τ := τ) (main (F := Ideal))) ⟨m, fun _ => 0, ρ⟩ fun r => ∀ c : Dev nD,
    r.2.mem ((c : Thread nD τ).loc main_v8) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) := by
  refine (θ_run defs _ _).mono (fun _ h c => ?_) (Value.run_blocks m ρ)
  obtain ⟨h9, ha⟩ := h c
  exact ⟨h9.trans (final m c), ha⟩

end Cert.OutIdeal.Whole
end
-- ==== Proof.Reals.lean ====
/- Extended reals that are real numbers: the operations that keep them so, and the two ways of normalising a weighted
   sum. -/
module

public import Idealize.ShloMosaic.PureOps.Ideal
public import Idealize.ShloMosaic.Lib.IdealHost

@[expose] public section

noncomputable section

open Idealize.ShloMosaic

namespace Cert.Reals

/-- The extended real is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_of_ne {x : EReal} (ht : x ≠ ⊤) (hb : x ≠ ⊥) : IsReal x := ⟨x.toReal, (EReal.coe_toReal ht hb).symm⟩

/-- An extended real whose absolute value is below `⊤` is real. -/
theorem isReal_of_abs_lt {x : EReal} (h : max x (-x) < ⊤) : IsReal x := by
  refine isReal_of_ne (fun e => ?_) (fun e => ?_) <;> subst e <;> simp at h

/-- The exponential of a real is a positive real. -/
theorem exp_coe (r : ℝ) : Ideal.exp (r : EReal) = ((Real.exp r : ℝ) : EReal) := rfl

theorem exp_nonneg (x : EReal) : 0 ≤ Ideal.exp x := by
  induction x with
  | bot => exact le_refl _
  | top => exact le_top
  | coe r => rw [exp_coe]; exact_mod_cast (Real.exp_pos r).le

/-- The reciprocal root of a positive real is a real. -/
theorem IsReal.rsqrt {x : EReal} (hx : IsReal x) (h : 0 < x) : IsReal (Ideal.rsqrt x) := by
  obtain ⟨a, rfl⟩ := hx
  have ha : 0 < a := by exact_mod_cast h
  refine ⟨(Real.sqrt a)⁻¹, ?_⟩
  show (if a < 0 then (⊥ : EReal) else if a = 0 then ⊤ else (((Real.sqrt a)⁻¹ : ℝ) : EReal)) = _
  rw [if_neg (not_lt.2 ha.le), if_neg ha.ne']

theorem IsReal.div {x y : EReal} (hx : IsReal x) (hy : IsReal y) (h : y ≠ 0) : IsReal (Ideal.div x y) := by
  obtain ⟨a, rfl⟩ := hx
  obtain ⟨b, rfl⟩ := hy
  refine ⟨a * b⁻¹, ?_⟩
  rw [Ideal.div, if_neg h, EReal.coe_mul, EReal.coe_inv]

/-- A sum times a non-negative number that is not `⊤` is the sum of the products. -/
theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The inverse of an extended real is never `⊤`. -/
theorem inv_ne_top (x : EReal) : x⁻¹ ≠ ⊤ := by
  induction x with
  | bot => simp
  | top => simp
  | coe r => rw [← EReal.coe_inv]; exact EReal.coe_ne_top _

/-- A weighted sum divided by the weights' sum afterwards is the sum weighted by the divided weights, for non-negative
    weights whose sum is not zero. -/
theorem normalise {ι : Type} [Fintype ι] (w v : ι → EReal) (h0 : ∀ i, 0 ≤ w i) (hl : ∑ i, w i ≠ 0) :
    (∑ i, w i * v i) * Ideal.div 1 (∑ i, w i) = ∑ i, v i * Ideal.div (w i) (∑ i, w i) := by
  have hs : 0 ≤ ∑ i, w i := Finset.sum_nonneg fun i _ => h0 i
  have e (x : EReal) : Ideal.div x (∑ i, w i) = x * (∑ i, w i)⁻¹ := by rw [Ideal.div, if_neg hl]
  rw [e, one_mul, sum_mul _ _ (EReal.inv_nonneg_of_nonneg hs) (inv_ne_top _)]
  refine Finset.sum_congr rfl fun i _ => ?_
  rw [e, mul_comm (w i) (v i), mul_assoc]

/-- A fold of maxima from `⊥` over a nonempty set is one of its members. -/
theorem fold_max_mem {ι : Type} (s : Finset ι) (hs : s.Nonempty) (f : ι → EReal) : ∃ i ∈ s, Finset.fold max ⊥ f s = f i := by
  classical
  induction s using Finset.induction_on with
  | empty => exact absurd hs (by simp)
  | insert a s ha ih =>
    rw [Finset.fold_insert ha]
    rcases s.eq_empty_or_nonempty with rfl | h
    · exact ⟨a, by simp, by simp⟩
    · obtain ⟨i, hi, e⟩ := ih h
      rw [e]
      rcases max_choice (f a) (f i) with h' | h'
      · exact ⟨a, by simp, h'⟩
      · exact ⟨i, by simp [hi], h'⟩

/-- The exponentials of the distances of real numbers to their largest do not add up to zero. -/
theorem sum_exp_ne_zero {ι : Type} [Fintype ι] [Nonempty ι] (s : ι → EReal) (hs : ∀ i, IsReal (s i)) :
    ∑ i, Ideal.exp (s i - Finset.fold max ⊥ s Finset.univ) ≠ 0 := by
  obtain ⟨i, -, e⟩ := fold_max_mem Finset.univ Finset.univ_nonempty s
  have h1 : Ideal.exp (s i - Finset.fold max ⊥ s Finset.univ) ≤ ∑ i, Ideal.exp (s i - Finset.fold max ⊥ s Finset.univ) :=
    Finset.single_le_sum (f := fun i => Ideal.exp (s i - Finset.fold max ⊥ s Finset.univ)) (fun j _ => exp_nonneg _) (Finset.mem_univ i)
  have h2 : (0 : EReal) < Ideal.exp (s i - Finset.fold max ⊥ s Finset.univ) := by
    rw [e]
    obtain ⟨a, ha⟩ := hs i
    rw [ha, ← EReal.coe_sub, exp_coe]
    exact_mod_cast Real.exp_pos _
  exact (h2.trans_le h1).ne'

/-! ## The constants -/

/-- The word of minus infinity. -/
theorem ofBits_bot : Ideal.ofBits .f32 4286578688#32 = ⊥ := by simp [Ideal.ofBits, Ideal.ieee]

/-- The word of infinity. -/
theorem ofBits_top : Ideal.ofBits .f32 0x7F800000#32 = ⊤ := by simp [Ideal.ofBits, Ideal.ieee]

/-- The word of 1024. -/
theorem ofBits_1024 : Ideal.ofBits .f32 1149239296#32 = ((1024 : ℝ) : EReal) := by
  simp [Ideal.ofBits, Ideal.ieee, -EReal.coe_mul]; norm_num

/-- The norm's small constant is a positive real. -/
theorem ofBits_eps : ∃ e : ℝ, Ideal.ofBits .f32 897988541#32 = (e : EReal) ∧ 0 < e :=
  ⟨_, by simp only [Ideal.ofBits, Ideal.ieee]; rw [if_neg (by decide), if_neg (by decide)], by
    have : (897988541#32).extractLsb' 31 1 = 0#1 := by decide
    simp [this]⟩

/-- The scores' scale is a real. -/
theorem ofBits_scale : ∃ e : ℝ, Ideal.ofBits .f32 1035273459#32 = (e : EReal) :=
  ⟨_, by simp only [Ideal.ofBits, Ideal.ieee]; rw [if_neg (by decide), if_neg (by decide)]⟩

end Cert.Reals
end
-- ==== Proof.OutRef.lean ====
/- The reference of the output call read entry by entry over the extended reals. -/
module

public import proofs.«01_k».proof.Proof.OutBlock
public import proofs.«01_k».proof.Proof.Reals
public import proofs.«01_k».proof.Proof.Gen.OutRefIdeal.Run

@[expose] public section

set_option maxRecDepth 16384

noncomputable section

open Idealize.ShloMosaic Idealize.ShloMosaic.TcCoe Idealize.SL.Sem

namespace Cert.OutRefIdeal.Read

open Cert.OutRefIdeal Cert.OutRefIdeal.Gen
open Cert.OutIdeal.Block (score weight gate resid keyval)

/-- A row's maximum from `⊥` is the fold of its entries. -/
theorem rowmax_apply (v : FVec Ideal S32x4x2048x256 .f32) (b : Fin 32) (h : Fin 4) (s : Fin 2048) :
    Host.reduce FloatOps.maximumf v (constant S_ .f32 0xFF800000#32) reducesTo_S32x4x2048x256_S32x4x2048_d3 h_S_ (ix3 b h s)
      = Finset.fold max (Ideal.ofBits .f32 4286578688#32) (fun j => v (ix4 b h s j)) Finset.univ := by
  simp only [pointwise]

/-- Taking it against `⊥` once more changes nothing. -/
theorem topmax_apply (v : FVec Ideal S32x4x2048x256 .f32) (b : Fin 32) (h : Fin 4) (s : Fin 2048) :
    (maximumf (broadcastInDim S32x4x2048 ![] bcast_S_S32x4x2048 (constant S_ .f32 0xFF800000#32))
      (Host.reduce FloatOps.maximumf v (constant S_ .f32 0xFF800000#32) reducesTo_S32x4x2048x256_S32x4x2048_d3 h_S_)
      : FVec Ideal S32x4x2048 .f32) (ix3 b h s)
      = Finset.fold max (Ideal.ofBits .f32 4286578688#32) (fun j => v (ix4 b h s j)) Finset.univ := by
  have hm (x y : FVec Ideal S32x4x2048 .f32) (i : S32x4x2048.Idx) : maximumf x y i = max (x i) (y i) := rfl
  have hc (i : S32x4x2048.Idx) : (broadcastInDim S32x4x2048 ![] bcast_S_S32x4x2048 (constant S_ .f32 0xFF800000#32) : FVec Ideal S32x4x2048 .f32) i
      = Ideal.ofBits .f32 4286578688#32 := rfl
  rw [hm, hc, rowmax_apply]
  generalize (fun j => v (ix4 b h s j)) = f
  generalize Ideal.ofBits .f32 4286578688#32 = c
  exact max_eq_right ((Finset.le_fold_max _).2 (Or.inl le_rfl))

/-- The keys and values: the normalised memory times their weight. -/
def kv (mem : FVec Ideal S32x256x1024 .f32) (gm : FVec Ideal S1x1024 .f32) (wkv : FVec Ideal S1x1024x1024 .f32) :
    FVec Ideal S32x256x1024 .f32 :=
  Host.dotGeneral dot_S32x256x1024_S1024x1024_S32x256x1024_2_0_01_1_n_n none (mulf (mulf mem (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf mem mem) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast S1024 gm shapeCasts_S1x1024_S1024)))) (shapeCast S1024x1024 wkv shapeCasts_S1x1024x1024_S1024x1024)

/-- Its entries. -/
theorem kv_apply (mem : FVec Ideal S32x256x1024 .f32) (gm : FVec Ideal S1x1024 .f32) (wkv : FVec Ideal S1x1024x1024 .f32)
    (b : Fin 32) (j : Fin 256) (n : Fin 1024) :
    kv mem gm wkv (ix3 b j n) = keyval (fun k => mem (ix3 b j k)) (fun k => gm (ix2 0 k)) (fun k n => wkv (ix3 0 k n)) n := by
  pointwise [kv, keyval, Cert.OutIdeal.Block.norm]

/-- The queries and gates, batch by batch. -/
def pxs (px : FVec Ideal S65536x1024 .bf16) :
    FVec Ideal S32x2048x1024 .f32 :=
  shapeCast S32x2048x1024 (extf .f32 px bitsLt_bf16_f32) shapeCasts_S65536x1024_S32x2048x1024

/-- Its entries. -/
theorem pxs_apply (px : FVec Ideal S65536x1024 .bf16)
    (b : Fin 32) (s : Fin 2048) (n : Fin 1024) :
    pxs px (ix3 b s n) = px (ix2 ⟨2048 * b.val + s.val, by omega⟩ n) := by
  pointwise [pxs]
  simp only [Nat.mul_comm]

/-- The queries, head by head. -/
def qh (px : FVec Ideal S65536x1024 .bf16) :
    FVec Ideal S32x2048x4x128 .f32 :=
  shapeCast S32x2048x4x128 (extractStridedSlice S32x2048x512 ![0, 0, 0] (pxs px) slices_S32x2048x1024_S32x2048x512_0_0_0) shapeCasts_S32x2048x512_S32x2048x4x128

/-- Its entries. -/
theorem qh_apply (px : FVec Ideal S65536x1024 .bf16)
    (b : Fin 32) (s : Fin 2048) (h : Fin 4) (d : Fin 128) :
    qh px (ix4 b s h d) = px (ix2 ⟨2048 * b.val + s.val, by omega⟩ ⟨128 * h.val + d.val, by omega⟩) := by
  pointwise [qh, pxs_apply]
  simp only [Nat.mul_comm]

/-- The keys, head by head. -/
def kh (mem : FVec Ideal S32x256x1024 .f32) (gm : FVec Ideal S1x1024 .f32) (wkv : FVec Ideal S1x1024x1024 .f32) :
    FVec Ideal S32x256x4x128 .f32 :=
  shapeCast S32x256x4x128 (extractStridedSlice S32x256x512 ![0, 0, 0] (kv mem gm wkv) slices_S32x256x1024_S32x256x512_0_0_0) shapeCasts_S32x256x512_S32x256x4x128

/-- Its entries. -/
theorem kh_apply (mem : FVec Ideal S32x256x1024 .f32) (gm : FVec Ideal S1x1024 .f32) (wkv : FVec Ideal S1x1024x1024 .f32)
    (b : Fin 32) (j : Fin 256) (h : Fin 4) (d : Fin 128) :
    kh mem gm wkv (ix4 b j h d) = kv mem gm wkv (ix3 b j ⟨128 * h.val + d.val, by omega⟩) := by
  pointwise [kh]
  simp only [Nat.mul_comm]

/-- The values, head by head. -/
def vh (mem : FVec Ideal S32x256x1024 .f32) (gm : FVec Ideal S1x1024 .f32) (wkv : FVec Ideal S1x1024x1024 .f32) :
    FVec Ideal S32x256x4x128 .f32 :=
  shapeCast S32x256x4x128 (extractStridedSlice S32x256x512 ![0, 0, 512] (kv mem gm wkv) slices_S32x256x1024_S32x256x512_0_0_512) shapeCasts_S32x256x512_S32x256x4x128

/-- Its entries. -/
theorem vh_apply (mem : FVec Ideal S32x256x1024 .f32) (gm : FVec Ideal S1x1024 .f32) (wkv : FVec Ideal S1x1024x1024 .f32)
    (b : Fin 32) (j : Fin 256) (h : Fin 4) (d : Fin 128) :
    vh mem gm wkv (ix4 b j h d) = kv mem gm wkv (ix3 b j ⟨512 + (128 * h.val + d.val), by omega⟩) := by
  pointwise [vh]
  simp only [Nat.mul_comm]

/-- The scaled scores. -/
def scores (px : FVec Ideal S65536x1024 .bf16) (mem : FVec Ideal S32x256x1024 .f32) (gm : FVec Ideal S1x1024 .f32) (wkv : FVec Ideal S1x1024x1024 .f32) :
    FVec Ideal S32x4x2048x256 .f32 :=
  mulf (Host.dotGeneral dot_S32x2048x4x128_S32x256x4x128_S32x4x2048x256_3_3_1_1_02_02 none (qh px) (kh mem gm wkv)) (broadcastInDim S32x4x2048x256 ![] bcast_S_S32x4x2048x256 (constant S_ .f32 0x3DB504F3#32))

/-- Its entries. -/
theorem scores_apply (px : FVec Ideal S65536x1024 .bf16) (mem : FVec Ideal S32x256x1024 .f32) (gm : FVec Ideal S1x1024 .f32) (wkv : FVec Ideal S1x1024x1024 .f32)
    (b : Fin 32) (h : Fin 4) (s : Fin 2048) (j : Fin 256) :
    scores px mem gm wkv (ix4 b h s j) = score (fun k => px (ix2 ⟨2048 * b.val + s.val, by omega⟩ ⟨k.val, by omega⟩)) (fun j k => kv mem gm wkv (ix3 b j ⟨k.val, by omega⟩)) h j := by
  pointwise [scores, qh_apply, kh_apply, score]

/-- Each row's largest score. -/
def tops (px : FVec Ideal S65536x1024 .bf16) (mem : FVec Ideal S32x256x1024 .f32) (gm : FVec Ideal S1x1024 .f32) (wkv : FVec Ideal S1x1024x1024 .f32) :
    FVec Ideal S32x4x2048 .f32 :=
  maximumf (broadcastInDim S32x4x2048 ![] bcast_S_S32x4x2048 (constant S_ .f32 0xFF800000#32)) (Host.reduce FloatOps.maximumf (scores px mem gm wkv) (constant S_ .f32 0xFF800000#32) reducesTo_S32x4x2048x256_S32x4x2048_d3 h_S_)

/-- Its entries. -/
theorem tops_apply (px : FVec Ideal S65536x1024 .bf16) (mem : FVec Ideal S32x256x1024 .f32) (gm : FVec Ideal S1x1024 .f32) (wkv : FVec Ideal S1x1024x1024 .f32)
    (b : Fin 32) (h : Fin 4) (s : Fin 2048) :
    tops px mem gm wkv (ix3 b h s) = Finset.fold max (Ideal.ofBits .f32 4286578688#32) (fun j => scores px mem gm wkv (ix4 b h s j)) Finset.univ := by
  exact topmax_apply _ b h s

/-- The exponentials of the scores' distances to their row's largest. -/
def weights (px : FVec Ideal S65536x1024 .bf16) (mem : FVec Ideal S32x256x1024 .f32) (gm : FVec Ideal S1x1024 .f32) (wkv : FVec Ideal S1x1024x1024 .f32) :
    FVec Ideal S32x4x2048x256 .f32 :=
  Host.exp (subf (scores px mem gm wkv) (broadcastInDim S32x4x2048x256 ![0, 1, 2, 3] bcast_S32x4x2048x1_S32x4x2048x256_0_1_2_3 (broadcastInDim S32x4x2048x1 ![0, 1, 2] bcast_S32x4x2048_S32x4x2048x1_0_1_2 (tops px mem gm wkv))))

/-- Its entries. -/
theorem weights_apply (px : FVec Ideal S65536x1024 .bf16) (mem : FVec Ideal S32x256x1024 .f32) (gm : FVec Ideal S1x1024 .f32) (wkv : FVec Ideal S1x1024x1024 .f32)
    (b : Fin 32) (h : Fin 4) (s : Fin 2048) (j : Fin 256) :
    weights px mem gm wkv (ix4 b h s j) = weight (fun j => scores px mem gm wkv (ix4 b h s j)) j := by
  pointwise [weights, tops_apply, weight]

/-- The weights divided by their row's sum. -/
def probs (px : FVec Ideal S65536x1024 .bf16) (mem : FVec Ideal S32x256x1024 .f32) (gm : FVec Ideal S1x1024 .f32) (wkv : FVec Ideal S1x1024x1024 .f32) :
    FVec Ideal S32x4x2048x256 .f32 :=
  Host.divf (weights px mem gm wkv) (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduceAdd (weights px mem gm wkv) (constant S_ .f32 0x00000000#32) reducesTo_S32x4x2048x256_S32x4x2048_d3 h_S_)))

/-- Its entries. -/
theorem probs_apply (px : FVec Ideal S65536x1024 .bf16) (mem : FVec Ideal S32x256x1024 .f32) (gm : FVec Ideal S1x1024 .f32) (wkv : FVec Ideal S1x1024x1024 .f32)
    (b : Fin 32) (h : Fin 4) (s : Fin 2048) (j : Fin 256) :
    probs px mem gm wkv (ix4 b h s j) = Ideal.div (weights px mem gm wkv (ix4 b h s j)) (∑ j : Fin 256, weights px mem gm wkv (ix4 b h s j)) := by
  pointwise [probs]

/-- The heads' outputs side by side. -/
def heads (px : FVec Ideal S65536x1024 .bf16) (mem : FVec Ideal S32x256x1024 .f32) (gm : FVec Ideal S1x1024 .f32) (wkv : FVec Ideal S1x1024x1024 .f32) :
    FVec Ideal S32x2048x512 .f32 :=
  shapeCast S32x2048x512 (transpose S32x2048x4x128 [0, 3, 1, 2] (Host.dotGeneral dot_S32x256x4x128_S32x4x2048x256_S32x4x128x2048_1_3_3_2_02_01 none (vh mem gm wkv) (probs px mem gm wkv)) transposes_S32x4x128x2048_S32x2048x4x128_0_3_1_2) shapeCasts_S32x2048x4x128_S32x2048x512

/-- Its entries. -/
theorem heads_apply (px : FVec Ideal S65536x1024 .bf16) (mem : FVec Ideal S32x256x1024 .f32) (gm : FVec Ideal S1x1024 .f32) (wkv : FVec Ideal S1x1024x1024 .f32)
    (b : Fin 32) (s : Fin 2048) (k : Fin 512) :
    heads px mem gm wkv (ix3 b s k) = ∑ j : Fin 256, vh mem gm wkv (ix4 b j ⟨k.val / 128, by omega⟩ ⟨k.val % 128, by omega⟩) * probs px mem gm wkv (ix4 b ⟨k.val / 128, by omega⟩ s j) := by
  pointwise [heads]

/-- The gates. -/
def zs (px : FVec Ideal S65536x1024 .bf16) :
    FVec Ideal S32x2048x512 .f32 :=
  extractStridedSlice S32x2048x512 ![0, 0, 512] (pxs px) slices_S32x2048x1024_S32x2048x512_0_0_512

/-- Its entries. -/
theorem zs_apply (px : FVec Ideal S65536x1024 .bf16)
    (b : Fin 32) (s : Fin 2048) (k : Fin 512) :
    zs px (ix3 b s k) = px (ix2 ⟨2048 * b.val + s.val, by omega⟩ ⟨512 + k.val, by omega⟩) := by
  pointwise [zs, pxs_apply]

/-- The heads' outputs times the gate and its logistic. -/
def gated (px : FVec Ideal S65536x1024 .bf16) (mem : FVec Ideal S32x256x1024 .f32) (gm : FVec Ideal S1x1024 .f32) (wkv : FVec Ideal S1x1024x1024 .f32) :
    FVec Ideal S32x2048x512 .f32 :=
  mulf (heads px mem gm wkv) (mulf (zs px) (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (zs px))))))

/-- Its entries. -/
theorem gated_apply (px : FVec Ideal S65536x1024 .bf16) (mem : FVec Ideal S32x256x1024 .f32) (gm : FVec Ideal S1x1024 .f32) (wkv : FVec Ideal S1x1024x1024 .f32)
    (b : Fin 32) (s : Fin 2048) (k : Fin 512) :
    gated px mem gm wkv (ix3 b s k) = heads px mem gm wkv (ix3 b s k) * (zs px (ix3 b s k) * Ideal.div 1 (1 + Ideal.exp (-zs px (ix3 b s k)))) := by
  pointwise [gated, Idealize.ShloMosaic.Ideal.ofBits_one_f32]

/-- The dilated heads' outputs side by side. -/
def attn (ya : FVec Ideal S32x4x2048x128 .bf16) :
    FVec Ideal S32x2048x512 .f32 :=
  shapeCast S32x2048x512 (transpose S32x2048x4x128 [0, 2, 1, 3] (extf .f32 ya bitsLt_bf16_f32) transposes_S32x4x2048x128_S32x2048x4x128_0_2_1_3) shapeCasts_S32x2048x4x128_S32x2048x512

/-- Its entries. -/
theorem attn_apply (ya : FVec Ideal S32x4x2048x128 .bf16)
    (b : Fin 32) (s : Fin 2048) (k : Fin 512) :
    attn ya (ix3 b s k) = ya (ix4 b ⟨k.val / 128, by omega⟩ s ⟨k.val % 128, by omega⟩) := by
  pointwise [attn]

/-- The recurrent heads' outputs, batch by batch. -/
def mlstm (ym : FVec Ideal S65536x1024 .bf16) :
    FVec Ideal S32x2048x1024 .f32 :=
  shapeCast S32x2048x1024 (extf .f32 ym bitsLt_bf16_f32) shapeCasts_S65536x1024_S32x2048x1024

/-- Its entries. -/
theorem mlstm_apply (ym : FVec Ideal S65536x1024 .bf16)
    (b : Fin 32) (s : Fin 2048) (n : Fin 1024) :
    mlstm ym (ix3 b s n) = ym (ix2 ⟨2048 * b.val + s.val, by omega⟩ n) := by
  pointwise [mlstm]
  simp only [Nat.mul_comm]

/-- The three parts side by side times the output weight. -/
def mix (ym : FVec Ideal S65536x1024 .bf16) (ya : FVec Ideal S32x4x2048x128 .bf16) (px : FVec Ideal S65536x1024 .bf16) (mem : FVec Ideal S32x256x1024 .f32) (gm : FVec Ideal S1x1024 .f32) (wkv : FVec Ideal S1x1024x1024 .f32) (wo : FVec Ideal S1x2048x1024 .f32) :
    FVec Ideal S32x2048x1024 .f32 :=
  Host.dotGeneral (φ₁ := .f32) (φ₂ := .f32) dot_S32x2048x2048_S2048x1024_S32x2048x1024_2_0_01_1_n_n none ((concatenate S32x2048x2048 2 [⟨S32x2048x1024, ((mlstm ym) : (⟨S32x2048x1024, .f32⟩ : BufTy).Contents (Elt Ideal))⟩, ⟨S32x2048x512, ((attn ya) : (⟨S32x2048x512, .f32⟩ : BufTy).Contents (Elt Ideal))⟩, ⟨S32x2048x512, ((gated px mem gm wkv) : (⟨S32x2048x512, .f32⟩ : BufTy).Contents (Elt Ideal))⟩] concatenates_S32x2048x1024_S32x2048x512_S32x2048x512_S32x2048x2048_d2 : (⟨S32x2048x2048, .f32⟩ : BufTy).Contents (Elt Ideal))) (shapeCast S2048x1024 wo shapeCasts_S1x2048x1024_S2048x1024 : FVec Ideal S2048x1024 .f32)

/-- Its entries. -/
theorem mix_apply (ym : FVec Ideal S65536x1024 .bf16) (ya : FVec Ideal S32x4x2048x128 .bf16) (px : FVec Ideal S65536x1024 .bf16) (mem : FVec Ideal S32x256x1024 .f32) (gm : FVec Ideal S1x1024 .f32) (wkv : FVec Ideal S1x1024x1024 .f32) (wo : FVec Ideal S1x2048x1024 .f32)
    (b : Fin 32) (s : Fin 2048) (n : Fin 1024) :
    mix ym ya px mem gm wkv wo (ix3 b s n) = ∑ k : Fin 2048, (if h : k.val < 1024 then mlstm ym (ix3 b s ⟨k.val, h⟩)
      else if h : k.val - 1024 < 512 then attn ya (ix3 b s ⟨k.val - 1024, h⟩)
      else gated px mem gm wkv (ix3 b s ⟨k.val - 1024 - 512, by omega⟩)) * wo (ix3 0 k n) := by
  pointwise [mix]

/-- The residual rows. -/
def row (x : FVec Ideal S32x2048x1024 .f32) (ym : FVec Ideal S65536x1024 .bf16) (ya : FVec Ideal S32x4x2048x128 .bf16) (px : FVec Ideal S65536x1024 .bf16) (mem : FVec Ideal S32x256x1024 .f32) (gm : FVec Ideal S1x1024 .f32) (wkv : FVec Ideal S1x1024x1024 .f32) (wo : FVec Ideal S1x2048x1024 .f32) :
    FVec Ideal S32x2048x1024 .f32 :=
  addf x (mix ym ya px mem gm wkv wo)

/-- Its entries. -/
theorem row_apply (x : FVec Ideal S32x2048x1024 .f32) (ym : FVec Ideal S65536x1024 .bf16) (ya : FVec Ideal S32x4x2048x128 .bf16) (px : FVec Ideal S65536x1024 .bf16) (mem : FVec Ideal S32x256x1024 .f32) (gm : FVec Ideal S1x1024 .f32) (wkv : FVec Ideal S1x1024x1024 .f32) (wo : FVec Ideal S1x2048x1024 .f32)
    (b : Fin 32) (s : Fin 2048) (n : Fin 1024) :
    row x ym ya px mem gm wkv wo (ix3 b s n) = x (ix3 b s n) + mix ym ya px mem gm wkv wo (ix3 b s n) := by
  pointwise [row]

/-- The reference's result: the residual rows, normalised. -/
def whole (x : FVec Ideal S32x2048x1024 .f32) (ym : FVec Ideal S65536x1024 .bf16) (ya : FVec Ideal S32x4x2048x128 .bf16) (px : FVec Ideal S65536x1024 .bf16) (mem : FVec Ideal S32x256x1024 .f32) (gm : FVec Ideal S1x1024 .f32) (wkv : FVec Ideal S1x1024x1024 .f32) (wo : FVec Ideal S1x2048x1024 .f32) (gf : FVec Ideal S1024 .f32) :
    FVec Ideal S65536x1024 .f32 :=
  shapeCast S65536x1024 (mulf (mulf (row x ym ya px mem gm wkv wo) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (row x ym ya px mem gm wkv wo) (row x ym ya px mem gm wkv wo)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 gf))) shapeCasts_S32x2048x1024_S65536x1024

/-- Its entries are the normalised residual rows. -/
theorem whole_apply (x : FVec Ideal S32x2048x1024 .f32) (ym : FVec Ideal S65536x1024 .bf16) (ya : FVec Ideal S32x4x2048x128 .bf16) (px : FVec Ideal S65536x1024 .bf16) (mem : FVec Ideal S32x256x1024 .f32) (gm : FVec Ideal S1x1024 .f32) (wkv : FVec Ideal S1x1024x1024 .f32) (wo : FVec Ideal S1x2048x1024 .f32) (gf : FVec Ideal S1024 .f32)
    (t : Fin 65536) (n : Fin 1024) :
    whole x ym ya px mem gm wkv wo gf (ix2 t n) = Cert.OutIdeal.Block.norm (fun k => row x ym ya px mem gm wkv wo (ix3 ⟨t.val / 2048, by omega⟩ ⟨t.val % 2048, by omega⟩ k))
      (fun k => gf (ix1 k)) n := by
  pointwise [whole, Cert.OutIdeal.Block.norm]

/-- The result the run leaves is that array. -/
theorem res_eq (m : (ℓ : Loc nD τ sig) → Buf (Elt Ideal) ℓ) (c : Dev nD) :
    Cert.OutRefIdeal.Value.res_main_v66 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.OutRefIdeal.Value.res_main_v66 whole row mix mlstm attn gated zs heads probs weights scores vh kh qh pxs kv
  rfl

end Cert.OutRefIdeal.Read
end
-- ==== Proof.OutClaims.lean ====
/- The claims about the output call: on finite queries, memory, gain and key/value weight its array is the
   reference's. -/
module

public import proofs.«01_k».proof.Defs
public import proofs.«01_k».proof.Proof.OutValue
public import proofs.«01_k».proof.Proof.OutRef
public import proofs.«01_k».proof.Proof.Gen.Out.Frame
public import Idealize.ShloMosaic.Lib.Quiescent

@[expose] public section

set_option maxRecDepth 16384

noncomputable section

open Idealize.ShloMosaic Idealize.ShloMosaic.TcCoe Idealize.SL.Sem

namespace Cert.Proof.OutClaims

open Cert.Reals
open Cert.OutIdeal.Block (score weight head gate mixed resid keyval)

/-! ## Real scores -/

/-- A normalised row of reals, with a real gain, is real. -/
theorem isReal_norm (r g : Fin 1024 → EReal) (hr : ∀ k, IsReal (r k)) (hg : ∀ k, IsReal (g k)) (n : Fin 1024) :
    IsReal (Cert.OutIdeal.Block.norm r g n) := by
  have h1 : IsReal (Ideal.div (∑ k : Fin 1024, r k * r k) (Ideal.ofBits .f32 1149239296#32)) :=
    (IsReal.sum _ _ fun k _ => (hr k).mul (hr k)).div (ofBits_1024 ▸ isReal_coe _) (by rw [ofBits_1024]; norm_num)
  have h2 : 0 ≤ Ideal.div (∑ k : Fin 1024, r k * r k) (Ideal.ofBits .f32 1149239296#32) := by
    rw [ofBits_1024, Ideal.div, if_neg (by norm_num)]
    refine mul_nonneg (Finset.sum_nonneg fun k _ => ?_) (EReal.inv_nonneg_of_nonneg (by norm_num))
    obtain ⟨a, e⟩ := hr k
    rw [e, ← EReal.coe_mul]
    exact_mod_cast mul_self_nonneg a
  obtain ⟨e, he, hp⟩ := ofBits_eps
  have h3 : IsReal (Ideal.div (∑ k : Fin 1024, r k * r k) (Ideal.ofBits .f32 1149239296#32) + Ideal.ofBits .f32 897988541#32) :=
    h1.add ⟨e, he⟩
  refine ((hr n).mul (h3.rsqrt ?_)).mul (hg n)
  obtain ⟨a, ha⟩ := h1
  rw [ha] at h2 ⊢
  rw [he, ← EReal.coe_add]
  have : (0 : ℝ) ≤ a := by exact_mod_cast h2
  exact_mod_cast add_pos_of_nonneg_of_pos this hp

/-- So are the keys and values of real memory, gain and weight. -/
theorem isReal_keyval (mem g : Fin 1024 → EReal) (w : Fin 1024 → Fin 1024 → EReal) (hm : ∀ k, IsReal (mem k))
    (hg : ∀ k, IsReal (g k)) (hw : ∀ k n, IsReal (w k n)) (n : Fin 1024) : IsReal (keyval mem g w n) :=
  IsReal.sum _ _ fun k _ => (isReal_norm mem g hm hg k).mul (hw k n)

/-- And the scores of real queries against real keys. -/
theorem isReal_score (q : Fin 512 → EReal) (K : Fin 256 → Fin 512 → EReal) (hq : ∀ k, IsReal (q k))
    (hK : ∀ j k, IsReal (K j k)) (h : Fin 4) (j : Fin 256) : IsReal (score q K h j) := by
  obtain ⟨e, he⟩ := ofBits_scale
  exact (IsReal.sum _ _ fun d _ => (hq _).mul (hK _ _)).mul ⟨e, he⟩

/-! ## The two ways of normalising a head -/

/-- With real scores, a head divided by its weights' sum afterwards is the head of the divided weights. -/
theorem head_eq (q : Fin 512 → EReal) (K V : Fin 256 → Fin 512 → EReal) (hq : ∀ k, IsReal (q k))
    (hK : ∀ j k, IsReal (K j k)) (h : Fin 4) (d : Fin 128) :
    head q K V h d = ∑ j : Fin 256, V j ⟨128 * h.val + d.val, by omega⟩
      * Ideal.div (weight (score q K h) j) (∑ j : Fin 256, weight (score q K h) j) := by
  refine normalise (weight (score q K h)) (fun j => V j ⟨128 * h.val + d.val, by omega⟩) (fun j => exp_nonneg _) ?_
  have e := sum_exp_ne_zero (score q K h) (isReal_score q K hq hK h)
  simpa only [weight, ofBits_bot] using e

/-- A sum over 2048 of three parts side by side is the sum of the parts' sums. -/
theorem sum_parts (A : Fin 1024 → EReal) (B C : Fin 512 → EReal) (w : Fin 2048 → EReal) :
    (∑ k : Fin 2048, (if h : k.val < 1024 then A ⟨k.val, h⟩ else if h : k.val - 1024 < 512 then B ⟨k.val - 1024, h⟩
      else C ⟨k.val - 1024 - 512, by omega⟩) * w k)
    = (∑ k : Fin 1024, A k * w ⟨k.val, by omega⟩) + (∑ k : Fin 512, B k * w ⟨1024 + k.val, by omega⟩)
      + ∑ k : Fin 512, C k * w ⟨1536 + k.val, by omega⟩ := by
  refine (Fin.sum_univ_add (a := 1024 + 512) (b := 512) _).trans ?_
  refine congrArg₂ (· + ·) ((Fin.sum_univ_add (a := 1024) (b := 512) _).trans (congrArg₂ (· + ·) ?_ ?_)) ?_
  all_goals
    refine Finset.sum_congr rfl fun k _ => ?_
    have hk := k.isLt
    refine congrArg₂ (· * ·) ?_ (congrArg w (Fin.ext ?_))
  · rw [dif_pos (by simp)]; rfl
  · rfl
  · rw [dif_neg (by simp), dif_pos (by simp)]; exact congrArg B (Fin.ext (by simp))
  · rfl
  · rw [dif_neg (by simp; omega), dif_neg (by simp; omega)]; exact congrArg C (Fin.ext (by simp; omega))
  · rfl

/-! ## The finite inputs -/

/-- The facts the precondition's program states. -/
instance facts_pre : Cert.Pre_finite_scores.Facts where
  slices_S65536x1024_S65536x512_0_0 := by decide
  bitsLt_bf16_f32 := by decide
  bcast_S_S65536x512 := by decide
  bcast_S_S32x256x1024 := by decide
  bcast_S_S1x1024 := by decide
  bcast_S_S1x1024x1024 := by decide

/-- An entry whose absolute value compares below `⊤` is real. -/
theorem isReal_of_cmp {x : EReal} (h : Ideal.cmp .olt (max x (-x)) (Ideal.ofBits .f32 0x7F800000#32) = 1#1) : IsReal x := by
  rw [ofBits_top] at h
  refine isReal_of_abs_lt ?_
  by_contra hn
  simp [Ideal.cmp, hn] at h

open Cert.OutIdeal Cert.OutIdeal.Whole

variable (m : (ℓ : Loc nD τ sig) → Buf (Elt Ideal) ℓ)

/-- What the precondition says of the arrays. -/
theorem finite_of_pre (h : Cert.Pre_OutIdeal_finite_scores m) (c : Dev nD) :
    (∀ t : Fin 65536, ∀ k : Fin 512, IsReal (argP m c (ix2 t ⟨k.val, by omega⟩)))
    ∧ (∀ b j k, IsReal (argMem m c (ix3 b j k))) ∧ (∀ k, IsReal (argGm m c (ix2 0 k)))
    ∧ ∀ k n, IsReal (argWkv m c (ix3 0 k n)) := by
  obtain ⟨h1, h2, h3, h4⟩ := h c
  refine ⟨fun t k => isReal_of_cmp ?_, fun b j k => isReal_of_cmp (congrFun h2 (ix3 b j k)),
    fun k => isReal_of_cmp (congrFun h3 (ix2 0 k)), fun k n => isReal_of_cmp (congrFun h4 (ix3 0 k n))⟩
  have e := congrFun h1 (ix2 t k)
  have e' : (extractStridedSlice Cert.Pre_finite_scores.S65536x512 ![0, 0] (argP m c)
      facts_pre.slices_S65536x1024_S65536x512_0_0 : FVec Ideal Cert.Pre_finite_scores.S65536x512 .bf16) (ix2 t k)
      = argP m c (ix2 t ⟨k.val, by omega⟩) := by pointwise []
  rw [← e']
  exact e

/-! ## The two arrays -/

/-- On finite inputs the kernel's row is the reference's. -/
theorem row_eq (h : Cert.Pre_OutIdeal_finite_scores m) (c : Dev nD) (b : Fin 32) (s : Fin 2048) (n : Fin 1024) :
    rowOut m c b s n = Cert.OutIdeal.Block.norm (fun k => Cert.OutRefIdeal.Read.row (argX m c) (argM m c) (argA m c) (argP m c) (argMem m c)
      (argGm m c) (argWkv m c) (argWo m c) (ix3 b s k)) (fun k => argGf m c (ix1 k)) n := by
  obtain ⟨hP, hM, hG, hW⟩ := finite_of_pre m h c
  unfold rowOut
  refine congrArg (fun r => Cert.OutIdeal.Block.norm r (fun k => argGf m c (ix1 k)) n) (funext fun k => ?_)
  rw [Cert.OutRefIdeal.Read.row_apply, Cert.OutRefIdeal.Read.mix_apply]
  unfold resid
  refine congrArg (argX m c (ix3 b s k) + ·) (Eq.trans ?_ (sum_parts
    (fun i => Cert.OutRefIdeal.Read.mlstm (argM m c) (ix3 b s i)) (fun i => Cert.OutRefIdeal.Read.attn (argA m c) (ix3 b s i))
    (fun i => Cert.OutRefIdeal.Read.gated (argP m c) (argMem m c) (argGm m c) (argWkv m c) (ix3 b s i))
    (fun i => argWo m c (ix3 0 i k))).symm)
  refine congrArg₂ (· + ·) (congrArg₂ (· + ·) ?_ ?_) ?_
  · refine Finset.sum_congr rfl fun i _ => ?_
    rw [Cert.OutRefIdeal.Read.mlstm_apply]
  · refine Finset.sum_congr rfl fun i _ => ?_
    rw [Cert.OutRefIdeal.Read.attn_apply]
  · refine Finset.sum_congr rfl fun i _ => congrArg (· * argWo m c (ix3 0 ⟨1536 + i.val, by omega⟩ k)) ?_
    rw [Cert.OutRefIdeal.Read.gated_apply, Cert.OutRefIdeal.Read.heads_apply, Cert.OutRefIdeal.Read.zs_apply]
    unfold mixed gate
    rw [zero_sub]
    refine congrArg (· * _) ?_
    refine (head_eq _ _ _ (fun k => hP _ k) (fun j k => isReal_keyval _ _ _ (hM b j) hG hW _) _ _).trans ?_
    refine Finset.sum_congr rfl fun j _ => ?_
    rw [Cert.OutRefIdeal.Read.vh_apply, Cert.OutRefIdeal.Read.kv_apply]
    refine congrArg (kvOf m c b j _ * ·) ?_
    rw [Cert.OutRefIdeal.Read.probs_apply]
    have e (j : Fin 256) : Cert.OutRefIdeal.Read.weights (argP m c) (argMem m c) (argGm m c) (argWkv m c) (ix4 b ⟨i.val / 128, by omega⟩ s j)
        = weight (score (fun k => argP m c (ix2 ⟨2048 * b.val + s.val, by omega⟩ ⟨k.val, by omega⟩))
          (fun j k => kvOf m c b j ⟨k.val, by omega⟩) ⟨i.val / 128, by omega⟩) j := by
      rw [Cert.OutRefIdeal.Read.weights_apply]
      refine congrArg (weight · j) (funext fun j => ?_)
      rw [Cert.OutRefIdeal.Read.scores_apply]
      simp only [Cert.OutRefIdeal.Read.kv_apply]
      rfl
    simp only [e]
    rfl

/-- On finite inputs the kernel's array is the reference's. -/
theorem result_eq (h : Cert.Pre_OutIdeal_finite_scores m) (c : Dev nD) :
    result m c = Cert.OutRefIdeal.Read.whole (argX m c) (argM m c) (argA m c) (argP m c) (argMem m c)
      (argGm m c) (argWkv m c) (argWo m c) (argGf m c) := by
  funext j
  idx_vars j
  rw [Cert.OutRefIdeal.Read.whole_apply]
  exact row_eq m h c _ _ _

/-! ## The claims -/

/-- The output call's program ends with its arguments kept. -/
theorem frame_out : Cert.quiescent_Out := fun m ρ _ => Cert.Out.Gen.frame m ρ
/-- So does the ideal one, on any input … -/
theorem frame_out_ideal : Cert.quiescent_OutIdeal := fun m ρ _ => Cert.OutIdeal.Gen.frame m ρ
/-- … hence on the finite ones. -/
theorem frame_out_ideal_pre : Cert.quiescent_OutIdeal_pre_finite_scores := fun m ρ _ => Cert.OutIdeal.Gen.frame m ρ
/-- The reference ends with its arguments kept, on any input … -/
theorem frame_out_ref : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)
/-- … hence on the finite ones. -/
theorem frame_out_ref_pre : Cert.quiescent_OutRefIdeal_pre_finite_scores := fun m ρ _ => frame_out_ref m ρ trivial

/-- Nothing was rewritten. -/
theorem preserves_out : Cert.preserves_Out_OutIdeal := trivial

/-- On finite inputs the output call's array is the reference's, element by element. -/
theorem algebraic_out : Cert.algebraic_OutIdeal_OutRefIdeal_pre_finite_scores := by
  intro m ρ m' ρ' hpre hag
  refine ⟨fun c => result m c, run m ρ,
    (θ_run _ _ _).mono (fun _ h c => ?_) (Cert.OutRefIdeal.Value.run (F := Ideal) m' ρ')⟩
  obtain ⟨h0, ha⟩ := h c
  obtain ⟨e0, e1, e2, e3, e4, e5, e6, e7, e8⟩ := hag c
  refine ⟨h0.trans ?_, ha⟩
  rw [Cert.OutRefIdeal.Read.res_eq, e0, e1, e2, e3, e4, e5, e6, e7, e8]
  exact (result_eq m hpre c).symm

end Cert.Proof.OutClaims
end
-- ==== Proof.MlstmMath.lean ====
/- The matrix-memory recurrence over the real numbers: a chunk's output from the memory before it and the chunk's own
   rows, the memory it leaves, and the whole sequence taken as one chunk are all the same sums over earlier positions. -/
module

public import proofs.«01_k».proof.Proof.Reals

@[expose] public section

noncomputable section

open Idealize.ShloMosaic Cert.Reals

namespace Cert.Mlstm

/-! ## A chunk over the extended reals -/

/-- The log weight of row `j` at row `i`: later rows carry none. -/
def dlog {L : ℕ} (b ii : Fin L → EReal) (i j : Fin L) : EReal := if j ≤ i then b i - b j + ii j else ⊥

/-- The stabiliser of row `i`. -/
def stab {L : ℕ} (b ii : Fin L → EReal) (a : EReal) (i : Fin L) : EReal :=
  max a (Finset.fold max ⊥ (dlog b ii i) Finset.univ)

/-- The weight of row `j` at row `i`. -/
def wt {L D : ℕ} (b ii : Fin L → EReal) (q k : Fin L → Fin D → EReal) (μ : EReal) (i j : Fin L) : EReal :=
  Ideal.exp (dlog b ii i j - μ) * ∑ d, q i d * k j d

/-- A row's numerator. -/
def num {L D : ℕ} (b ii : Fin L → EReal) (q k v : Fin L → Fin D → EReal) (mp : EReal) (C : Fin D → Fin D → EReal)
    (i : Fin L) (e : Fin D) : EReal :=
  Ideal.exp (b i + mp - stab b ii (b i + mp) i) * (∑ d, q i d * C d e)
    + ∑ j, wt b ii q k (stab b ii (b i + mp) i) i j * v j e

/-- A row's denominator. -/
def den {L D : ℕ} (b ii : Fin L → EReal) (q k : Fin L → Fin D → EReal) (mp : EReal) (n : Fin D → EReal) (i : Fin L) : EReal :=
  Ideal.exp (b i + mp - stab b ii (b i + mp) i) * (∑ d, q i d * n d)
    + ∑ j, wt b ii q k (stab b ii (b i + mp) i) i j

/-- A row's output. -/
def hid {L D : ℕ} (b ii : Fin L → EReal) (q k v : Fin L → Fin D → EReal) (mp : EReal) (C : Fin D → Fin D → EReal)
    (n : Fin D → EReal) (i : Fin L) (e : Fin D) : EReal :=
  num b ii q k v mp C i e * Ideal.div 1 (max (max (den b ii q k mp n i) (-den b ii q k mp n i))
    (Ideal.exp (0 - stab b ii (b i + mp) i)))

/-- The stabiliser a chunk leaves. -/
def stabNext {L : ℕ} (b ii : Fin L → EReal) (bl mp : EReal) : EReal :=
  max (bl + mp) (Finset.fold max ⊥ (fun j => bl - b j + ii j) Finset.univ)

/-- The memory a chunk leaves. -/
def memNext {L D : ℕ} (b ii : Fin L → EReal) (k v : Fin L → Fin D → EReal) (bl mp : EReal) (C : Fin D → Fin D → EReal)
    (d e : Fin D) : EReal :=
  Ideal.exp (bl + mp - stabNext b ii bl mp) * C d e
    + ∑ j, Ideal.exp (bl - b j + ii j - stabNext b ii bl mp) * k j d * v j e

/-- The normaliser a chunk leaves. -/
def nrmNext {L D : ℕ} (b ii : Fin L → EReal) (k : Fin L → Fin D → EReal) (bl mp : EReal) (n : Fin D → EReal)
    (d : Fin D) : EReal :=
  Ideal.exp (bl + mp - stabNext b ii bl mp) * n d + ∑ j, Ideal.exp (bl - b j + ii j - stabNext b ii bl mp) * k j d

/-! ## The sums over the real numbers -/

section

variable {D : ℕ} (lf li : ℕ → ℝ) (Q K V : ℕ → Fin D → ℝ)

/-- The sum of the forget gates before position `t`. -/
def cum (t : ℕ) : ℝ := ∑ s ∈ Finset.range t, lf s

/-- The weight position `s` has at the boundary before position `t`. -/
def decay (t s : ℕ) : ℝ := Real.exp (cum lf t - cum lf (s + 1) + li s)

/-- The unstabilised memory before position `t`. -/
def memo (t : ℕ) (d e : Fin D) : ℝ := ∑ s ∈ Finset.range t, decay lf li t s * K s d * V s e

/-- The unstabilised normaliser before position `t`. -/
def nrm (t : ℕ) (d : Fin D) : ℝ := ∑ s ∈ Finset.range t, decay lf li t s * K s d

/-- The output at position `t`. -/
def out (t : ℕ) (e : Fin D) : ℝ :=
  (∑ d, Q t d * memo lf li K V (t + 1) d e) / max |∑ d, Q t d * nrm lf li K (t + 1) d| 1

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  Monotone.map_max (fun _ _ h => EReal.coe_le_coe_iff.2 h)

/-- The larger of a real and a fold of maxima of numbers that are not infinite is real. -/
theorem isReal_fold {ι : Type} (s : Finset ι) (f : ι → EReal) (hf : ∀ i ∈ s, f i ≠ ⊤) (a : ℝ) :
    IsReal (max (a : EReal) (Finset.fold max ⊥ f s)) := by
  have h : Finset.fold max ⊥ f s < ⊤ := (Finset.fold_max_lt _).2 ⟨bot_lt_top, fun i hi => lt_top_iff_ne_top.2 (hf i hi)⟩
  refine isReal_of_ne ?_ ?_
  · exact (max_lt (EReal.coe_lt_top a) h).ne
  · exact (lt_of_lt_of_le (EReal.bot_lt_coe a) (le_max_left _ _)).ne'

/-- The first positions and the next ones. -/
theorem sum_split (c0 n : ℕ) (f : ℕ → ℝ) :
    ∑ s ∈ Finset.range (c0 + n), f s = ∑ s ∈ Finset.range c0, f s + ∑ j ∈ Finset.range n, f (c0 + j) :=
  Finset.sum_range_add f c0 n

theorem sum_le {L : ℕ} (i : Fin L) (f : ℕ → ℝ) :
    ∑ j : Fin L, (if j ≤ i then f j.val else 0) = ∑ j ∈ Finset.range (i.val + 1), f j := by
  refine (Fin.sum_univ_eq_sum_range (fun j => if j ≤ i.val then f j else 0) L).trans ?_
  rw [← Finset.sum_filter]
  refine Finset.sum_congr ?_ fun _ _ => rfl
  ext j
  simp only [Finset.mem_filter, Finset.mem_range]
  have := i.isLt
  omega

theorem decay_shift (t u s : ℕ) : decay lf li u s = Real.exp (cum lf u - cum lf t) * decay lf li t s := by
  rw [decay, decay, ← Real.exp_add]; congr 1; ring

/-- The memory later is the memory now, decayed, and what the positions between add. -/
theorem memo_split (c0 n : ℕ) (d e : Fin D) :
    memo lf li K V (c0 + n) d e = Real.exp (cum lf (c0 + n) - cum lf c0) * memo lf li K V c0 d e
      + ∑ j ∈ Finset.range n, decay lf li (c0 + n) (c0 + j) * K (c0 + j) d * V (c0 + j) e := by
  rw [memo, sum_split, memo, Finset.mul_sum]
  congr 1
  refine Finset.sum_congr rfl fun s _ => ?_
  rw [decay_shift lf li c0 (c0 + n)]; ring

theorem nrm_split (c0 n : ℕ) (d : Fin D) :
    nrm lf li K (c0 + n) d = Real.exp (cum lf (c0 + n) - cum lf c0) * nrm lf li K c0 d
      + ∑ j ∈ Finset.range n, decay lf li (c0 + n) (c0 + j) * K (c0 + j) d := by
  rw [nrm, sum_split, nrm, Finset.mul_sum]
  congr 1
  refine Finset.sum_congr rfl fun s _ => ?_
  rw [decay_shift lf li c0 (c0 + n)]; ring

/-! ## A chunk's rows and what it leaves -/

/-- The carried memory, normaliser and stabiliser hold the sums before position `c0`. -/
def Carried (c0 : ℕ) (mp : EReal) (C : Fin D → Fin D → EReal) (n : Fin D → EReal) : Prop :=
  ∃ μ : ℝ, mp = (μ : EReal) ∧ (∀ d e, C d e = ((Real.exp (-μ) * memo lf li K V c0 d e : ℝ) : EReal))
    ∧ ∀ d, n d = ((Real.exp (-μ) * nrm lf li K c0 d : ℝ) : EReal)

theorem carried_zero : Carried lf li K V 0 0 (fun _ _ => 0) (fun _ => 0) :=
  ⟨0, rfl, fun d e => by simp [memo], fun d => by simp [nrm]⟩

variable {lf li Q K V}
variable {L : ℕ} {c0 : ℕ} {b ii : Fin L → EReal} {q k v : Fin L → Fin D → EReal}
  (hb : ∀ i : Fin L, b i = ((cum lf (c0 + i.val + 1) - cum lf c0 : ℝ) : EReal))
  (hi : ∀ i : Fin L, ii i = ((li (c0 + i.val) : ℝ) : EReal))
  (hq : ∀ (i : Fin L) d, q i d = ((Q (c0 + i.val) d : ℝ) : EReal))
  (hk : ∀ (i : Fin L) d, k i d = ((K (c0 + i.val) d : ℝ) : EReal))
  (hv : ∀ (i : Fin L) d, v i d = ((V (c0 + i.val) d : ℝ) : EReal))

include hb hi in
theorem stab_real (a : ℝ) (i : Fin L) : IsReal (stab b ii (a : EReal) i) := by
  refine isReal_fold _ _ (fun j _ => ?_) a
  unfold dlog
  split
  · rw [hb i, hb j, hi j, ← EReal.coe_sub, ← EReal.coe_add]; exact EReal.coe_ne_top _
  · exact bot_ne_top

include hb hi hq hk in
theorem wt_eq (μ : ℝ) (i j : Fin L) : wt b ii q k (μ : EReal) i j
    = ((if j ≤ i then Real.exp (-μ) * (decay lf li (c0 + i.val + 1) (c0 + j.val) * ∑ d, Q (c0 + i.val) d * K (c0 + j.val) d) else 0 : ℝ) : EReal) := by
  unfold wt dlog
  have e : ∑ d, q i d * k j d = ((∑ d, Q (c0 + i.val) d * K (c0 + j.val) d : ℝ) : EReal) := by
    rw [coe_sum]; exact Finset.sum_congr rfl fun d _ => by rw [hq, hk, EReal.coe_mul]
  rw [e]
  split
  · rw [hb i, hb j, hi j, ← EReal.coe_sub, ← EReal.coe_add, ← EReal.coe_sub, exp_coe, ← EReal.coe_mul, decay,
      ← mul_assoc, ← Real.exp_add]
    congr 3
    ring
  · rw [EReal.bot_sub]
    show (0 : EReal) * _ = _
    simp

/-- The rows of a chunk up to row `i`, weighted. -/
theorem out_num (i : ℕ) (e : Fin D) : ∑ d, Q (c0 + i) d * memo lf li K V (c0 + i + 1) d e
    = Real.exp (cum lf (c0 + i + 1) - cum lf c0) * (∑ d, Q (c0 + i) d * memo lf li K V c0 d e)
      + ∑ j ∈ Finset.range (i + 1), decay lf li (c0 + i + 1) (c0 + j) * (∑ d, Q (c0 + i) d * K (c0 + j) d) * V (c0 + j) e := by
  simp only [show c0 + i + 1 = c0 + (i + 1) from rfl, memo_split lf li K V c0 (i + 1), mul_add, Finset.sum_add_distrib,
    Finset.mul_sum, Finset.sum_mul]
  congr 1
  · exact Finset.sum_congr rfl fun d _ => by ring
  · rw [Finset.sum_comm]
    exact Finset.sum_congr rfl fun j _ => Finset.sum_congr rfl fun d _ => by ring

theorem out_den (i : ℕ) : ∑ d, Q (c0 + i) d * nrm lf li K (c0 + i + 1) d
    = Real.exp (cum lf (c0 + i + 1) - cum lf c0) * (∑ d, Q (c0 + i) d * nrm lf li K c0 d)
      + ∑ j ∈ Finset.range (i + 1), decay lf li (c0 + i + 1) (c0 + j) * (∑ d, Q (c0 + i) d * K (c0 + j) d) := by
  simp only [show c0 + i + 1 = c0 + (i + 1) from rfl, nrm_split lf li K c0 (i + 1), mul_add, Finset.sum_add_distrib,
    Finset.mul_sum]
  congr 1
  · exact Finset.sum_congr rfl fun d _ => by ring
  · rw [Finset.sum_comm]
    exact Finset.sum_congr rfl fun j _ => Finset.sum_congr rfl fun d _ => by ring

include hb hi hq hk hv in
theorem intra_num (μ : ℝ) (i : Fin L) (e : Fin D) : ∑ j, wt b ii q k (μ : EReal) i j * v j e
    = ((Real.exp (-μ) * ∑ j ∈ Finset.range (i.val + 1), decay lf li (c0 + i.val + 1) (c0 + j)
        * (∑ d, Q (c0 + i.val) d * K (c0 + j) d) * V (c0 + j) e : ℝ) : EReal) := by
  rw [← sum_le i (fun j => decay lf li (c0 + i.val + 1) (c0 + j) * (∑ d, Q (c0 + i.val) d * K (c0 + j) d) * V (c0 + j) e),
    Finset.mul_sum, coe_sum]
  refine Finset.sum_congr rfl fun j _ => ?_
  rw [wt_eq hb hi hq hk, hv, ← EReal.coe_mul]
  congr 1
  split
  · ring
  · simp

include hb hi hq hk in
theorem intra_den (μ : ℝ) (i : Fin L) : ∑ j, wt b ii q k (μ : EReal) i j
    = ((Real.exp (-μ) * ∑ j ∈ Finset.range (i.val + 1), decay lf li (c0 + i.val + 1) (c0 + j)
        * (∑ d, Q (c0 + i.val) d * K (c0 + j) d) : ℝ) : EReal) := by
  rw [← sum_le i (fun j => decay lf li (c0 + i.val + 1) (c0 + j) * (∑ d, Q (c0 + i.val) d * K (c0 + j) d)),
    Finset.mul_sum, coe_sum]
  refine Finset.sum_congr rfl fun j _ => ?_
  rw [wt_eq hb hi hq hk]
  congr 1
  split
  · ring
  · simp

/-- A stabilised numerator over its stabilised denominator is the unstabilised quotient. -/
theorem quotient (μ n d : ℝ) :
    ((Real.exp (-μ) * n : ℝ) : EReal) * Ideal.div 1 (max (max ((Real.exp (-μ) * d : ℝ) : EReal) (-((Real.exp (-μ) * d : ℝ) : EReal)))
      (Ideal.exp (0 - (μ : EReal)))) = ((n / max |d| 1 : ℝ) : EReal) := by
  have e1 : (0 : EReal) - (μ : EReal) = ((-μ : ℝ) : EReal) := by rw [← EReal.coe_zero, ← EReal.coe_sub, zero_sub]
  have hp := Real.exp_pos (-μ)
  have e2 : max (max ((Real.exp (-μ) * d : ℝ) : EReal) (-((Real.exp (-μ) * d : ℝ) : EReal))) (Ideal.exp (0 - (μ : EReal)))
      = ((Real.exp (-μ) * max |d| 1 : ℝ) : EReal) := by
    rw [e1, exp_coe, ← EReal.coe_neg, ← coe_max, ← coe_max]
    congr 1
    rw [show max (Real.exp (-μ) * d) (-(Real.exp (-μ) * d)) = Real.exp (-μ) * |d| by
      rw [← abs_of_pos hp, ← abs_mul, abs_of_pos hp]; rfl, mul_max_of_nonneg _ _ hp.le, mul_one]
  have h1 : (0 : ℝ) < max |d| 1 := lt_of_lt_of_le one_pos (le_max_right _ _)
  have h2 : (0 : ℝ) < Real.exp (-μ) * max |d| 1 := mul_pos hp h1
  rw [e2, Ideal.div, if_neg (by exact_mod_cast h2.ne'), one_mul, ← EReal.coe_inv, ← EReal.coe_mul]
  congr 1
  field_simp

include hb hi hq hk hv in
/-- A CHUNK'S ROW: from the sums before the chunk, row `i`'s output is the sequence's output at its position. -/
theorem hid_eq {mp : EReal} {C : Fin D → Fin D → EReal} {n : Fin D → EReal} (h : Carried lf li K V c0 mp C n) (i : Fin L)
    (e : Fin D) : hid b ii q k v mp C n i e = ((out lf li Q K V (c0 + i.val) e : ℝ) : EReal) := by
  obtain ⟨ν, rfl, hC, hn⟩ := h
  have ha : b i + (ν : EReal) = ((cum lf (c0 + i.val + 1) - cum lf c0 + ν : ℝ) : EReal) := by rw [hb, ← EReal.coe_add]
  obtain ⟨μ, hμ⟩ := stab_real hb hi (cum lf (c0 + i.val + 1) - cum lf c0 + ν) i
  have eN : num b ii q k v (ν : EReal) C i e = ((Real.exp (-μ) * ∑ d, Q (c0 + i.val) d * memo lf li K V (c0 + i.val + 1) d e : ℝ) : EReal) := by
    have eq : ∑ d, q i d * C d e = ((Real.exp (-ν) * ∑ d, Q (c0 + i.val) d * memo lf li K V c0 d e : ℝ) : EReal) := by
      rw [Finset.mul_sum, coe_sum]
      exact Finset.sum_congr rfl fun d _ => by rw [hq, hC, ← EReal.coe_mul]; congr 1; ring
    rw [num, ha, hμ, intra_num hb hi hq hk hv, eq, ← EReal.coe_sub, exp_coe, ← EReal.coe_mul, ← EReal.coe_add, out_num]
    congr 1
    rw [mul_add, ← mul_assoc, ← mul_assoc, ← Real.exp_add, ← Real.exp_add]
    congr 3
    ring
  have eD : den b ii q k (ν : EReal) n i = ((Real.exp (-μ) * ∑ d, Q (c0 + i.val) d * nrm lf li K (c0 + i.val + 1) d : ℝ) : EReal) := by
    have eq : ∑ d, q i d * n d = ((Real.exp (-ν) * ∑ d, Q (c0 + i.val) d * nrm lf li K c0 d : ℝ) : EReal) := by
      rw [Finset.mul_sum, coe_sum]
      exact Finset.sum_congr rfl fun d _ => by rw [hq, hn, ← EReal.coe_mul]; congr 1; ring
    rw [den, ha, hμ, intra_den hb hi hq hk, eq, ← EReal.coe_sub, exp_coe, ← EReal.coe_mul, ← EReal.coe_add, out_den]
    congr 1
    rw [mul_add, ← mul_assoc, ← mul_assoc, ← Real.exp_add, ← Real.exp_add]
    congr 3
    ring
  rw [hid, eN, eD, ha, hμ, quotient]
  rfl

include hb hi hk hv in
/-- WHAT A CHUNK LEAVES: the sums before the next chunk. -/
theorem carried_next {mp : EReal} {C : Fin D → Fin D → EReal} {n : Fin D → EReal} (h : Carried lf li K V c0 mp C n)
    {bl : EReal} (hl : bl = ((cum lf (c0 + L) - cum lf c0 : ℝ) : EReal)) :
    Carried lf li K V (c0 + L) (stabNext b ii bl mp) (memNext b ii k v bl mp C) (nrmNext b ii k bl mp n) := by
  obtain ⟨ν, rfl, hC, hn⟩ := h
  have hg (j : Fin L) : bl - b j + ii j = ((cum lf (c0 + L) - cum lf (c0 + j.val + 1) + li (c0 + j.val) : ℝ) : EReal) := by
    rw [hl, hb, hi, ← EReal.coe_sub, ← EReal.coe_add]; congr 1; ring
  have ha : bl + (ν : EReal) = ((cum lf (c0 + L) - cum lf c0 + ν : ℝ) : EReal) := by rw [hl, ← EReal.coe_add]
  obtain ⟨μ, hμ⟩ : IsReal (stabNext b ii bl (ν : EReal)) := by
    rw [stabNext, ha]
    exact isReal_fold _ _ (fun j _ => by rw [hg]; exact EReal.coe_ne_top _) _
  refine ⟨μ, hμ, fun d e => ?_, fun d => ?_⟩
  · rw [memNext, hμ, ha, hC, ← EReal.coe_sub, exp_coe, ← EReal.coe_mul, memo_split, mul_add, EReal.coe_add,
      ← Fin.sum_univ_eq_sum_range (fun j => decay lf li (c0 + L) (c0 + j) * K (c0 + j) d * V (c0 + j) e) L, Finset.mul_sum, coe_sum]
    congr 1
    · congr 1
      rw [← mul_assoc, ← mul_assoc, ← Real.exp_add, ← Real.exp_add]
      congr 2
      ring
    · refine Finset.sum_congr rfl fun j _ => ?_
      rw [hg, hk, hv, ← EReal.coe_sub, exp_coe, ← EReal.coe_mul, ← EReal.coe_mul, decay, ← mul_assoc, ← mul_assoc, ← Real.exp_add]
      congr 4
      ring_nf
  · rw [nrmNext, hμ, ha, hn, ← EReal.coe_sub, exp_coe, ← EReal.coe_mul, nrm_split, mul_add, EReal.coe_add,
      ← Fin.sum_univ_eq_sum_range (fun j => decay lf li (c0 + L) (c0 + j) * K (c0 + j) d) L, Finset.mul_sum, coe_sum]
    congr 1
    · congr 1
      rw [← mul_assoc, ← mul_assoc, ← Real.exp_add, ← Real.exp_add]
      congr 2
      ring
    · refine Finset.sum_congr rfl fun j _ => ?_
      rw [hg, hk, ← EReal.coe_sub, exp_coe, ← EReal.coe_mul, decay, ← mul_assoc, ← Real.exp_add]
      congr 3
      ring_nf

end

/-- The whole sequence as one chunk with no memory before it: the weighted rows alone, divided by the larger of the
    weights' sum and the stabiliser's bound. -/
theorem whole_eq {L D : ℕ} {lf li : ℕ → ℝ} {Q K V : ℕ → Fin D → ℝ} {b ii : Fin L → EReal} {q k v : Fin L → Fin D → EReal}
    (hb : ∀ i : Fin L, b i = ((cum lf (i.val + 1) : ℝ) : EReal))
    (hi : ∀ i : Fin L, ii i = ((li i.val : ℝ) : EReal))
    (hq : ∀ (i : Fin L) d, q i d = ((Q i.val d : ℝ) : EReal))
    (hk : ∀ (i : Fin L) d, k i d = ((K i.val d : ℝ) : EReal))
    (hv : ∀ (i : Fin L) d, v i d = ((V i.val d : ℝ) : EReal)) (i : Fin L) (e : Fin D) :
    Ideal.div (∑ j, wt b ii q k (stab b ii (b i) i) i j * v j e)
      (max (max (∑ j, wt b ii q k (stab b ii (b i) i) i j) (-∑ j, wt b ii q k (stab b ii (b i) i) i j))
        (Ideal.exp (-stab b ii (b i) i))) = ((out lf li Q K V i.val e : ℝ) : EReal) := by
  have h0 : cum lf 0 = 0 := by simp [cum]
  have hb' : ∀ i : Fin L, b i = ((cum lf (0 + i.val + 1) - cum lf 0 : ℝ) : EReal) := fun i => by rw [hb, zero_add, h0, sub_zero]
  have hi' : ∀ i : Fin L, ii i = ((li (0 + i.val) : ℝ) : EReal) := fun i => by rw [hi, zero_add]
  have hq' : ∀ (i : Fin L) d, q i d = ((Q (0 + i.val) d : ℝ) : EReal) := fun i d => by rw [hq, zero_add]
  have hk' : ∀ (i : Fin L) d, k i d = ((K (0 + i.val) d : ℝ) : EReal) := fun i d => by rw [hk, zero_add]
  have hv' : ∀ (i : Fin L) d, v i d = ((V (0 + i.val) d : ℝ) : EReal) := fun i d => by rw [hv, zero_add]
  have h := hid_eq hb' hi' hq' hk' hv' (carried_zero lf li K V) i e
  rw [zero_add] at h
  rw [← h, hid, num, den]
  obtain ⟨μ, hμ⟩ : IsReal (stab b ii (b i) i) := by rw [hb i]; exact stab_real hb' hi' _ i
  simp only [mul_zero, Finset.sum_const_zero, add_zero, zero_add, zero_sub, hμ]
  rw [Ideal.mul_one_div]
  refine ne_of_gt (lt_of_lt_of_le ?_ (le_max_right _ _))
  rw [← EReal.coe_neg, exp_coe]
  exact_mod_cast Real.exp_pos _

end Cert.Mlstm
end
-- ==== Proof.MlstmRows.lean ====
/- The rows of the recurrent layer over the extended reals: the causal convolution, the queries, keys and values, the
   gates, the heads' outputs and their norm, for one sequence; and that its finite inputs give finite rows. -/
module

public import proofs.«01_k».proof.Proof.MlstmMath

@[expose] public section

noncomputable section

open Idealize.ShloMosaic Cert.Reals

namespace Cert.Mlstm

/-- One sequence's rows and the layer's weights. -/
structure Data where
  /-- the rows the recurrence reads -/
  x : ℕ → Fin 1024 → EReal
  /-- the output gate's rows -/
  z : ℕ → Fin 1024 → EReal
  /-- the heads' gate's rows -/
  o : ℕ → Fin 1024 → EReal
  /-- the convolution's weight -/
  cw : Fin 4 → Fin 1024 → EReal
  /-- the convolution's bias -/
  cb : Fin 1024 → EReal
  /-- the queries' blocks -/
  wq : Fin 256 → Fin 4 → Fin 4 → EReal
  /-- the keys' blocks -/
  wk : Fin 256 → Fin 4 → Fin 4 → EReal
  /-- the values' blocks -/
  wv : Fin 256 → Fin 4 → Fin 4 → EReal
  /-- the gates' weight -/
  wg : Fin 3072 → Fin 8 → EReal
  /-- the gates' bias -/
  bg : Fin 8 → EReal
  /-- the norm's gain -/
  gh : Fin 1024 → EReal
  /-- the skip's weight -/
  sk : Fin 1024 → EReal

/-- A value times its logistic. -/
def silu (z : EReal) : EReal := z * Ideal.div 1 (1 + Ideal.exp (0 - z))

/-- The logarithm of the logistic. -/
def logSig (f : EReal) : EReal := min f 0 - Ideal.log (1 + Ideal.exp (0 - max f (-f)))

/-- A row times a weight made of four-by-four blocks along the diagonal. -/
def proj (t : Fin 1024 → EReal) (w : Fin 256 → Fin 4 → Fin 4 → EReal) (n : Fin 1024) : EReal :=
  ∑ c : Fin 4, t ⟨4 * (n.val / 4) + c.val, by omega⟩ * w ⟨n.val / 4, by omega⟩ c ⟨n.val % 4, by omega⟩

/-- Head `h`'s entry `d` among the model's. -/
def lane (h : Fin 4) (d : Fin 256) : Fin 1024 := ⟨256 * h.val + d.val, by omega⟩

/-- A head's normalised row. -/
def headNorm (r : Fin 256 → EReal) (d : Fin 256) : EReal :=
  (r d - Ideal.div (∑ k, r k) (Ideal.ofBits .f32 1132462080#32))
    * Ideal.rsqrt (Ideal.div (∑ k, (r k - Ideal.div (∑ k, r k) (Ideal.ofBits .f32 1132462080#32))
        * (r k - Ideal.div (∑ k, r k) (Ideal.ofBits .f32 1132462080#32))) (Ideal.ofBits .f32 1132462080#32)
      + Ideal.ofBits .f32 897988541#32)

namespace Data

variable (D : Data)

/-- Row `s` shifted so that tap `k` of the convolution reads it: zeros before the sequence. -/
def tap (k s : ℕ) (c : Fin 1024) : EReal := if 3 ≤ s + k then D.x (s + k - 3) c else 0

/-- The convolution. -/
def conv (s : ℕ) (c : Fin 1024) : EReal :=
  D.cb c + D.cw 3 c * D.tap 3 s c + D.cw 2 c * D.tap 2 s c + D.cw 1 c * D.tap 1 s c + D.cw 0 c * D.tap 0 s c

/-- The convolution times its logistic. -/
def xc (s : ℕ) (c : Fin 1024) : EReal := silu (D.conv s c)

/-- The queries, keys and values. -/
def q (s : ℕ) (n : Fin 1024) : EReal := proj (D.xc s) D.wq n
/-- The keys. -/
def k (s : ℕ) (n : Fin 1024) : EReal := proj (D.xc s) D.wk n
/-- The values. -/
def v (s : ℕ) (n : Fin 1024) : EReal := proj (D.x s) D.wv n

/-- Queries, keys and values side by side. -/
def cat (s : ℕ) (j : Fin 3072) : EReal :=
  if h : j.val < 1024 then D.q s ⟨j.val, h⟩ else if h : j.val - 1024 < 1024 then D.k s ⟨j.val - 1024, h⟩
    else D.v s ⟨j.val - 1024 - 1024, by omega⟩

/-- The gates before their functions. -/
def gate (s : ℕ) (g : Fin 8) : EReal := (∑ j : Fin 3072, D.cat s j * D.wg j g) + D.bg g

/-- The input gate of head `h`. -/
def ig (h : Fin 4) (s : ℕ) : EReal := D.gate s ⟨h.val, by omega⟩
/-- The logarithm of head `h`'s forget gate. -/
def fg (h : Fin 4) (s : ℕ) : EReal := logSig (D.gate s ⟨4 + h.val, by omega⟩)

/-- The scaled keys. -/
def ks (s : ℕ) (n : Fin 1024) : EReal := D.k s n * Ideal.ofBits .f32 1031798784#32

/-- Head `h`'s output at position `s`. -/
def hidden (h : Fin 4) (s : ℕ) (d : Fin 256) : EReal :=
  ((out (fun s => (D.fg h s).toReal) (fun s => (D.ig h s).toReal) (fun s d => (D.q s (lane h d)).toReal)
    (fun s d => (D.ks s (lane h d)).toReal) (fun s d => (D.v s (lane h d)).toReal) s d : ℝ) : EReal)

/-- The layer's row from a head output: gated, normalised head by head, the skip added, gated again. -/
def finish (hid : Fin 256 → EReal) (h : Fin 4) (s : ℕ) (d : Fin 256) : EReal :=
  (headNorm (fun d => Ideal.div 1 (1 + Ideal.exp (0 - D.o s (lane h d))) * hid d) d * D.gh (lane h d)
    + D.sk (lane h d) * D.xc s (lane h d)) * silu (D.z s (lane h d))

/-- The layer's row. -/
def y (h : Fin 4) (s : ℕ) (d : Fin 256) : EReal := D.finish (D.hidden h s) h s d

/-- The inputs the recurrence reads are finite. -/
structure Finite : Prop where
  /-- the rows -/
  x : ∀ s c, IsReal (D.x s c)
  /-- the convolution's weight -/
  cw : ∀ k c, IsReal (D.cw k c)
  /-- its bias -/
  cb : ∀ c, IsReal (D.cb c)
  /-- the queries' blocks -/
  wq : ∀ n c d, IsReal (D.wq n c d)
  /-- the keys' blocks -/
  wk : ∀ n c d, IsReal (D.wk n c d)
  /-- the values' blocks -/
  wv : ∀ n c d, IsReal (D.wv n c d)
  /-- the gates' weight -/
  wg : ∀ j g, IsReal (D.wg j g)
  /-- their bias -/
  bg : ∀ g, IsReal (D.bg g)

end Data

theorem isReal_zero : IsReal 0 := ⟨0, rfl⟩
theorem isReal_one : IsReal 1 := ⟨1, rfl⟩

/-- The exponential of a real is real. -/
theorem isReal_exp {x : EReal} (hx : IsReal x) : IsReal (Ideal.exp x) := by
  obtain ⟨a, rfl⟩ := hx; exact ⟨_, exp_coe a⟩

theorem isReal_neg {x : EReal} (hx : IsReal x) : IsReal (-x) := by
  obtain ⟨a, rfl⟩ := hx; exact ⟨-a, (EReal.coe_neg a).symm⟩

theorem isReal_min {x y : EReal} (hx : IsReal x) (hy : IsReal y) : IsReal (min x y) := by
  rcases min_choice x y with h | h <;> rw [h] <;> assumption

/-- One more than an exponential is a positive real. -/
theorem one_add_exp {x : EReal} (hx : IsReal x) : ∃ r : ℝ, 0 < r ∧ 1 + Ideal.exp x = (r : EReal) := by
  obtain ⟨a, rfl⟩ := hx
  exact ⟨1 + Real.exp a, by have := Real.exp_pos a; linarith, by rw [exp_coe, EReal.coe_add, EReal.coe_one]⟩

theorem isReal_silu {x : EReal} (hx : IsReal x) : IsReal (silu x) := by
  obtain ⟨r, hr, e⟩ := one_add_exp (isReal_zero.sub hx)
  rw [silu, e]
  exact hx.mul (isReal_one.div ⟨r, rfl⟩ (by exact_mod_cast hr.ne'))

/-- The logarithm of a positive real is real. -/
theorem isReal_log {r : ℝ} (hr : 0 < r) : Ideal.log (r : EReal) = ((Real.log r : ℝ) : EReal) := by
  show (if r ≤ 0 then (⊥ : EReal) else ((Real.log r : ℝ) : EReal)) = _
  rw [if_neg (not_le.2 hr)]

theorem isReal_logSig {x : EReal} (hx : IsReal x) : IsReal (logSig x) := by
  obtain ⟨r, hr, e⟩ := one_add_exp (isReal_zero.sub (hx.max (isReal_neg hx)))
  rw [logSig, e, isReal_log hr]
  exact (isReal_min hx isReal_zero).sub (isReal_coe _)

theorem isReal_proj {t : Fin 1024 → EReal} {w : Fin 256 → Fin 4 → Fin 4 → EReal} (ht : ∀ c, IsReal (t c))
    (hw : ∀ n c d, IsReal (w n c d)) (n : Fin 1024) : IsReal (proj t w n) :=
  IsReal.sum _ _ fun c _ => (ht _).mul (hw _ _ _)

/-- The keys' scale is a real. -/
theorem ofBits_sixteenth : IsReal (Ideal.ofBits .f32 1031798784#32) :=
  ⟨_, by simp only [Ideal.ofBits, Ideal.ieee]; rw [if_neg (by decide), if_neg (by decide)]⟩

namespace Data.Finite

variable {D : Data} (H : D.Finite)
include H

theorem tap (k s : ℕ) (c : Fin 1024) : IsReal (D.tap k s c) := by
  unfold Data.tap; split
  · exact H.x _ _
  · exact isReal_zero

theorem xc (s : ℕ) (c : Fin 1024) : IsReal (D.xc s c) :=
  isReal_silu (((((H.cb c).add ((H.cw _ c).mul (H.tap _ s c))).add ((H.cw _ c).mul (H.tap _ s c))).add
    ((H.cw _ c).mul (H.tap _ s c))).add ((H.cw _ c).mul (H.tap _ s c)))

theorem q (s : ℕ) (n : Fin 1024) : IsReal (D.q s n) := isReal_proj (H.xc s) H.wq n
theorem k (s : ℕ) (n : Fin 1024) : IsReal (D.k s n) := isReal_proj (H.xc s) H.wk n
theorem v (s : ℕ) (n : Fin 1024) : IsReal (D.v s n) := isReal_proj (H.x s) H.wv n
theorem ks (s : ℕ) (n : Fin 1024) : IsReal (D.ks s n) := (H.k s n).mul ofBits_sixteenth

theorem gate (s : ℕ) (g : Fin 8) : IsReal (D.gate s g) := by
  refine IsReal.add (IsReal.sum _ _ fun j _ => IsReal.mul ?_ (H.wg j g)) (H.bg g)
  unfold Data.cat
  split
  · exact H.q _ _
  · split
    · exact H.k _ _
    · exact H.v _ _

theorem ig (h : Fin 4) (s : ℕ) : IsReal (D.ig h s) := H.gate s _
theorem fg (h : Fin 4) (s : ℕ) : IsReal (D.fg h s) := isReal_logSig (H.gate s _)

end Data.Finite

/-- A real number is its real part. -/
theorem coe_toReal {x : EReal} (hx : IsReal x) : x = ((x.toReal : ℝ) : EReal) := (EReal.coe_toReal hx.ne_top hx.ne_bot).symm

/-- The logarithm of the logistic as the reference writes it, on real numbers. -/
theorem logSig_eq {x : EReal} (hx : IsReal x) :
    -(max (-x) 0 + Ideal.log (1 + Ideal.exp (-(max (-x - 0) (-(-x - 0)))))) = logSig x := by
  obtain ⟨r, hr, e⟩ := one_add_exp (isReal_zero.sub (hx.max (isReal_neg hx)))
  have e1 : -(max (-x - 0) (-(-x - 0))) = 0 - max x (-x) := by
    rw [sub_zero, neg_neg, zero_sub, max_comm]
  rw [e1, logSig, e, isReal_log hr]
  obtain ⟨a, rfl⟩ := hx
  rw [← EReal.coe_neg, ← EReal.coe_zero, ← coe_max, ← EReal.coe_add, ← EReal.coe_neg,
    show min (a : EReal) ((0 : ℝ) : EReal) = ((min a 0 : ℝ) : EReal) from
      (Monotone.map_min (f := fun r : ℝ => (r : EReal)) (fun _ _ h => EReal.coe_le_coe_iff.2 h)).symm, ← EReal.coe_sub]
  congr 1
  rcases le_total a 0 with h | h
  · rw [min_eq_left h, max_eq_left (by linarith)]; ring
  · rw [min_eq_right h, max_eq_right (by linarith)]; ring

/-- One sequence of a batch: its rows among the batch's, and the weights. -/
def seqData (pm : Fin 65536 → Fin 3072 → EReal) (cw : Fin 4 → Fin 1024 → EReal) (cb : Fin 1024 → EReal)
    (wq wk wv : Fin 256 → Fin 4 → Fin 4 → EReal) (wg : Fin 3072 → Fin 8 → EReal) (bg : Fin 8 → EReal)
    (gh sk : Fin 1024 → EReal) (b : Fin 32) : Data where
  x s c := if h : s < 2048 then pm ⟨2048 * b.val + s, by omega⟩ ⟨c.val, by omega⟩ else 0
  z s c := if h : s < 2048 then pm ⟨2048 * b.val + s, by omega⟩ ⟨1024 + c.val, by omega⟩ else 0
  o s c := if h : s < 2048 then pm ⟨2048 * b.val + s, by omega⟩ ⟨2048 + c.val, by omega⟩ else 0
  cw := cw
  cb := cb
  wq := wq
  wk := wk
  wv := wv
  wg := wg
  bg := bg
  gh := gh
  sk := sk

end Cert.Mlstm
end
-- ==== Proof.MlstmHeads.lean ====
/- One head of the recurrence's body on one chunk, over the extended reals: its output rows, the memory, the normaliser
   and the stabiliser it leaves, and the finishing of its rows, each entry in terms of the chunk's rows. -/
module

public import proofs.«01_k».proof.Defs
public import proofs.«01_k».proof.Proof.MlstmRows
public import proofs.«01_k».proof.Proof.Gen.MlstmIdeal.Value
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MlstmIdeal.Block

open Cert.MlstmIdeal Cert.MlstmIdeal.Gen

/-- The mask reads as minus infinity. -/
theorem mask_bot : (Named.named κ "mask" 0xF149F2CA#32 : Ideal .f32) = (⊥ : EReal) :=
  IdealRules.named_const.ideal_named_scalar _ _ _ _ rfl

/-- The start of a fold of maxima reads as minus infinity. -/
theorem start_bot : Ideal.ofBits .f32 4286578688#32 = ⊥ := by
  simp [Ideal.ofBits, Ideal.ieee]

variable (q k v : FVec Ideal S256x256 .f32) (gc : FVec Ideal S256x128 .f32) (gr : FVec Ideal S128x256 .f32)
  (ic bc : FVec Ideal S256x1 .f32) (ir br : FVec Ideal S1x256 .f32)
  (mh : Vec Ideal S1x1x1 .f32) (Ch : Vec Ideal S1x256x256 .f32) (nh : Vec Ideal S1x1x256 .f32)
  (xc : FVec Ideal S256x1024 .f32) (xh hid : FVec Ideal S256x256 .f32) (o z : Vec Ideal S256x256 .bf16) (g s : Vec Ideal S1x256 .f32)

/-- A head's output rows, of its queries, keys and values, its gates as columns and as rows, and what it carried. -/
def hidT : FVec Ideal S256x256 .f32 :=
  k0_pay51 (k0_pay48 k (k0_pay24 q) (k0_pay28 v) k0_pay32 bc ir br (k0_pay39 mh) Ch)
    (k0_pay49 q k (k0_pay24 q) k0_pay32 bc ir br (k0_pay39 mh) nh) (k0_pay50 k0_pay32 bc ir br (k0_pay39 mh))

/-- The memory a head leaves. -/
def memT : FVec Ideal S1x256x256 .f32 := k0_pay57 (k0_pay28 v) ic bc (k0_pay39 mh) (k0_pay40 Ch) (k0_pay42 k)

/-- The normaliser a head leaves. -/
def nrmT : FVec Ideal S1x1x256 .f32 := k0_pay58 ic bc (k0_pay39 mh) (k0_pay41 nh) (k0_pay42 k)

/-- The stabiliser a head leaves. -/
def stabT : FVec Ideal S1x8x128 .f32 := k0_pay59 ic bc (k0_pay39 mh)

/-- A head's rows gated, less their mean. -/
def cenT : FVec Ideal S256x256 .f32 :=
  have hg : FVec Ideal S256x256 .f32 := mulf (divf (broadcast S256x256 (Scalar.ofBits .f32 0x3F800000#32))
    (addf (broadcast S256x256 (Scalar.ofBits .f32 0x3F800000#32))
      (exp (subf (broadcast S256x256 (Scalar.ofBits .f32 0x00000000#32)) (extf .f32 o bitsLt_bf16_f32))))) hid
  subf hg (broadcastTo S256x256 (divf
    (shapeCast S256x1 (multiReduction .add [1] S256 hg 0x00000000#32 reduces_S256x256_S256 (.inl rfl) rfl) shapeCasts_S256_S256x1)
    (broadcast S256x1 (Scalar.ofBits .f32 0x43800000#32))) broadcasts_S256x1_S256x256)

/-- A head's rows gated, normalised, the skip added, and gated again. -/
def finT : FVec Ideal S256x256 .bf16 :=
  k0_pay63 (addf
    (mulf (mulf (cenT hid o) (broadcastTo S256x256 (rsqrt (addf (divf
      (shapeCast S256x1 (multiReduction .add [1] S256 (mulf (cenT hid o) (cenT hid o)) 0x00000000#32 reduces_S256x256_S256 (.inl rfl) rfl)
        shapeCasts_S256_S256x1)
      (broadcast S256x1 (Scalar.ofBits .f32 0x43800000#32))) (broadcast S256x1 (Scalar.ofBits .f32 0x358637BD#32))))
      broadcasts_S256x1_S256x256))
      (broadcastTo S256x256 (shapeCast S1x256 g shapeCasts_S1x256_S1x256) broadcasts_S1x256_S256x256))
    (mulf (broadcastTo S256x256 (shapeCast S1x256 s shapeCasts_S1x256_S1x256) broadcasts_S1x256_S256x256) xh))
    (k0_pay61 z) (k0_pay62 z) (FloatOps.ofBits FTy.f32 1065353216#32)

/-! ## The four heads -/

theorem hid1 : k0_pay77 q (k0_pay29 v) (k0_pay68 nh) (k0_pay72 k0_pay32 gc gr mh) (k0_pay73 k (k0_pay25 q) k0_pay32 gc gr mh)
      (k0_pay74 k0_pay32 gc gr mh) (k0_pay75 (k0_pay25 q) k0_pay32 gc gr mh Ch) (k0_pay76 k (k0_pay25 q) k0_pay32 gc gr mh)
    = hidT q k v (k0_pay65 gc) (extractStridedSlice S1x256 ![1, 0] gr slices_S128x256_o1_0_S1x256)
      (extractStridedSlice S1x256 ![5, 0] gr slices_S128x256_o5_0_S1x256) mh Ch nh := rfl

theorem hid2 : k0_pay98 q (k0_pay26 q) (k0_pay30 v) (k0_pay92 Ch) (k0_pay93 nh) (k0_pay95 k) (k0_pay96 k0_pay32 gc gr) (k0_pay97 gc mh)
    = hidT q k v (k0_pay90 gc) (extractStridedSlice S1x256 ![2, 0] gr slices_S128x256_o2_0_S1x256)
      (extractStridedSlice S1x256 ![6, 0] gr slices_S128x256_o6_0_S1x256) mh Ch nh := rfl

theorem hid3 : k0_pay119 q k (k0_pay27 q) (k0_pay31 v) k0_pay32 (k0_pay112 gc) (k0_pay113 gr) (k0_pay114 gr) (k0_pay115 mh) (k0_pay116 Ch) nh
    = hidT q k v (k0_pay112 gc) (k0_pay113 gr) (k0_pay114 gr) mh Ch nh := rfl

theorem mem1 : k0_pay83 (k0_pay29 v) ic bc (k0_pay66 mh) (k0_pay67 Ch) (k0_pay69 k) = memT k v ic bc mh Ch := rfl
theorem mem2 : k0_pay105 (k0_pay30 v) (k0_pay92 Ch) (k0_pay102 ic bc (k0_pay91 mh) (k0_pay94 k)) (k0_pay104 ic bc (k0_pay91 mh))
    = memT k v ic bc mh Ch := rfl
theorem mem3 : k0_pay125 (k0_pay31 v) ic bc (k0_pay115 mh) (k0_pay116 Ch) (k0_pay118 k) = memT k v ic bc mh Ch := rfl

theorem nrm1 : k0_pay85 (k0_pay84 ic bc (k0_pay66 mh) (k0_pay68 nh) (k0_pay69 k)) = nrmT k ic bc mh nh := rfl
theorem nrm2 : k0_pay106 (k0_pay93 nh) (k0_pay102 ic bc (k0_pay91 mh) (k0_pay94 k)) (k0_pay103 ic bc (k0_pay91 mh))
    = nrmT k ic bc mh nh := rfl
theorem nrm3 : k0_pay126 ic bc (k0_pay115 mh) (k0_pay117 nh) (k0_pay118 k) = nrmT k ic bc mh nh := rfl

theorem stab1 : k0_pay86 (k0_pay80 ic bc (k0_pay66 mh)) = stabT ic bc mh := rfl
theorem stab2 : k0_pay107 (k0_pay101 ic bc (k0_pay91 mh)) = stabT ic bc mh := rfl
theorem stab3 : k0_pay127 ic bc (k0_pay115 mh) = stabT ic bc mh := rfl

theorem fin0 : k0_pay63 (k0_pay60 xc hid o g s) (k0_pay61 z) (k0_pay62 z) (FloatOps.ofBits FTy.f32 1065353216#32)
    = finT (extractStridedSlice S256x256 ![0, 0] xc slices_S256x1024_o0_0_S256x256) hid o z g s := rfl
theorem fin1 : k0_pay88 xc (k0_pay87 hid o g) s z
    = finT (extractStridedSlice S256x256 ![0, 256] xc slices_S256x1024_o0_256_S256x256) hid o z g s := rfl
theorem fin2 : k0_pay110 xc (k0_pay108 hid o) (k0_pay109 hid o) g s z
    = finT (extractStridedSlice S256x256 ![0, 512] xc slices_S256x1024_o0_512_S256x256) hid o z g s := rfl
theorem fin3 : k0_pay129 xc hid (k0_pay128 o) g s z
    = finT (extractStridedSlice S256x256 ![0, 768] xc slices_S256x1024_o0_768_S256x256) hid o z g s := rfl

/-! ## Their entries -/

/-- A choice by the comparison of the row and the column number. -/
theorem causal_apply (i j : Fin 256) (a b : EReal) : Scalar.select (k0_pay32 (ix2 i j)) a b = if j ≤ i then a else b := by
  unfold_payloads
  pointwise
  unfold Scalar.select
  exact if_congr (WordCmp.cmpi_sge_ofNat_eq_one_iff (w := 32) (by have := i.isLt; omega) (by have := j.isLt; omega)) rfl rfl

theorem pay24_apply (y : S256x256.Idx) : k0_pay24 q y = q y := rfl
theorem pay39_apply : k0_pay39 mh (ix2 0 0) = mh (ix3 0 0 0) := by
  unfold k0_pay39
  pointwise
theorem absf_apply (x : EReal) : FloatOps.absf (F := Ideal) (φ := .f32) x = max x (-x) := rfl

theorem dlog_apply (hbr : ∀ j : Fin 256, br (ix2 0 j) = bc (ix2 j 0)) (i j : Fin 256) :
    k0_pay43 k0_pay32 bc ir br (ix2 i j) = Cert.Mlstm.dlog (fun i => bc (ix2 i 0)) (fun j => ir (ix2 0 j)) i j := by
  unfold k0_pay43
  pointwise [Cert.Mlstm.dlog, hbr, mask_bot, causal_apply]

theorem stab_apply (m : FVec Ideal S1x1 .f32) (hbr : ∀ j : Fin 256, br (ix2 0 j) = bc (ix2 j 0)) (i : Fin 256) :
    k0_pay45 k0_pay32 bc ir br m (ix2 i 0) =
      Cert.Mlstm.stab (fun i => bc (ix2 i 0)) (fun j => ir (ix2 0 j)) (bc (ix2 i 0) + m (ix2 0 0)) i := by
  unfold k0_pay45 k0_pay44
  pointwise [Cert.Mlstm.stab, dlog_apply bc ir br hbr, start_bot]
  try rfl

theorem wt_apply (m : FVec Ideal S1x1 .f32) (hbr : ∀ j : Fin 256, br (ix2 0 j) = bc (ix2 j 0)) (i j : Fin 256) :
    k0_pay46 k (k0_pay24 q) k0_pay32 bc ir br m (ix2 i j) =
      Cert.Mlstm.wt (fun i => bc (ix2 i 0)) (fun j => ir (ix2 0 j)) (fun i d => q (ix2 i d))
        (fun i d => k (ix2 i d) * Ideal.ofBits .f32 1031798784#32)
        (Cert.Mlstm.stab (fun i => bc (ix2 i 0)) (fun j => ir (ix2 0 j)) (bc (ix2 i 0) + m (ix2 0 0)) i) i j := by
  unfold k0_pay46 k0_pay24 k0_pay42
  pointwise [Cert.Mlstm.wt, dlog_apply bc ir br hbr, stab_apply bc ir br m hbr]

theorem hidT_apply (hbr : ∀ j : Fin 256, br (ix2 0 j) = bc (ix2 j 0)) (i e : Fin 256) :
    hidT q k v bc ir br mh Ch nh (ix2 i e) =
      Cert.Mlstm.hid (fun i => bc (ix2 i 0)) (fun j => ir (ix2 0 j)) (fun i d => q (ix2 i d))
        (fun i d => k (ix2 i d) * Ideal.ofBits .f32 1031798784#32) (fun i d => v (ix2 i d)) (mh (ix3 0 0 0))
        (fun d e => Ch (ix3 0 d e)) (fun d => nh (ix3 0 0 d)) i e := by
  unfold hidT k0_pay51 k0_pay48 k0_pay49 k0_pay50 k0_pay47 k0_pay44 k0_pay40 k0_pay41 k0_pay28
  pointwise [Cert.Mlstm.hid, Cert.Mlstm.num, Cert.Mlstm.den, stab_apply bc ir br _ hbr, wt_apply q k bc ir br _ hbr, pay39_apply, pay24_apply, absf_apply]

theorem glog_apply (i : Fin 256) : k0_pay53 ic bc (ix2 i 0) = bc (ix2 255 0) - bc (ix2 i 0) + ic (ix2 i 0) := by
  unfold k0_pay53 k0_pay52
  pointwise

theorem next_apply (m : FVec Ideal S1x1 .f32) : k0_pay54 ic bc m (ix2 0 0) =
    Cert.Mlstm.stabNext (fun i => bc (ix2 i 0)) (fun i => ic (ix2 i 0)) (bc (ix2 255 0)) (m (ix2 0 0)) := by
  unfold k0_pay54 k0_pay52
  pointwise [Cert.Mlstm.stabNext, glog_apply, start_bot]
  try rfl

theorem memT_apply (d e : Fin 256) : memT k v ic bc mh Ch (ix3 0 d e) =
    Cert.Mlstm.memNext (fun i => bc (ix2 i 0)) (fun i => ic (ix2 i 0))
      (fun i d => k (ix2 i d) * Ideal.ofBits .f32 1031798784#32) (fun i d => v (ix2 i d)) (bc (ix2 255 0)) (mh (ix3 0 0 0))
      (fun d e => Ch (ix3 0 d e)) d e := by
  unfold memT k0_pay57 k0_pay56 k0_pay55 k0_pay52 k0_pay42 k0_pay40 k0_pay28
  pointwise [Cert.Mlstm.memNext, glog_apply, next_apply, pay39_apply]

theorem nrmT_apply (d : Fin 256) : nrmT k ic bc mh nh (ix3 0 0 d) =
    Cert.Mlstm.nrmNext (fun i => bc (ix2 i 0)) (fun i => ic (ix2 i 0))
      (fun i d => k (ix2 i d) * Ideal.ofBits .f32 1031798784#32) (bc (ix2 255 0)) (mh (ix3 0 0 0))
      (fun d => nh (ix3 0 0 d)) d := by
  unfold nrmT k0_pay58 k0_pay56 k0_pay55 k0_pay52 k0_pay42 k0_pay41
  pointwise [Cert.Mlstm.nrmNext, glog_apply, next_apply, pay39_apply]

theorem stabT_apply : stabT ic bc mh (ix3 0 0 0) =
    Cert.Mlstm.stabNext (fun i => bc (ix2 i 0)) (fun i => ic (ix2 i 0)) (bc (ix2 255 0)) (mh (ix3 0 0 0)) := by
  unfold stabT k0_pay59
  pointwise [next_apply, pay39_apply]

theorem cenT_apply (r : Fin 256 → EReal) (i : Fin 256)
    (hr : ∀ d, Ideal.div 1 (1 + Ideal.exp (0 - o (ix2 i d))) * hid (ix2 i d) = r d) (d : Fin 256) :
    cenT hid o (ix2 i d) = r d - Ideal.div (∑ k, r k) (Ideal.ofBits .f32 1132462080#32) := by
  unfold cenT
  pointwise [hr]

theorem finT_apply (i d : Fin 256) : finT xh hid o z g s (ix2 i d) =
    (Cert.Mlstm.headNorm (fun d => Ideal.div 1 (1 + Ideal.exp (0 - o (ix2 i d))) * hid (ix2 i d)) d * g (ix2 0 d)
      + s (ix2 0 d) * xh (ix2 i d)) * Cert.Mlstm.silu (z (ix2 i d)) := by
  unfold finT k0_pay63 k0_pay61 k0_pay62
  pointwise [Cert.Mlstm.headNorm, Cert.Mlstm.silu, cenT_apply hid o _ i (fun _ => rfl), k0_pay61]

end Cert.MlstmIdeal.Block
end
-- ==== Proof.MlstmGates.lean ====
/- The gates of one chunk, over the extended reals: the rows they are taken of, the input gates as they are, the
   logarithms of the forget gates summed over the rows up to each. -/
module

public import proofs.«01_k».proof.Defs
public import proofs.«01_k».proof.Proof.MlstmHeads
public import proofs.«01_k».proof.Proof.Gen.MlstmIdeal.Value
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MlstmIdeal.Block

open Cert.MlstmIdeal Cert.MlstmIdeal.Gen

/-! ## The gates -/

section

variable (q0 k0 v0 q1 k1 v1 q2 k2 v2 q3 k3 v3 : FVec Ideal S256x256 .f32) (w : Vec Ideal S3072x128 .bf16) (b : Vec Ideal S1x128 .f32)

/-- The queries, keys and values of the four heads side by side. -/
def catT : FVec Ideal S256x3072 .bf16 :=
  concatenate S256x3072 1 [⟨S256x256, k0_pay24 q0⟩, ⟨S256x256, k0_pay25 q1⟩, ⟨S256x256, k0_pay26 q2⟩, ⟨S256x256, k0_pay27 q3⟩,
    ⟨S256x256, truncf .bf16 k0 bitsLt_bf16_f32⟩, ⟨S256x256, truncf .bf16 k1 bitsLt_bf16_f32⟩,
    ⟨S256x256, truncf .bf16 k2 bitsLt_bf16_f32⟩, ⟨S256x256, truncf .bf16 k3 bitsLt_bf16_f32⟩, ⟨S256x256, k0_pay28 v0⟩,
    ⟨S256x256, k0_pay29 v1⟩, ⟨S256x256, k0_pay30 v2⟩, ⟨S256x256, k0_pay31 v3⟩]
    concatenates_S256x256_S256x256_S256x256_S256x256_S256x256_S256x256_S256x256_S256x256_S256x256_S256x256_S256x256_S256x256_S256x3072_d1

/-- The gates before their functions, from the rows they are taken of. -/
def gateT (t : FVec Ideal S256x3072 .bf16) : FVec Ideal S256x128 .f32 :=
  addf (matmul (φ₁ := .bf16) (φ₂ := .bf16) dot_S256x3072_S3072x128_S256x128_1_0_0_1_n_n none t (shapeCast S3072x128 w shapeCasts_S3072x128_S3072x128)
    (constant S256x128 .f32 0x00000000#32))
    (broadcastTo S256x128 (shapeCast S1x128 b shapeCasts_S1x128_S1x128) broadcasts_S1x128_S256x128)

/-- The logarithm of the logistic of every gate. -/
def logT (t : FVec Ideal S256x128 .f32) : FVec Ideal S256x128 .f32 :=
  subf (minimumf t (broadcast S256x128 (Scalar.ofBits .f32 0x00000000#32)))
    (log (addf (broadcast S256x128 (Scalar.ofBits .f32 0x3F800000#32))
      (exp (subf (broadcast S256x128 (Scalar.ofBits .f32 0x00000000#32)) (absf t)))))

/-- The gates: the first four columns as they are, the rest summed over the rows up to each. -/
def colT (t : FVec Ideal S256x128 .f32) : FVec Ideal S256x128 .f32 :=
  select (cmpi .slt (iota .tc S256x128 32 [1] iota_S256x128_d1_w32) (broadcast S256x128 4#32)) t
    (matmul (φ₁ := .f32) (φ₂ := .f32) dot_S256x256_S256x128_S256x128_1_0_0_1_n_n (some .fp32) (sitofp .f32 (extui 32 k0_pay32 natLt_1_32)) (logT t)
      (constant S256x128 .f32 0x00000000#32))

theorem pay33_eq : k0_pay33 q0 k0 v0 q1 k1 v1 q2 k2 v2 q3 k3 v3 w b
    = colT (gateT w b (catT q0 k0 v0 q1 k1 v1 q2 k2 v2 q3 k3 v3)) := rfl

/-- Both branches of a choice equal a value when each does under its own condition. -/
theorem dite_cases {α : Type} {c : Prop} [Decidable c] {a : c → α} {b : ¬c → α} {t : α} (ha : ∀ h, a h = t) (hb : ∀ h, b h = t) :
    dite c a b = t := by
  by_cases h : c
  · rw [dif_pos h]; exact ha h
  · rw [dif_neg h]; exact hb h

set_option maxHeartbeats 1000000 in
theorem catT_apply (i : Fin 256) (T : Fin 3072 → EReal)
    (h0 : ∀ d : Fin 256, q0 (ix2 i d) = T ⟨d.val, by omega⟩) (h1 : ∀ d : Fin 256, q1 (ix2 i d) = T ⟨256 + d.val, by omega⟩)
    (h2 : ∀ d : Fin 256, q2 (ix2 i d) = T ⟨512 + d.val, by omega⟩) (h3 : ∀ d : Fin 256, q3 (ix2 i d) = T ⟨768 + d.val, by omega⟩)
    (h4 : ∀ d : Fin 256, k0 (ix2 i d) = T ⟨1024 + d.val, by omega⟩) (h5 : ∀ d : Fin 256, k1 (ix2 i d) = T ⟨1280 + d.val, by omega⟩)
    (h6 : ∀ d : Fin 256, k2 (ix2 i d) = T ⟨1536 + d.val, by omega⟩) (h7 : ∀ d : Fin 256, k3 (ix2 i d) = T ⟨1792 + d.val, by omega⟩)
    (h8 : ∀ d : Fin 256, v0 (ix2 i d) = T ⟨2048 + d.val, by omega⟩) (h9 : ∀ d : Fin 256, v1 (ix2 i d) = T ⟨2304 + d.val, by omega⟩)
    (h10 : ∀ d : Fin 256, v2 (ix2 i d) = T ⟨2560 + d.val, by omega⟩) (h11 : ∀ d : Fin 256, v3 (ix2 i d) = T ⟨2816 + d.val, by omega⟩)
    (j : Fin 3072) : catT q0 k0 v0 q1 k1 v1 q2 k2 v2 q3 k3 v3 (ix2 i j) = T j := by
  unfold catT k0_pay24 k0_pay25 k0_pay26 k0_pay27 k0_pay28 k0_pay29 k0_pay30 k0_pay31
  pointwise [h0, h1, h2, h3, h4, h5, h6, h7, h8, h9, h10, h11]
  repeat' (refine dite_cases (fun _ => ?_) (fun _ => ?_))
  all_goals exact congrArg T (Fin.ext (by dsimp only [Fin.isValue] <;> omega))

theorem gateT_apply (t : FVec Ideal S256x3072 .bf16) (i : Fin 256) (g : Fin 128) :
    gateT w b t (ix2 i g) = (∑ j : Fin 3072, t (ix2 i j) * w (ix2 j g)) + b (ix2 0 g) := by
  unfold gateT
  pointwise

theorem logT_apply (t : FVec Ideal S256x128 .f32) (i : Fin 256) (g : Fin 128) :
    logT t (ix2 i g) = Cert.Mlstm.logSig (t (ix2 i g)) := by
  unfold logT
  pointwise [Cert.Mlstm.logSig, absf_apply]

theorem tril_apply (i j : Fin 256) :
    (sitofp .f32 (extui 32 k0_pay32 natLt_1_32) : FVec Ideal S256x256 .f32) (ix2 i j) = if j ≤ i then (1 : EReal) else 0 := by
  have h : (k0_pay32 (ix2 i j)) = BitVec.ofBool (decide (j.val ≤ i.val)) := by
    unfold_payloads
    pointwise
    exact WordCmp.cmpi_sge_ofNat (w := 32) (by have := i.isLt; omega) (by have := j.isLt; omega)
  show FloatOps.sitofp (F := Ideal) .f32 ((k0_pay32 (ix2 i j)).setWidth 32) = _
  rw [h]
  by_cases hj : j ≤ i
  · rw [if_pos hj, decide_eq_true (show j.val ≤ i.val from hj)]
    show (((1 : ℤ) : ℝ) : EReal) = 1
    simp
  · rw [if_neg hj, decide_eq_false (show ¬j.val ≤ i.val from hj)]
    show (((0 : ℤ) : ℝ) : EReal) = 0
    simp

theorem select_low (g : Fin 128) (a b : EReal) :
    Scalar.select (IntOp.cmpi CmpIPredicate.slt (BitVec.ofNat 32 g.val) 4#32) a b = if g.val < 4 then a else b := by
  unfold Scalar.select
  exact if_congr (WordCmp.cmpi_slt_ofNat_eq_one_iff (w := 32) (b := 4) (by have := g.isLt; omega) (by omega)) rfl rfl

theorem colT_low (t : FVec Ideal S256x128 .f32) (i : Fin 256) (g : Fin 128) (hg : g.val < 4) : colT t (ix2 i g) = t (ix2 i g) := by
  unfold colT
  pointwise [select_low, hg]

theorem colT_high (t : FVec Ideal S256x128 .f32) (i : Fin 256) (g : Fin 128) (hg : 4 ≤ g.val) :
    colT t (ix2 i g) = ∑ j : Fin 256, if j ≤ i then Cert.Mlstm.logSig (t (ix2 j g)) else 0 := by
  unfold colT
  pointwise [tril_apply, logT_apply, select_low, show ¬g.val < 4 from by omega, ite_mul, one_mul, zero_mul]

end

end Cert.MlstmIdeal.Block
end
-- ==== Proof.MlstmBlock.lean ====
/- What one grid point of the recurrence leaves in its output block and in the four scratch buffers, over the extended
   reals: four heads, each with its columns of the block, its memory, its normaliser and its stabiliser. -/
module

public import proofs.«01_k».proof.Defs
public import proofs.«01_k».proof.Proof.MlstmGates
public import proofs.«01_k».proof.Proof.Gen.MlstmIdeal.Value
public import Idealize.ShloMosaic.Lib.Pointwise
public import Idealize.ShloMosaic.Lib.Pipeline.Value
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlstmIdeal.Block

open Cert.MlstmIdeal Cert.MlstmIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-- Loads of a whole buffer's slice after one store of the whole buffer read the stored value. -/
theorem readCov_whole {S : Shape} {e : EltTy} {sp : Space} (v : View sig .tc sp S e) {off : Fin S.rank → Nat} (h : off = fun _ => 0)
    (inb : ∀ a, off a + S.size a ≤ S.size a) (w : Vec Ideal S e) (r : Rect S) :
    v.readCov (Val := Elt Ideal) [⟨Rect.unit off S.size inb, w⟩] r.toLoadRect = View.ld (Val := Elt Ideal) w r := by
  rw [View.readCov_eq_canon', View.canon_unit_zero h]

/-- The convolution's buffer during a point: the rows before the chunk, then the chunk itself. -/
def buf (p : Vec Ideal S264x1024 .f32) (x : Vec Ideal S256x1024 .bf16) : Vec Ideal S264x1024 .f32 := fun y =>
  if h : 8 ≤ (y 0).val then k0_pay5 x (ix2 ⟨(y 0).val - 8, by have := (y 0).isLt; show _ < 256; change _ < 264 at this; omega⟩ (y 1))
  else p y

theorem buf_read (v : View sig .tc .vmem S264x1024 .f32) (f : v.ty.Contents (Elt Ideal)) (p : Vec Ideal S264x1024 .f32)
    (x : Vec Ideal S256x1024 .bf16) (L : List (View.Piece (Elt Ideal) S264x1024 .f32)) (y : S264x1024.Idx)
    (hp : (y 0).val < 8 → v.read (Elt Ideal) (v.writes (Elt Ideal) f L) y = p y) :
    v.read (Elt Ideal) (v.writes (Elt Ideal) f (⟨Rect.unit ![8, 0] ![256, 1024] inb_S264x1024_S256x1024_8_0, k0_pay5 x⟩ :: L)) y
      = buf p x y := by
  unfold buf
  by_cases h : 8 ≤ (y 0).val
  · rw [dif_pos h]
    exact View.read_writes_cons_unit_of_mem v f _ _ L y _ rfl fun a => by
      fin_cases a
      · show (y 0).val = 8 + ((y 0).val - 8); omega
      · exact (Nat.zero_add _).symm
  · rw [dif_neg h, ← hp (by omega)]
    exact View.read_writes_cons_unit_of_not_mem v f _ _ L y rfl 0 (.inl (by show _ < 8; omega))

theorem bufB (v : View sig .tc .vmem S264x1024 .f32) (f : v.ty.Contents (Elt Ideal)) (x : Vec Ideal S256x1024 .bf16) :
    v.read (Elt Ideal) (v.writes (Elt Ideal) f [⟨Rect.unit ![8, 0] ![256, 1024] inb_S264x1024_S256x1024_8_0, k0_pay5 x⟩])
      = buf (v.read (Elt Ideal) f) x :=
  funext fun y => buf_read v f _ x [] y fun _ => by rw [View.writes_nil]

theorem bufB8 (v : View sig .tc .vmem S264x1024 .f32) (p : Vec Ideal S264x1024 .f32) (x : Vec Ideal S256x1024 .bf16) :
    v.readCov (Val := Elt Ideal) [⟨Rect.unit ![8, 0] ![256, 1024] inb_S264x1024_S256x1024_8_0, k0_pay5 x⟩]
        (Rect.unit ![8, 0] ![256, 1024] inb_S264x1024_S256x1024_8_0).toLoadRect
      = View.ld (Val := Elt Ideal) (buf p x) (Rect.unit ![8, 0] ![256, 1024] inb_S264x1024_S256x1024_8_0) := by
  rw [View.readCov_eq_canon']
  funext j
  rw [← View.read_writes_junk_apply_eq_canon v]
  exact buf_read v _ p x [] _ fun h => absurd h (by show ¬ 8 + 1 * _ < 8; omega)

theorem bufB256 (v : View sig .tc .vmem S264x1024 .f32) (p : Vec Ideal S264x1024 .f32) (x : Vec Ideal S256x1024 .bf16) :
    v.readCov (Val := Elt Ideal) [⟨Rect.unit ![8, 0] ![256, 1024] inb_S264x1024_S256x1024_8_0, k0_pay5 x⟩]
        (Rect.unit ![256, 0] ![8, 1024] inb_S264x1024_S8x1024_256_0).toLoadRect
      = View.ld (Val := Elt Ideal) (buf p x) (Rect.unit ![256, 0] ![8, 1024] inb_S264x1024_S8x1024_256_0) := by
  rw [View.readCov_eq_canon']
  funext j
  rw [← View.read_writes_junk_apply_eq_canon v]
  exact buf_read v _ p x [] _ fun h => absurd h (by show ¬ 256 + 1 * _ < 8; omega)

theorem bufA (v : View sig .tc .vmem S264x1024 .f32) (x : Vec Ideal S256x1024 .bf16) (r : Rect S264x1024) :
    v.readCov (Val := Elt Ideal) [⟨Rect.unit ![8, 0] ![256, 1024] inb_S264x1024_S256x1024_8_0, k0_pay5 x⟩,
        ⟨Rect.unit ![0, 0] ![8, 1024] inb_S264x1024_S8x1024_0_0, (k0_pay1 (F := Ideal))⟩] r.toLoadRect
      = View.ld (Val := Elt Ideal) (buf (fun _ => (0 : EReal)) x) r := by
  rw [View.readCov_eq_canon']
  funext j
  rw [← View.read_writes_junk_apply_eq_canon v]
  refine buf_read v _ (fun _ => (0 : EReal)) x _ _ fun h => ?_
  refine (View.read_writes_cons_unit_of_mem v _ _ _ [] _ (ix2 ⟨(r.idx j 0).val, h⟩ (r.idx j 1)) rfl fun a => ?_).trans ?_
  · fin_cases a
    · exact (Nat.zero_add _).symm
    · exact (Nat.zero_add _).symm
  · unfold_payloads
    pointwise

section

variable (x0 x1 x2 : Vec Ideal S256x1024 .bf16) (x3 : Vec Ideal S4x1024 .f32) (x4 : Vec Ideal S1x1024 .f32) (x5 x6 x7 : Vec Ideal S4x256x256 .bf16) (x8 : Vec Ideal S3072x128 .bf16) (x9 : Vec Ideal S1x128 .f32) (x10 x11 : Vec Ideal S1x1024 .f32)
  (p : Vec Ideal S264x1024 .f32) (m1 : Vec Ideal S4x256x256 .f32) (m2 : Vec Ideal S4x8x256 .f32) (m3 : Vec Ideal S4x8x128 .f32)

/-- The convolution but its last tap. -/
def preT : FVec Ideal S256x1024 .f32 :=
  k0_pay6 x4 (View.ld x3 (Rect.unit ![3, 0] ![1, 1024] inb_S4x1024_S1x1024_3_0))
    (View.ld (buf p x0) (Rect.unit ![8, 0] ![256, 1024] inb_S264x1024_S256x1024_8_0))
    (View.ld x3 (Rect.unit ![2, 0] ![1, 1024] inb_S4x1024_S1x1024_2_0))
    (View.ld (buf p x0) (Rect.unit ![7, 0] ![256, 1024] inb_S264x1024_S256x1024_7_0))
    (View.ld x3 (Rect.unit ![1, 0] ![1, 1024] inb_S4x1024_S1x1024_1_0))
    (View.ld (buf p x0) (Rect.unit ![6, 0] ![256, 1024] inb_S264x1024_S256x1024_6_0))

/-- The last tap's weight. -/
def tapT : FVec Ideal S1x1024 .f32 := k0_pay7 (View.ld x3 (Rect.unit ![0, 0] ![1, 1024] inb_S4x1024_S1x1024_0_0))

/-- The rows the last tap reads. -/
def rowT : Vec Ideal S256x1024 .f32 := View.ld (buf p x0) (Rect.unit ![5, 0] ![256, 1024] inb_S264x1024_S256x1024_5_0)

/-- The convolution times its logistic. -/
def xcT : FVec Ideal S256x1024 .f32 := k0_pay9 (preT x0 x3 x4 p) (tapT x3) (rowT x0 p)

/-- The same, as the products read it. -/
def xbT : FVec Ideal S256x1024 .bf16 := k0_pay10 (preT x0 x3 x4 p) (tapT x3) (rowT x0 p)

/-- The heads' queries. -/
def qT : Fin 4 → FVec Ideal S256x256 .f32 :=
  ![k0_pay11 (preT x0 x3 x4 p) (tapT x3) (rowT x0 p) (View.ld x5 (Rect.unit ![0, 0, 0] ![1, 256, 256] inb_S4x256x256_S1x256x256_0_0_0)),
    k0_pay14 (preT x0 x3 x4 p) (tapT x3) (rowT x0 p) (View.ld x5 (Rect.unit ![1, 0, 0] ![1, 256, 256] inb_S4x256x256_S1x256x256_1_0_0)),
    k0_pay18 (xbT x0 x3 x4 p) (View.ld x5 (Rect.unit ![2, 0, 0] ![1, 256, 256] inb_S4x256x256_S1x256x256_2_0_0)),
    k0_pay21 (xbT x0 x3 x4 p) (View.ld x5 (Rect.unit ![3, 0, 0] ![1, 256, 256] inb_S4x256x256_S1x256x256_3_0_0))]

/-- The heads' keys. -/
def kT : Fin 4 → FVec Ideal S256x256 .f32 :=
  ![k0_pay12 (preT x0 x3 x4 p) (tapT x3) (rowT x0 p) (View.ld x6 (Rect.unit ![0, 0, 0] ![1, 256, 256] inb_S4x256x256_S1x256x256_0_0_0)),
    k0_pay16 (k0_pay15 (preT x0 x3 x4 p) (tapT x3) (rowT x0 p)) (View.ld x6 (Rect.unit ![1, 0, 0] ![1, 256, 256] inb_S4x256x256_S1x256x256_1_0_0)),
    k0_pay19 (xbT x0 x3 x4 p) (View.ld x6 (Rect.unit ![2, 0, 0] ![1, 256, 256] inb_S4x256x256_S1x256x256_2_0_0)),
    k0_pay22 (xbT x0 x3 x4 p) (View.ld x6 (Rect.unit ![3, 0, 0] ![1, 256, 256] inb_S4x256x256_S1x256x256_3_0_0))]

/-- The heads' values. -/
def vT : Fin 4 → FVec Ideal S256x256 .f32 :=
  ![k0_pay13 x0 (View.ld x7 (Rect.unit ![0, 0, 0] ![1, 256, 256] inb_S4x256x256_S1x256x256_0_0_0)), k0_pay17 x0 (View.ld x7 (Rect.unit ![1, 0, 0] ![1, 256, 256] inb_S4x256x256_S1x256x256_1_0_0)),
    k0_pay20 x0 (View.ld x7 (Rect.unit ![2, 0, 0] ![1, 256, 256] inb_S4x256x256_S1x256x256_2_0_0)), k0_pay23 x0 (View.ld x7 (Rect.unit ![3, 0, 0] ![1, 256, 256] inb_S4x256x256_S1x256x256_3_0_0))]

/-- The gates, one column each. -/
def gcT : FVec Ideal S256x128 .f32 :=
  k0_pay33 (qT x0 x3 x4 x5 p 0) (kT x0 x3 x4 x6 p 0) (vT x0 x7 0) (qT x0 x3 x4 x5 p 1) (kT x0 x3 x4 x6 p 1) (vT x0 x7 1)
    (qT x0 x3 x4 x5 p 2) (kT x0 x3 x4 x6 p 2) (vT x0 x7 2) (qT x0 x3 x4 x5 p 3) (kT x0 x3 x4 x6 p 3) (vT x0 x7 3) x8 x9

/-- The gates, one row each. -/
def grT : FVec Ideal S128x256 .f32 := transpose S128x256 [1, 0] (gcT x0 x3 x4 x5 x6 x7 x8 x9 p) transposes_S256x128_p1_0_S128x256

/-- The heads' input gates, as a column. -/
def icT : Fin 4 → FVec Ideal S256x1 .f32 :=
  ![extractStridedSlice S256x1 ![0, 0] (gcT x0 x3 x4 x5 x6 x7 x8 x9 p) slices_S256x128_o0_0_S256x1,
    k0_pay64 (gcT x0 x3 x4 x5 x6 x7 x8 x9 p), k0_pay89 (gcT x0 x3 x4 x5 x6 x7 x8 x9 p), k0_pay111 (gcT x0 x3 x4 x5 x6 x7 x8 x9 p)]

/-- The heads' summed forget gates, as a column. -/
def bcT : Fin 4 → FVec Ideal S256x1 .f32 :=
  ![extractStridedSlice S256x1 ![0, 4] (gcT x0 x3 x4 x5 x6 x7 x8 x9 p) slices_S256x128_o0_4_S256x1,
    k0_pay65 (gcT x0 x3 x4 x5 x6 x7 x8 x9 p), k0_pay90 (gcT x0 x3 x4 x5 x6 x7 x8 x9 p), k0_pay112 (gcT x0 x3 x4 x5 x6 x7 x8 x9 p)]

/-- The heads' input gates, as a row. -/
def irT : Fin 4 → FVec Ideal S1x256 .f32 :=
  ![extractStridedSlice S1x256 ![0, 0] (grT x0 x3 x4 x5 x6 x7 x8 x9 p) slices_S128x256_o0_0_S1x256,
    extractStridedSlice S1x256 ![1, 0] (grT x0 x3 x4 x5 x6 x7 x8 x9 p) slices_S128x256_o1_0_S1x256,
    extractStridedSlice S1x256 ![2, 0] (grT x0 x3 x4 x5 x6 x7 x8 x9 p) slices_S128x256_o2_0_S1x256,
    k0_pay113 (grT x0 x3 x4 x5 x6 x7 x8 x9 p)]

/-- The heads' summed forget gates, as a row. -/
def brT : Fin 4 → FVec Ideal S1x256 .f32 :=
  ![extractStridedSlice S1x256 ![4, 0] (grT x0 x3 x4 x5 x6 x7 x8 x9 p) slices_S128x256_o4_0_S1x256,
    extractStridedSlice S1x256 ![5, 0] (grT x0 x3 x4 x5 x6 x7 x8 x9 p) slices_S128x256_o5_0_S1x256,
    extractStridedSlice S1x256 ![6, 0] (grT x0 x3 x4 x5 x6 x7 x8 x9 p) slices_S128x256_o6_0_S1x256,
    k0_pay114 (grT x0 x3 x4 x5 x6 x7 x8 x9 p)]

/-- The memory each head carried. -/
def oldC : Fin 4 → Vec Ideal S1x256x256 .f32 :=
  ![View.ld m1 (Rect.unit ![0, 0, 0] ![1, 256, 256] inb_S4x256x256_S1x256x256_0_0_0), View.ld m1 (Rect.unit ![1, 0, 0] ![1, 256, 256] inb_S4x256x256_S1x256x256_1_0_0),
    View.ld m1 (Rect.unit ![2, 0, 0] ![1, 256, 256] inb_S4x256x256_S1x256x256_2_0_0), View.ld m1 (Rect.unit ![3, 0, 0] ![1, 256, 256] inb_S4x256x256_S1x256x256_3_0_0)]

/-- The normaliser each head carried. -/
def oldN : Fin 4 → Vec Ideal S1x1x256 .f32 :=
  ![View.ld m2 (Rect.unit ![0, 0, 0] ![1, 1, 256] inb_S4x8x256_S1x1x256_0_0_0), View.ld m2 (Rect.unit ![1, 0, 0] ![1, 1, 256] inb_S4x8x256_S1x1x256_1_0_0), View.ld m2 (Rect.unit ![2, 0, 0] ![1, 1, 256] inb_S4x8x256_S1x1x256_2_0_0), View.ld m2 (Rect.unit ![3, 0, 0] ![1, 1, 256] inb_S4x8x256_S1x1x256_3_0_0)]

/-- The stabiliser each head carried. -/
def oldM : Fin 4 → Vec Ideal S1x1x1 .f32 :=
  ![View.ld m3 (Rect.unit ![0, 0, 0] ![1, 1, 1] inb_S4x8x128_S1x1x1_0_0_0), View.ld m3 (Rect.unit ![1, 0, 0] ![1, 1, 1] inb_S4x8x128_S1x1x1_1_0_0), View.ld m3 (Rect.unit ![2, 0, 0] ![1, 1, 1] inb_S4x8x128_S1x1x1_2_0_0), View.ld m3 (Rect.unit ![3, 0, 0] ![1, 1, 1] inb_S4x8x128_S1x1x1_3_0_0)]

/-- Each head's columns of a block of rows. -/
def colsT (x : Vec Ideal S256x1024 .bf16) : Fin 4 → Vec Ideal S256x256 .bf16 :=
  ![View.ld x (Rect.unit ![0, 0] ![256, 256] inb_S256x1024_S256x256_0_0), View.ld x (Rect.unit ![0, 256] ![256, 256] inb_S256x1024_S256x256_0_256), View.ld x (Rect.unit ![0, 512] ![256, 256] inb_S256x1024_S256x256_0_512), View.ld x (Rect.unit ![0, 768] ![256, 256] inb_S256x1024_S256x256_0_768)]

/-- Each head's entries of a row. -/
def entT (x : Vec Ideal S1x1024 .f32) : Fin 4 → Vec Ideal S1x256 .f32 :=
  ![View.ld x (Rect.unit ![0, 0] ![1, 256] inb_S1x1024_S1x256_0_0), View.ld x (Rect.unit ![0, 256] ![1, 256] inb_S1x1024_S1x256_0_256), View.ld x (Rect.unit ![0, 512] ![1, 256] inb_S1x1024_S1x256_0_512), View.ld x (Rect.unit ![0, 768] ![1, 256] inb_S1x1024_S1x256_0_768)]

/-- Each head's columns of the convolution. -/
def xhT : Fin 4 → FVec Ideal S256x256 .f32 :=
  ![extractStridedSlice S256x256 ![0, 0] (xcT x0 x3 x4 p) slices_S256x1024_o0_0_S256x256, extractStridedSlice S256x256 ![0, 256] (xcT x0 x3 x4 p) slices_S256x1024_o0_256_S256x256, extractStridedSlice S256x256 ![0, 512] (xcT x0 x3 x4 p) slices_S256x1024_o0_512_S256x256, extractStridedSlice S256x256 ![0, 768] (xcT x0 x3 x4 p) slices_S256x1024_o0_768_S256x256]

/-- Each head's output rows. -/
def outT (h : Fin 4) : FVec Ideal S256x256 .bf16 :=
  finT (xhT x0 x3 x4 p h)
    (hidT (qT x0 x3 x4 x5 p h) (kT x0 x3 x4 x6 p h) (vT x0 x7 h) (bcT x0 x3 x4 x5 x6 x7 x8 x9 p h)
      (irT x0 x3 x4 x5 x6 x7 x8 x9 p h) (brT x0 x3 x4 x5 x6 x7 x8 x9 p h) (oldM m3 h) (oldC m1 h) (oldN m2 h))
    (colsT x2 h) (colsT x1 h) (entT x10 h) (entT x11 h)

/-- The memory each head leaves. -/
def newC (h : Fin 4) : FVec Ideal S1x256x256 .f32 :=
  memT (kT x0 x3 x4 x6 p h) (vT x0 x7 h) (icT x0 x3 x4 x5 x6 x7 x8 x9 p h) (bcT x0 x3 x4 x5 x6 x7 x8 x9 p h) (oldM m3 h) (oldC m1 h)

/-- The normaliser each head leaves. -/
def newN (h : Fin 4) : FVec Ideal S1x1x256 .f32 :=
  nrmT (kT x0 x3 x4 x6 p h) (icT x0 x3 x4 x5 x6 x7 x8 x9 p h) (bcT x0 x3 x4 x5 x6 x7 x8 x9 p h) (oldM m3 h) (oldN m2 h)

/-- The stabiliser each head leaves. -/
def newM (h : Fin 4) : FVec Ideal S1x8x128 .f32 :=
  stabT (icT x0 x3 x4 x5 x6 x7 x8 x9 p h) (bcT x0 x3 x4 x5 x6 x7 x8 x9 p h) (oldM m3 h)

end

/-! ## Reading what four stores leave -/

/-- Four blocks of columns side by side. -/
theorem read_cols {v : View sig .tc .vmem S256x1024 .bf16} {f : v.ty.Contents (Elt Ideal)} {P0 P1 P2 P3 : Vec Ideal S256x256 .bf16}
    (h : Fin 4) (i d : Fin 256) :
    v.read (Elt Ideal) (v.writes (Elt Ideal) f [⟨Rect.unit ![0, 768] ![256, 256] inb_S256x1024_S256x256_0_768, P3⟩,
      ⟨Rect.unit ![0, 512] ![256, 256] inb_S256x1024_S256x256_0_512, P2⟩,
      ⟨Rect.unit ![0, 256] ![256, 256] inb_S256x1024_S256x256_0_256, P1⟩,
      ⟨Rect.unit ![0, 0] ![256, 256] inb_S256x1024_S256x256_0_0, P0⟩]) (ix2 i (Cert.Mlstm.lane h d)) = (![P0, P1, P2, P3] h) (ix2 i d) := by
  fin_cases h
  · rw [View.read_writes_cons_unit_of_not_mem v f _ _ _ _ rfl 1 (.inl (show 256 * 0 + d.val < 768 by omega)),
      View.read_writes_cons_unit_of_not_mem v f _ _ _ _ rfl 1 (.inl (show 256 * 0 + d.val < 512 by omega)),
      View.read_writes_cons_unit_of_not_mem v f _ _ _ _ rfl 1 (.inl (show 256 * 0 + d.val < 256 by omega))]
    exact View.read_writes_cons_unit_of_mem v f _ _ _ _ (ix2 i d) rfl fun a => by
      fin_cases a
      · exact (Nat.zero_add _).symm
      · show 256 * 0 + d.val = 0 + d.val; omega
  · rw [View.read_writes_cons_unit_of_not_mem v f _ _ _ _ rfl 1 (.inl (show 256 * 1 + d.val < 768 by omega)),
      View.read_writes_cons_unit_of_not_mem v f _ _ _ _ rfl 1 (.inl (show 256 * 1 + d.val < 512 by omega))]
    exact View.read_writes_cons_unit_of_mem v f _ _ _ _ (ix2 i d) rfl fun a => by
      fin_cases a
      · exact (Nat.zero_add _).symm
      · show 256 * 1 + d.val = 256 + d.val; omega
  · rw [View.read_writes_cons_unit_of_not_mem v f _ _ _ _ rfl 1 (.inl (show 256 * 2 + d.val < 768 by omega))]
    exact View.read_writes_cons_unit_of_mem v f _ _ _ _ (ix2 i d) rfl fun a => by
      fin_cases a
      · exact (Nat.zero_add _).symm
      · show 256 * 2 + d.val = 512 + d.val; omega
  · exact View.read_writes_cons_unit_of_mem v f _ _ _ _ (ix2 i d) rfl fun a => by
      fin_cases a
      · exact (Nat.zero_add _).symm
      · show 256 * 3 + d.val = 768 + d.val; omega

/-- Four slabs of a buffer, one for each head, over anything. -/
theorem read_slabs {r n R N : Nat} {v : View sig .tc .vmem ⟨3, ![4, R, N]⟩ .f32} {f : v.ty.Contents (Elt Ideal)}
    {P0 P1 P2 P3 : Vec Ideal ⟨3, ![1, r, n]⟩ .f32} {L : List (View.Piece (Elt Ideal) ⟨3, ![4, R, N]⟩ .f32)}
    (i0 : ∀ a, ![0, 0, 0] a + ![1, r, n] a ≤ (⟨3, ![4, R, N]⟩ : Shape).size a) (i1 : ∀ a, ![1, 0, 0] a + ![1, r, n] a ≤ (⟨3, ![4, R, N]⟩ : Shape).size a)
    (i2 : ∀ a, ![2, 0, 0] a + ![1, r, n] a ≤ (⟨3, ![4, R, N]⟩ : Shape).size a) (i3 : ∀ a, ![3, 0, 0] a + ![1, r, n] a ≤ (⟨3, ![4, R, N]⟩ : Shape).size a)
    (h : Fin 4) (i : Fin r) (d : Fin n) (I : Fin R) (D : Fin N) (hi : I.val = i.val) (hd : D.val = d.val) :
    v.read (Elt Ideal) (v.writes (Elt Ideal) f (⟨Rect.unit ![3, 0, 0] ![1, r, n] i3, P3⟩ :: ⟨Rect.unit ![2, 0, 0] ![1, r, n] i2, P2⟩
      :: ⟨Rect.unit ![1, 0, 0] ![1, r, n] i1, P1⟩ :: ⟨Rect.unit ![0, 0, 0] ![1, r, n] i0, P0⟩ :: L)) (ix3 h I D)
      = (![P0, P1, P2, P3] h) (ix3 0 i d) := by
  fin_cases h
  · rw [View.read_writes_cons_unit_of_not_mem v f _ _ _ _ rfl 0 (.inl (show 0 < 3 by omega)),
      View.read_writes_cons_unit_of_not_mem v f _ _ _ _ rfl 0 (.inl (show 0 < 2 by omega)),
      View.read_writes_cons_unit_of_not_mem v f _ _ _ _ rfl 0 (.inl (show 0 < 1 by omega))]
    exact View.read_writes_cons_unit_of_mem v f _ _ _ _ (ix3 0 i d) rfl fun a => by
      fin_cases a
      · rfl
      · exact hi.trans (Nat.zero_add _).symm
      · exact hd.trans (Nat.zero_add _).symm
  · rw [View.read_writes_cons_unit_of_not_mem v f _ _ _ _ rfl 0 (.inl (show 1 < 3 by omega)),
      View.read_writes_cons_unit_of_not_mem v f _ _ _ _ rfl 0 (.inl (show 1 < 2 by omega))]
    exact View.read_writes_cons_unit_of_mem v f _ _ _ _ (ix3 0 i d) rfl fun a => by
      fin_cases a
      · rfl
      · exact hi.trans (Nat.zero_add _).symm
      · exact hd.trans (Nat.zero_add _).symm
  · rw [View.read_writes_cons_unit_of_not_mem v f _ _ _ _ rfl 0 (.inl (show 2 < 3 by omega))]
    exact View.read_writes_cons_unit_of_mem v f _ _ _ _ (ix3 0 i d) rfl fun a => by
      fin_cases a
      · rfl
      · exact hi.trans (Nat.zero_add _).symm
      · exact hd.trans (Nat.zero_add _).symm
  · exact View.read_writes_cons_unit_of_mem v f _ _ _ _ (ix3 0 i d) rfl fun a => by
      fin_cases a
      · rfl
      · exact hi.trans (Nat.zero_add _).symm
      · exact hd.trans (Nat.zero_add _).symm

/-- The first rows of the convolution's buffer. -/
theorem read_rows {v : View sig .tc .vmem S264x1024 .f32} {f : v.ty.Contents (Elt Ideal)} {P : Vec Ideal S8x1024 .f32}
    {L : List (View.Piece (Elt Ideal) S264x1024 .f32)} (r : Fin 8) (c : Fin 1024) :
    v.read (Elt Ideal) (v.writes (Elt Ideal) f (⟨Rect.unit ![0, 0] ![8, 1024] inb_S264x1024_S8x1024_0_0, P⟩ :: L)) (ix2 ⟨r.val, by omega⟩ c)
      = P (ix2 r c) :=
  View.read_writes_cons_unit_of_mem v f _ _ _ _ (ix2 r c) rfl fun a => by
    fin_cases a
    · exact (Nat.zero_add _).symm
    · exact (Nat.zero_add _).symm

/-! ## What a point leaves -/

section

variable (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S4x256x256 .bf16) (harg8 : arg8.IsWhole) (arg9 : Memref sig .tc .vmem S4x256x256 .bf16) (harg9 : arg9.IsWhole) (arg10 : Memref sig .tc .vmem S3072x128 .bf16) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S264x1024 .f32) (harg15 : arg15.IsWhole) (arg16 : Memref sig .tc .vmem S4x256x256 .f32) (harg16 : arg16.IsWhole) (arg17 : Memref sig .tc .vmem S4x8x256 .f32) (harg17 : arg17.IsWhole) (arg18 : Memref sig .tc .vmem S4x8x128 .f32) (harg18 : arg18.IsWhole)
  (x0 x1 x2 : Vec Ideal S256x1024 .bf16) (x3 : Vec Ideal S4x1024 .f32) (x4 : Vec Ideal S1x1024 .f32) (x5 x6 x7 : Vec Ideal S4x256x256 .bf16) (x8 : Vec Ideal S3072x128 .bf16) (x9 : Vec Ideal S1x128 .f32) (x10 x11 : Vec Ideal S1x1024 .f32) (xs0 : Vec Ideal S264x1024 .f32) (xs1 : Vec Ideal S4x256x256 .f32) (xs2 : Vec Ideal S4x8x256 .f32) (xs3 : Vec Ideal S4x8x128 .f32)

theorem outB (hc0 : ¬cond0_0 i) (h : Fin 4) (r d : Fin 256) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1 xs2 xs3 (ix2 r (Cert.Mlstm.lane h d))
      = outT x0 x1 x2 x3 x4 x5 x6 x7 x8 x9 x10 x11 xs0 xs1 xs2 xs3 h (ix2 r d) := by
  unfold out0_B_12 kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    harg15.read_unread, harg16.read_unread, harg17.read_unread, harg18.read_unread, bufB, bufB8 arg15.view xs0, bufB256 arg15.view xs0, fin0, fin1, fin2, fin3, hid1, hid2, hid3]
  refine (read_cols h r d).trans ?_
  fin_cases h <;> rfl

theorem memB (hc0 : ¬cond0_0 i) (h : Fin 4) (r d : Fin 256) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1 xs2 xs3 (ix3 h r d)
      = newC x0 x3 x4 x5 x6 x7 x8 x9 xs0 xs1 xs3 h (ix3 0 r d) := by
  unfold sout0_B_1 kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    harg15.read_unread, harg16.read_unread, harg17.read_unread, harg18.read_unread, bufB, bufB8 arg15.view xs0, bufB256 arg15.view xs0, mem1, mem2, mem3]
  refine (read_slabs _ _ _ _ h r d r d rfl rfl).trans ?_
  fin_cases h <;> rfl

theorem nrmB (hc0 : ¬cond0_0 i) (h : Fin 4) (d : Fin 256) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1 xs2 xs3 (ix3 h 0 d)
      = newN x0 x3 x4 x5 x6 x7 x8 x9 xs0 xs2 xs3 h (ix3 0 0 d) := by
  unfold sout0_B_2 kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    harg15.read_unread, harg16.read_unread, harg17.read_unread, harg18.read_unread, bufB, bufB8 arg15.view xs0, bufB256 arg15.view xs0, nrm1, nrm2, nrm3]
  refine (read_slabs _ _ _ _ h (0 : Fin 1) d (0 : Fin 8) d rfl rfl).trans ?_
  fin_cases h <;> rfl

theorem stabB (hc0 : ¬cond0_0 i) (h : Fin 4) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1 xs2 xs3 (ix3 h 0 0)
      = newM x0 x3 x4 x5 x6 x7 x8 x9 xs0 xs3 h (ix3 0 0 0) := by
  unfold sout0_B_3 kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    harg15.read_unread, harg16.read_unread, harg17.read_unread, harg18.read_unread, bufB, bufB8 arg15.view xs0, bufB256 arg15.view xs0, stab1, stab2, stab3]
  refine (read_slabs _ _ _ _ h (0 : Fin 8) (0 : Fin 128) (0 : Fin 8) (0 : Fin 128) rfl rfl).trans ?_
  fin_cases h <;> rfl

theorem rowsB (hc0 : ¬cond0_0 i) (r : Fin 8) (l : Fin 1024) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1 xs2 xs3 (ix2 ⟨r.val, by omega⟩ l)
      = k0_pay8 (View.ld (buf xs0 x0) (Rect.unit ![256, 0] ![8, 1024] inb_S264x1024_S8x1024_256_0)) (ix2 r l) := by
  unfold sout0_B_0 kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    harg15.read_unread, harg16.read_unread, harg17.read_unread, harg18.read_unread, bufB, bufB8 arg15.view xs0, bufB256 arg15.view xs0]
  refine (read_rows r l).trans ?_
  rfl

theorem outA (hc0 : cond0_0 i) (h : Fin 4) (r d : Fin 256) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 r (Cert.Mlstm.lane h d))
      = outT x0 x1 x2 x3 x4 x5 x6 x7 x8 x9 x10 x11 (fun _ => (0 : EReal)) (k0_pay2 (F := Ideal)) (k0_pay3 (F := Ideal)) (k0_pay4 (F := Ideal)) h (ix2 r d) := by
  unfold out0_A_12 kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    bufA, readCov_whole (S := S4x256x256) _ hz3, readCov_whole (S := S4x8x256) _ hz3, readCov_whole (S := S4x8x128) _ hz3, fin0, fin1, fin2, fin3, hid1, hid2, hid3]
  refine (read_cols h r d).trans ?_
  fin_cases h <;> rfl

theorem memA (hc0 : cond0_0 i) (h : Fin 4) (r d : Fin 256) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 h r d)
      = newC x0 x3 x4 x5 x6 x7 x8 x9 (fun _ => (0 : EReal)) (k0_pay2 (F := Ideal)) (k0_pay4 (F := Ideal)) h (ix3 0 r d) := by
  unfold sout0_A_1 kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    bufA, readCov_whole (S := S4x256x256) _ hz3, readCov_whole (S := S4x8x256) _ hz3, readCov_whole (S := S4x8x128) _ hz3, mem1, mem2, mem3]
  refine (read_slabs _ _ _ _ h r d r d rfl rfl).trans ?_
  fin_cases h <;> rfl

theorem nrmA (hc0 : cond0_0 i) (h : Fin 4) (d : Fin 256) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 h 0 d)
      = newN x0 x3 x4 x5 x6 x7 x8 x9 (fun _ => (0 : EReal)) (k0_pay3 (F := Ideal)) (k0_pay4 (F := Ideal)) h (ix3 0 0 d) := by
  unfold sout0_A_2 kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    bufA, readCov_whole (S := S4x256x256) _ hz3, readCov_whole (S := S4x8x256) _ hz3, readCov_whole (S := S4x8x128) _ hz3, nrm1, nrm2, nrm3]
  refine (read_slabs _ _ _ _ h (0 : Fin 1) d (0 : Fin 8) d rfl rfl).trans ?_
  fin_cases h <;> rfl

theorem stabA (hc0 : cond0_0 i) (h : Fin 4) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 h 0 0)
      = newM x0 x3 x4 x5 x6 x7 x8 x9 (fun _ => (0 : EReal)) (k0_pay4 (F := Ideal)) h (ix3 0 0 0) := by
  unfold sout0_A_3 kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    bufA, readCov_whole (S := S4x256x256) _ hz3, readCov_whole (S := S4x8x256) _ hz3, readCov_whole (S := S4x8x128) _ hz3, stab1, stab2, stab3]
  refine (read_slabs _ _ _ _ h (0 : Fin 8) (0 : Fin 128) (0 : Fin 8) (0 : Fin 128) rfl rfl).trans ?_
  fin_cases h <;> rfl

theorem rowsA (hc0 : cond0_0 i) (r : Fin 8) (l : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 ⟨r.val, by omega⟩ l)
      = k0_pay8 (View.ld (buf (fun _ => (0 : EReal)) x0) (Rect.unit ![256, 0] ![8, 1024] inb_S264x1024_S8x1024_256_0)) (ix2 r l) := by
  unfold sout0_A_0 kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S256x1024) hz, View.ld_unit_zero (S := S1x1024) hz,
    View.ld_unit_zero (S := S3072x128) hz, View.ld_unit_zero (S := S1x128) hz,
    bufA, readCov_whole (S := S4x256x256) _ hz3, readCov_whole (S := S4x8x256) _ hz3, readCov_whole (S := S4x8x128) _ hz3]
  refine (read_rows r l).trans ?_
  rfl

end

end Cert.MlstmIdeal.Block
end
-- ==== Proof.MlstmEntries.lean ====
/- What one grid point of the recurrence computes, entry by entry over the extended reals: from blocks that read the rows
   of one sequence and from what the heads carried, the block's output rows are the sequence's, and what the heads carry on
   is what the next chunk needs. -/
module

public import proofs.«01_k».proof.Proof.MlstmBlock

@[expose] public section

set_option maxRecDepth 16384

noncomputable section

open Idealize.ShloMosaic Idealize.ShloMosaic.TcCoe Idealize.SL.Sem
open Idealize.ShloMosaic.Pipeline (Dat)

namespace Cert.MlstmIdeal.Block

open Cert.MlstmIdeal Cert.MlstmIdeal.Gen Cert.Mlstm Cert.Reals

section

variable (x0 x1 x2 : Vec Ideal S256x1024 .bf16) (x3 : Vec Ideal S4x1024 .f32) (x4 : Vec Ideal S1x1024 .f32)
  (x5 x6 x7 : Vec Ideal S4x256x256 .bf16) (x8 : Vec Ideal S3072x128 .bf16) (x9 : Vec Ideal S1x128 .f32)
  (x10 x11 : Vec Ideal S1x1024 .f32)
  (p : Vec Ideal S264x1024 .f32) (m1 : Vec Ideal S4x256x256 .f32) (m2 : Vec Ideal S4x8x256 .f32) (m3 : Vec Ideal S4x8x128 .f32)

theorem preT_apply (i : Fin 256) (c : Fin 1024) : preT x0 x3 x4 p (ix2 i c) =
    x4 (ix2 0 c) + x3 (ix2 3 c) * buf p x0 (ix2 ⟨8 + i.val, by omega⟩ c) + x3 (ix2 2 c) * buf p x0 (ix2 ⟨7 + i.val, by omega⟩ c)
      + x3 (ix2 1 c) * buf p x0 (ix2 ⟨6 + i.val, by omega⟩ c) := by
  unfold preT k0_pay6
  pointwise

theorem xcT_apply (i : Fin 256) (c : Fin 1024) : xcT x0 x3 x4 p (ix2 i c) =
    silu (preT x0 x3 x4 p (ix2 i c) + x3 (ix2 0 c) * buf p x0 (ix2 ⟨5 + i.val, by omega⟩ c)) := by
  unfold xcT k0_pay9 tapT k0_pay7 rowT
  pointwise [silu]

theorem xbT_apply (i : Fin 256) (c : Fin 1024) : k0_pay10 (preT x0 x3 x4 p) (tapT x3) (rowT x0 p) (ix2 i c) = xcT x0 x3 x4 p (ix2 i c) := rfl

theorem qT_apply (h : Fin 4) (i d : Fin 256) : qT x0 x3 x4 x5 p h (ix2 i d) =
    ∑ k : Fin 256, xcT x0 x3 x4 p (ix2 i (lane h k)) * x5 (ix3 h k d) := by
  unfold qT xbT k0_pay11 k0_pay14 k0_pay18 k0_pay21
  fin_cases h <;> simp only [Fin.zero_eta, Fin.mk_one, Fin.reduceFinMk, Matrix.cons_val]
  all_goals pointwise [xbT_apply, lane]

theorem kT_apply (h : Fin 4) (i d : Fin 256) : kT x0 x3 x4 x6 p h (ix2 i d) =
    ∑ k : Fin 256, xcT x0 x3 x4 p (ix2 i (lane h k)) * x6 (ix3 h k d) := by
  unfold kT xbT k0_pay12 k0_pay16 k0_pay15 k0_pay19 k0_pay22
  fin_cases h <;> simp only [Fin.zero_eta, Fin.mk_one, Fin.reduceFinMk, Matrix.cons_val]
  all_goals pointwise [xbT_apply, lane]

theorem vT_apply (h : Fin 4) (i d : Fin 256) : vT x0 x7 h (ix2 i d) = ∑ k : Fin 256, x0 (ix2 i (lane h k)) * x7 (ix3 h k d) := by
  unfold vT k0_pay13 k0_pay17 k0_pay20 k0_pay23
  fin_cases h <;> simp only [Fin.zero_eta, Fin.mk_one, Fin.reduceFinMk, Matrix.cons_val]
  all_goals pointwise [lane]

theorem icT_apply (h : Fin 4) (i : Fin 256) : icT x0 x3 x4 x5 x6 x7 x8 x9 p h (ix2 i 0) =
    gcT x0 x3 x4 x5 x6 x7 x8 x9 p (ix2 i ⟨h.val, by omega⟩) := by
  unfold icT k0_pay64 k0_pay89 k0_pay111
  generalize gcT x0 x3 x4 x5 x6 x7 x8 x9 p = g
  fin_cases h <;> simp only [Fin.zero_eta, Fin.mk_one, Fin.reduceFinMk, Matrix.cons_val]
  all_goals pointwise

theorem bcT_apply (h : Fin 4) (i : Fin 256) : bcT x0 x3 x4 x5 x6 x7 x8 x9 p h (ix2 i 0) =
    gcT x0 x3 x4 x5 x6 x7 x8 x9 p (ix2 i ⟨4 + h.val, by omega⟩) := by
  unfold bcT k0_pay65 k0_pay90 k0_pay112
  generalize gcT x0 x3 x4 x5 x6 x7 x8 x9 p = g
  fin_cases h <;> simp only [Fin.zero_eta, Fin.mk_one, Fin.reduceFinMk, Matrix.cons_val]
  all_goals pointwise

theorem irT_apply (h : Fin 4) (i : Fin 256) : irT x0 x3 x4 x5 x6 x7 x8 x9 p h (ix2 0 i) =
    gcT x0 x3 x4 x5 x6 x7 x8 x9 p (ix2 i ⟨h.val, by omega⟩) := by
  unfold irT grT k0_pay113
  generalize gcT x0 x3 x4 x5 x6 x7 x8 x9 p = g
  fin_cases h <;> simp only [Fin.zero_eta, Fin.mk_one, Fin.reduceFinMk, Matrix.cons_val]
  all_goals pointwise

theorem brT_apply (h : Fin 4) (i : Fin 256) : brT x0 x3 x4 x5 x6 x7 x8 x9 p h (ix2 0 i) =
    gcT x0 x3 x4 x5 x6 x7 x8 x9 p (ix2 i ⟨4 + h.val, by omega⟩) := by
  unfold brT grT k0_pay114
  generalize gcT x0 x3 x4 x5 x6 x7 x8 x9 p = g
  fin_cases h <;> simp only [Fin.zero_eta, Fin.mk_one, Fin.reduceFinMk, Matrix.cons_val]
  all_goals pointwise

theorem oldC_apply (h : Fin 4) (d e : Fin 256) : oldC m1 h (ix3 0 d e) = m1 (ix3 h d e) := by
  unfold oldC
  fin_cases h <;> simp only [Fin.zero_eta, Fin.mk_one, Fin.reduceFinMk, Matrix.cons_val]
  all_goals pointwise

theorem oldN_apply (h : Fin 4) (d : Fin 256) : oldN m2 h (ix3 0 0 d) = m2 (ix3 h 0 d) := by
  unfold oldN
  fin_cases h <;> simp only [Fin.zero_eta, Fin.mk_one, Fin.reduceFinMk, Matrix.cons_val]
  all_goals pointwise

theorem oldM_apply (h : Fin 4) : oldM m3 h (ix3 0 0 0) = m3 (ix3 h 0 0) := by
  unfold oldM
  fin_cases h <;> simp only [Fin.zero_eta, Fin.mk_one, Fin.reduceFinMk, Matrix.cons_val]
  all_goals pointwise

theorem colsT_apply (x : Vec Ideal S256x1024 .bf16) (h : Fin 4) (i d : Fin 256) : colsT x h (ix2 i d) = x (ix2 i (lane h d)) := by
  unfold colsT
  fin_cases h <;> simp only [Fin.zero_eta, Fin.mk_one, Fin.reduceFinMk, Matrix.cons_val]
  all_goals pointwise [lane]

theorem entT_apply (x : Vec Ideal S1x1024 .f32) (h : Fin 4) (d : Fin 256) : entT x h (ix2 0 d) = x (ix2 0 (lane h d)) := by
  unfold entT
  fin_cases h <;> simp only [Fin.zero_eta, Fin.mk_one, Fin.reduceFinMk, Matrix.cons_val]
  all_goals pointwise [lane]

theorem xhT_apply (h : Fin 4) (i d : Fin 256) : xhT x0 x3 x4 p h (ix2 i d) = xcT x0 x3 x4 p (ix2 i (lane h d)) := by
  unfold xhT
  generalize xcT x0 x3 x4 p = x
  fin_cases h <;> simp only [Fin.zero_eta, Fin.mk_one, Fin.reduceFinMk, Matrix.cons_val]
  all_goals pointwise [lane]

end

end Cert.MlstmIdeal.Block
end
-- ==== Proof.MlstmPoint.lean ====
/- One grid point of the recurrence as one chunk of a sequence: if its blocks read rows `c0` to `c0 + 255` of the sequence
   and the scratch holds what the heads carry before row `c0`, the output rows are the layer's and the scratch afterwards
   holds what the heads carry before row `c0 + 256`. -/
module

public import proofs.«01_k».proof.Proof.MlstmEntries

@[expose] public section

set_option maxRecDepth 16384

noncomputable section

open Idealize.ShloMosaic Idealize.ShloMosaic.TcCoe Idealize.SL.Sem
open Idealize.ShloMosaic.Pipeline (Dat)

namespace Cert.MlstmIdeal.Block

open Cert.MlstmIdeal Cert.MlstmIdeal.Gen Cert.Mlstm Cert.Reals

/-- The blocks of a point read rows `c0` and on of a sequence, and its weights. -/
structure Reads (D : Data) (c0 : ℕ) (x0 x1 x2 : Vec Ideal S256x1024 .bf16) (x3 : Vec Ideal S4x1024 .f32) (x4 : Vec Ideal S1x1024 .f32)
    (x5 x6 x7 : Vec Ideal S4x256x256 .bf16) (x8 : Vec Ideal S3072x128 .bf16) (x9 : Vec Ideal S1x128 .f32)
    (x10 x11 : Vec Ideal S1x1024 .f32) : Prop where
  /-- the rows -/
  x : ∀ (i : Fin 256) (c : Fin 1024), x0 (ix2 i c) = D.x (c0 + i.val) c
  /-- the output gate's rows -/
  z : ∀ (i : Fin 256) (c : Fin 1024), x1 (ix2 i c) = D.z (c0 + i.val) c
  /-- the heads' gate's rows -/
  o : ∀ (i : Fin 256) (c : Fin 1024), x2 (ix2 i c) = D.o (c0 + i.val) c
  /-- the convolution's weight -/
  cw : ∀ (k : Fin 4) (c : Fin 1024), x3 (ix2 k c) = D.cw k c
  /-- its bias -/
  cb : ∀ c : Fin 1024, x4 (ix2 0 c) = D.cb c
  /-- the queries' blocks, as one square for each head -/
  wq : ∀ (t : Fin 1024 → EReal) (h : Fin 4) (d : Fin 256), ∑ k : Fin 256, t (lane h k) * x5 (ix3 h k d) = proj t D.wq (lane h d)
  /-- the keys' blocks -/
  wk : ∀ (t : Fin 1024 → EReal) (h : Fin 4) (d : Fin 256), ∑ k : Fin 256, t (lane h k) * x6 (ix3 h k d) = proj t D.wk (lane h d)
  /-- the values' blocks -/
  wv : ∀ (t : Fin 1024 → EReal) (h : Fin 4) (d : Fin 256), ∑ k : Fin 256, t (lane h k) * x7 (ix3 h k d) = proj t D.wv (lane h d)
  /-- the gates' weight -/
  wg : ∀ (j : Fin 3072) (g : Fin 8), x8 (ix2 j ⟨g.val, by omega⟩) = D.wg j g
  /-- the gates' bias -/
  bg : ∀ g : Fin 8, x9 (ix2 0 ⟨g.val, by omega⟩) = D.bg g
  /-- the norm's gain -/
  gh : ∀ c : Fin 1024, x10 (ix2 0 c) = D.gh c
  /-- the skip's weight -/
  sk : ∀ c : Fin 1024, x11 (ix2 0 c) = D.sk c

/-- The buffer's rows before the chunk are the sequence's last three before row `c0`, zeros before the sequence. -/
def Before (D : Data) (c0 : ℕ) (p : Vec Ideal S264x1024 .f32) : Prop :=
  ∀ (r : Fin 8) (c : Fin 1024), 5 ≤ r.val → p (ix2 ⟨r.val, by omega⟩ c) = if 8 ≤ c0 + r.val then D.x (c0 + r.val - 8) c else 0

/-- The scratch holds what the heads carry before row `c0`. -/
def Carries (D : Data) (c0 : ℕ) (m1 : Vec Ideal S4x256x256 .f32) (m2 : Vec Ideal S4x8x256 .f32) (m3 : Vec Ideal S4x8x128 .f32) : Prop :=
  ∀ h : Fin 4, Carried (fun s => (D.fg h s).toReal) (fun s => (D.ig h s).toReal) (fun s d => (D.ks s (lane h d)).toReal)
    (fun s d => (D.v s (lane h d)).toReal) c0 (m3 (ix3 h 0 0)) (fun d e => m1 (ix3 h d e)) (fun d => m2 (ix3 h 0 d))

theorem cat_q (D : Data) (s : ℕ) (h : Fin 4) (d : Fin 256) (j : Fin 3072) (hj : j.val = 256 * h.val + d.val) :
    D.q s (lane h d) = D.cat s j := by
  unfold Data.cat
  rw [dif_pos (by omega)]
  exact congrArg (D.q s) (Fin.ext hj.symm)

theorem cat_k (D : Data) (s : ℕ) (h : Fin 4) (d : Fin 256) (j : Fin 3072) (hj : j.val = 1024 + (256 * h.val + d.val)) :
    D.k s (lane h d) = D.cat s j := by
  unfold Data.cat
  rw [dif_neg (by omega), dif_pos (by omega)]
  exact congrArg (D.k s) (Fin.ext (by show 256 * h.val + d.val = j.val - 1024; omega))

theorem cat_v (D : Data) (s : ℕ) (h : Fin 4) (d : Fin 256) (j : Fin 3072) (hj : j.val = 2048 + (256 * h.val + d.val)) :
    D.v s (lane h d) = D.cat s j := by
  unfold Data.cat
  rw [dif_neg (by omega), dif_neg (by omega)]
  exact congrArg (D.v s) (Fin.ext (by show 256 * h.val + d.val = j.val - 1024 - 1024; omega))

/-- A sum of extended reals up to a row, when each is real. -/
theorem sum_upto {lf : ℕ → ℝ} {f : ℕ → EReal} (hf : ∀ s, f s = ((lf s : ℝ) : EReal)) (c0 : ℕ) {L : ℕ} (i : Fin L) :
    (∑ j : Fin L, if j ≤ i then f (c0 + j.val) else 0) = ((cum lf (c0 + i.val + 1) - cum lf c0 : ℝ) : EReal) := by
  have e (j : Fin L) : (if j ≤ i then f (c0 + j.val) else 0) = (((if j ≤ i then lf (c0 + j.val) else 0 : ℝ)) : EReal) := by
    split
    · exact hf _
    · rfl
  rw [Finset.sum_congr rfl fun j _ => e j, ← coe_sum, sum_le i fun n => lf (c0 + n)]
  congr 1
  rw [cum, cum, add_assoc, sum_split c0 (i.val + 1)]
  ring

theorem pay5_apply (x : Vec Ideal S256x1024 .bf16) (i : Fin 256) (c : Fin 1024) : k0_pay5 x (ix2 i c) = x (ix2 i c) := by
  unfold k0_pay5
  pointwise

section

variable {D : Data} {c0 : ℕ} {x0 x1 x2 : Vec Ideal S256x1024 .bf16} {x3 : Vec Ideal S4x1024 .f32} {x4 : Vec Ideal S1x1024 .f32}
  {x5 x6 x7 : Vec Ideal S4x256x256 .bf16} {x8 : Vec Ideal S3072x128 .bf16} {x9 : Vec Ideal S1x128 .f32}
  {x10 x11 : Vec Ideal S1x1024 .f32}
  {p : Vec Ideal S264x1024 .f32} {m1 : Vec Ideal S4x256x256 .f32} {m2 : Vec Ideal S4x8x256 .f32} {m3 : Vec Ideal S4x8x128 .f32}
  (R : Reads D c0 x0 x1 x2 x3 x4 x5 x6 x7 x8 x9 x10 x11) (hp : Before D c0 p)

include R hp in
theorem buf_apply (r : Fin 264) (c : Fin 1024) (hr : 5 ≤ r.val) :
    buf p x0 (ix2 r c) = if 8 ≤ c0 + r.val then D.x (c0 + r.val - 8) c else 0 := by
  unfold buf
  by_cases h : 8 ≤ r.val
  · rw [dif_pos (show 8 ≤ (ix2 (n0 := 264) (n1 := 1024) r c 0).val from h), if_pos (by omega)]
    refine (pay5_apply x0 ⟨r.val - 8, by omega⟩ c).trans ((R.x ⟨r.val - 8, by omega⟩ c).trans ?_)
    exact congrArg (fun n => D.x n c) (by dsimp only; omega)
  · rw [dif_neg (show ¬ 8 ≤ (ix2 (n0 := 264) (n1 := 1024) r c 0).val from h)]
    exact hp ⟨r.val, by omega⟩ c hr

include R hp in
theorem tap_read (k : ℕ) (hk : k ≤ 3) (i : Fin 256) (c : Fin 1024) (r : Fin 264) (hr : r.val = 5 + k + i.val) :
    buf p x0 (ix2 r c) = D.tap k (c0 + i.val) c := by
  rw [buf_apply R hp r c (by omega), Data.tap]
  by_cases h : 3 ≤ c0 + i.val + k
  · rw [if_pos (by omega), if_pos h]
    exact congrArg (fun n => D.x n c) (by omega)
  · rw [if_neg (by omega), if_neg h]

include R hp in
theorem xc_read (i : Fin 256) (c : Fin 1024) : xcT x0 x3 x4 p (ix2 i c) = D.xc (c0 + i.val) c := by
  rw [xcT_apply, preT_apply, tap_read R hp 3 (by omega) i c _ (by dsimp only), tap_read R hp 2 (by omega) i c _ (by dsimp only),
    tap_read R hp 1 (by omega) i c _ (by dsimp only), tap_read R hp 0 (by omega) i c _ (by dsimp only), R.cb, R.cw, R.cw, R.cw, R.cw]
  rfl

include R hp in
theorem q_read (h : Fin 4) (i d : Fin 256) : qT x0 x3 x4 x5 p h (ix2 i d) = D.q (c0 + i.val) (lane h d) := by
  rw [qT_apply]
  simp only [xc_read R hp]
  exact R.wq _ h d

include R hp in
theorem k_read (h : Fin 4) (i d : Fin 256) : kT x0 x3 x4 x6 p h (ix2 i d) = D.k (c0 + i.val) (lane h d) := by
  rw [kT_apply]
  simp only [xc_read R hp]
  exact R.wk _ h d

include R in
theorem v_read (h : Fin 4) (i d : Fin 256) : vT x0 x7 h (ix2 i d) = D.v (c0 + i.val) (lane h d) := by
  rw [vT_apply]
  simp only [R.x]
  exact R.wv _ h d

include R in
/-- A gate of row `i` before its function. -/
theorem gate_of {q k v : Fin 4 → FVec Ideal S256x256 .f32} (i : Fin 256)
    (hq : ∀ h d, q h (ix2 i d) = D.q (c0 + i.val) (lane h d)) (hk : ∀ h d, k h (ix2 i d) = D.k (c0 + i.val) (lane h d))
    (hv : ∀ h d, v h (ix2 i d) = D.v (c0 + i.val) (lane h d)) (g : Fin 8) :
    gateT x8 x9 (catT (q 0) (k 0) (v 0) (q 1) (k 1) (v 1) (q 2) (k 2) (v 2) (q 3) (k 3) (v 3)) (ix2 i ⟨g.val, by omega⟩)
      = D.gate (c0 + i.val) g := by
  rw [gateT_apply, R.bg, Data.gate]
  congr 1
  refine Finset.sum_congr rfl fun j _ => ?_
  rw [R.wg]
  congr 1
  exact catT_apply _ _ _ _ _ _ _ _ _ _ _ _ i (D.cat (c0 + i.val))
    (fun d => (hq 0 d).trans (cat_q D _ 0 d _ (by show d.val = 256 * 0 + d.val; omega)))
    (fun d => (hq 1 d).trans (cat_q D _ 1 d _ (by show 256 + d.val = 256 * 1 + d.val; omega)))
    (fun d => (hq 2 d).trans (cat_q D _ 2 d _ (by show 512 + d.val = 256 * 2 + d.val; omega)))
    (fun d => (hq 3 d).trans (cat_q D _ 3 d _ (by show 768 + d.val = 256 * 3 + d.val; omega)))
    (fun d => (hk 0 d).trans (cat_k D _ 0 d _ (by show 1024 + d.val = 1024 + (256 * 0 + d.val); omega)))
    (fun d => (hk 1 d).trans (cat_k D _ 1 d _ (by show 1280 + d.val = 1024 + (256 * 1 + d.val); omega)))
    (fun d => (hk 2 d).trans (cat_k D _ 2 d _ (by show 1536 + d.val = 1024 + (256 * 2 + d.val); omega)))
    (fun d => (hk 3 d).trans (cat_k D _ 3 d _ (by show 1792 + d.val = 1024 + (256 * 3 + d.val); omega)))
    (fun d => (hv 0 d).trans (cat_v D _ 0 d _ (by show 2048 + d.val = 2048 + (256 * 0 + d.val); omega)))
    (fun d => (hv 1 d).trans (cat_v D _ 1 d _ (by show 2304 + d.val = 2048 + (256 * 1 + d.val); omega)))
    (fun d => (hv 2 d).trans (cat_v D _ 2 d _ (by show 2560 + d.val = 2048 + (256 * 2 + d.val); omega)))
    (fun d => (hv 3 d).trans (cat_v D _ 3 d _ (by show 2816 + d.val = 2048 + (256 * 3 + d.val); omega))) j

include R hp in
theorem ig_read (h : Fin 4) (i : Fin 256) : gcT x0 x3 x4 x5 x6 x7 x8 x9 p (ix2 i ⟨h.val, by omega⟩) = D.ig h (c0 + i.val) := by
  unfold gcT
  rw [pay33_eq, colT_low _ _ _ h.isLt]
  exact gate_of R i (fun h d => q_read R hp h i d) (fun h d => k_read R hp h i d) (fun h d => v_read R h i d) ⟨h.val, by omega⟩

include R hp in
theorem fg_read (F : D.Finite) (h : Fin 4) (i : Fin 256) : gcT x0 x3 x4 x5 x6 x7 x8 x9 p (ix2 i ⟨4 + h.val, by omega⟩) =
    ((cum (fun s => (D.fg h s).toReal) (c0 + i.val + 1) - cum (fun s => (D.fg h s).toReal) c0 : ℝ) : EReal) := by
  unfold gcT
  rw [pay33_eq, colT_high _ _ _ (Nat.le_add_right _ _), ← sum_upto (f := D.fg h) (fun s => coe_toReal (F.fg h s)) c0 i]
  refine Finset.sum_congr rfl fun j _ => ?_
  rw [gate_of R j (fun h d => q_read R hp h j d) (fun h d => k_read R hp h j d) (fun h d => v_read R h j d) ⟨4 + h.val, by omega⟩]
  rfl

include R hp in
/-- The output rows. -/
theorem out_read (F : D.Finite) (hc : Carries D c0 m1 m2 m3) (h : Fin 4) (i d : Fin 256) :
    outT x0 x1 x2 x3 x4 x5 x6 x7 x8 x9 x10 x11 p m1 m2 m3 h (ix2 i d) = D.y h (c0 + i.val) d := by
  have hh (d : Fin 256) : hidT (qT x0 x3 x4 x5 p h) (kT x0 x3 x4 x6 p h) (vT x0 x7 h) (bcT x0 x3 x4 x5 x6 x7 x8 x9 p h)
      (irT x0 x3 x4 x5 x6 x7 x8 x9 p h) (brT x0 x3 x4 x5 x6 x7 x8 x9 p h) (oldM m3 h) (oldC m1 h) (oldN m2 h) (ix2 i d)
      = D.hidden h (c0 + i.val) d := by
    rw [hidT_apply _ _ _ _ _ _ _ _ _ fun j => (brT_apply ..).trans (bcT_apply ..).symm]
    simp only [bcT_apply, irT_apply, oldM_apply, oldC_apply, oldN_apply]
    exact hid_eq (fun i => fg_read R hp F h i) (fun i => (ig_read R hp h i).trans (coe_toReal (F.ig h _)))
      (fun i d => (q_read R hp h i d).trans (coe_toReal (F.q _ _)))
      (fun i d => (congrArg (· * _) (k_read R hp h i d)).trans (coe_toReal (F.ks _ _)))
      (fun i d => (v_read R h i d).trans (coe_toReal (F.v _ _))) (hc h) i d
  unfold outT
  rw [finT_apply]
  simp only [hh, colsT_apply, entT_apply, xhT_apply, xc_read R hp, R.o, R.z, R.gh, R.sk]
  rfl

include R hp in
/-- What the heads carry on. -/
theorem next_read (F : D.Finite) (hc : Carries D c0 m1 m2 m3) (h : Fin 4) :
    Carried (fun s => (D.fg h s).toReal) (fun s => (D.ig h s).toReal) (fun s d => (D.ks s (lane h d)).toReal)
      (fun s d => (D.v s (lane h d)).toReal) (c0 + 256) (newM x0 x3 x4 x5 x6 x7 x8 x9 p m3 h (ix3 0 0 0))
      (fun d e => newC x0 x3 x4 x5 x6 x7 x8 x9 p m1 m3 h (ix3 0 d e)) (fun d => newN x0 x3 x4 x5 x6 x7 x8 x9 p m2 m3 h (ix3 0 0 d)) := by
  unfold newM newC newN
  simp only [stabT_apply, memT_apply, nrmT_apply, bcT_apply, icT_apply, oldM_apply, oldC_apply, oldN_apply]
  exact carried_next (fun i => fg_read R hp F h i) (fun i => (ig_read R hp h i).trans (coe_toReal (F.ig h _)))
      (fun i d => (congrArg (· * _) (k_read R hp h i d)).trans (coe_toReal (F.ks _ _)))
      (fun i d => (v_read R h i d).trans (coe_toReal (F.v _ _))) (hc h) (fg_read R hp F h 255)

include R in
/-- The rows the next chunk needs. -/
theorem rows_read (r : Fin 8) (c : Fin 1024) :
    k0_pay8 (View.ld (buf p x0) (Rect.unit ![256, 0] ![8, 1024] inb_S264x1024_S8x1024_256_0)) (ix2 r c)
      = D.x (c0 + 256 + r.val - 8) c := by
  have e : k0_pay8 (View.ld (buf p x0) (Rect.unit ![256, 0] ![8, 1024] inb_S264x1024_S8x1024_256_0)) (ix2 r c)
      = buf p x0 (ix2 ⟨256 + r.val, by omega⟩ c) := by
    unfold k0_pay8
    pointwise
  rw [e]
  unfold buf
  rw [dif_pos (show 8 ≤ (ix2 (n0 := 264) (n1 := 1024) ⟨256 + r.val, by omega⟩ c 0).val from by show 8 ≤ 256 + r.val; omega)]
  refine (pay5_apply x0 ⟨256 + r.val - 8, by omega⟩ c).trans ((R.x ⟨256 + r.val - 8, by omega⟩ c).trans ?_)
  exact congrArg (fun n => D.x n c) (by dsimp only; omega)

end

end Cert.MlstmIdeal.Block
end
-- ==== Proof.MlstmHost.lean ====
/- What the windows of the recurrence read: the rows of the sequence a point belongs to, and the weights as the host lays
   them out. -/
module

public import proofs.«01_k».proof.Proof.MlstmPoint
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Whole

open Cert.MlstmIdeal Cert.MlstmIdeal.Gen Cert.MlstmIdeal.Block Cert.Mlstm Cert.Reals

variable (m : (ℓ : Loc nD τ sig) → Buf (Elt Ideal) ℓ)

/-- The ten argument arrays. -/
abbrev argP (c : Dev nD) : FVec Ideal S65536x3072 .bf16 := m ((c : Thread nD τ).loc main_arg0)
abbrev argCw (c : Dev nD) : FVec Ideal S1x4x1024 .f32 := m ((c : Thread nD τ).loc main_arg1)
abbrev argCb (c : Dev nD) : FVec Ideal S1x1024 .f32 := m ((c : Thread nD τ).loc main_arg2)
abbrev argWq (c : Dev nD) : FVec Ideal S1x256x4x4 .f32 := m ((c : Thread nD τ).loc main_arg3)
abbrev argWk (c : Dev nD) : FVec Ideal S1x256x4x4 .f32 := m ((c : Thread nD τ).loc main_arg4)
abbrev argWv (c : Dev nD) : FVec Ideal S1x256x4x4 .f32 := m ((c : Thread nD τ).loc main_arg5)
abbrev argWg (c : Dev nD) : FVec Ideal S1x3072x8 .f32 := m ((c : Thread nD τ).loc main_arg6)
abbrev argBg (c : Dev nD) : FVec Ideal S1x8 .f32 := m ((c : Thread nD τ).loc main_arg7)
abbrev argGh (c : Dev nD) : FVec Ideal S1x1024 .f32 := m ((c : Thread nD τ).loc main_arg8)
abbrev argSk (c : Dev nD) : FVec Ideal S1x1024 .f32 := m ((c : Thread nD τ).loc main_arg9)

/-- Sequence `b` of the batch. -/
def data (c : Dev nD) (b : Fin 32) : Data :=
  seqData (fun t n => argP m c (ix2 t n)) (fun k n => argCw m c (ix3 0 k n)) (fun n => argCb m c (ix2 0 n))
    (fun n k d => argWq m c (ix4 0 n k d)) (fun n k d => argWk m c (ix4 0 n k d)) (fun n k d => argWv m c (ix4 0 n k d))
    (fun j g => argWg m c (ix3 0 j g)) (fun g => argBg m c (ix2 0 g)) (fun n => argGh m c (ix2 0 n)) (fun n => argSk m c (ix2 0 n)) b

/-! ## The weights -/

/-- Four-by-four blocks laid along the diagonal of one square for each head. -/
def dense (w : FVec Ideal S1x256x4x4 .f32) : FVec Ideal S4x256x256 .bf16 :=
  truncf .bf16 (shapeCast S4x256x256 (mulf
    (broadcastInDim S4x64x4x64x4 ![0, 1, 2, 3, 4] bcast_S4x64x4x1x4_S4x64x4x64x4_0_1_2_3_4
      (broadcastInDim S4x64x4x1x4 ![0, 1, 2, 4] bcast_S4x64x4x4_S4x64x4x1x4_0_1_2_4
        (shapeCast S4x64x4x4 (shapeCast S256x4x4 w shapeCasts_S1x256x4x4_S256x4x4) shapeCasts_S256x4x4_S4x64x4x4)))
    (broadcastInDim S4x64x4x64x4 ![0, 1, 2, 3, 4] bcast_S1x64x1x64x1_S4x64x4x64x4_0_1_2_3_4
      (broadcastInDim S1x64x1x64x1 ![1, 3] bcast_S64x64_S1x64x1x64x1_1_3
        (uitofp .f32 (cmpi .eq (addi (iotaInDim S64x64 32 0) (broadcastInDim S64x64 ![] bcast_S_S64x64 (constantI S_ 32 0#32)))
          (iotaInDim S64x64 32 1)))))
    : FVec Ideal S4x64x4x64x4 .f32) shapeCasts_S4x64x4x64x4_S4x256x256 : FVec Ideal S4x256x256 .f32) bitsLt_bf16_f32

theorem eye_apply (i j : ℕ) (hi : i < 64) (hj : j < 64) :
    FloatOps.uitofp (F := Ideal) .f32 (IntOp.cmpi .eq (IntOp.addi (BitVec.ofNat 32 i) 0#32) (BitVec.ofNat 32 j))
      = if i = j then (1 : EReal) else 0 := by
  have h : IntOp.cmpi .eq (IntOp.addi (BitVec.ofNat 32 i) 0#32) (BitVec.ofNat 32 j) = BitVec.ofBool (decide (i = j)) := by
    show BitVec.ofBool (decide (BitVec.ofNat 32 i + 0#32 = BitVec.ofNat 32 j)) = _
    congr 1
    rw [BitVec.add_zero]
    refine decide_eq_decide.2 ⟨fun e => ?_, fun e => by rw [e]⟩
    have e' := congrArg BitVec.toNat e
    rw [BitVec.toNat_ofNat, BitVec.toNat_ofNat] at e'
    omega
  rw [h]
  by_cases e : i = j
  · rw [if_pos e, decide_eq_true e]
    show (((1 : ℕ) : ℝ) : EReal) = 1
    simp
  · rw [if_neg e, decide_eq_false e]
    show (((0 : ℕ) : ℝ) : EReal) = 0
    simp

theorem dense_apply (w : FVec Ideal S1x256x4x4 .f32) (h : Fin 4) (k d : Fin 256) :
    dense w (ix3 h k d) = w (ix4 0 ⟨64 * h.val + k.val / 4, by omega⟩ ⟨k.val % 4, by omega⟩ ⟨d.val % 4, by omega⟩)
      * (if k.val / 4 = d.val / 4 then 1 else 0) := by
  unfold dense
  pointwise
  rw [eye_apply _ _ (by omega) (by omega)]
  simp only [Nat.mul_comm]

/-- A row times a head's square is the row times its blocks. -/
theorem dense_sum (w : FVec Ideal S1x256x4x4 .f32) (t : Fin 1024 → EReal) (h : Fin 4) (d : Fin 256) :
    ∑ k : Fin 256, t (lane h k) * dense w (ix3 h k d) = proj t (fun n c d => w (ix4 0 n c d)) (lane h d) := by
  have hd := d.isLt
  have hh := h.isLt
  rw [← (finProdFinEquiv (m := 64) (n := 4)).sum_comp, Fintype.sum_prod_type,
    Finset.sum_eq_single (⟨d.val / 4, by omega⟩ : Fin 64)]
  · unfold proj
    refine Finset.sum_congr rfl fun a _ => ?_
    have ea : ((finProdFinEquiv (m := 64) (n := 4)) (⟨d.val / 4, by omega⟩, a)).val = a.val + 4 * (d.val / 4) := rfl
    have ha := a.isLt
    rw [dense_apply, if_pos (by rw [ea]; omega), mul_one]
    refine congrArg₂ (· * ·) (congrArg t (Fin.ext ?_)) ?_
    · show 256 * h.val + ((finProdFinEquiv (m := 64) (n := 4)) (⟨d.val / 4, by omega⟩, a)).val
        = 4 * ((256 * h.val + d.val) / 4) + a.val
      rw [ea]; omega
    · refine congrArg w (congr (congr (congrArg (ix4 0) (Fin.ext ?_)) (Fin.ext ?_)) (Fin.ext ?_))
      · show 64 * h.val + ((finProdFinEquiv (m := 64) (n := 4)) (⟨d.val / 4, by omega⟩, a)).val / 4 = (256 * h.val + d.val) / 4
        rw [ea]; omega
      · show ((finProdFinEquiv (m := 64) (n := 4)) (⟨d.val / 4, by omega⟩, a)).val % 4 = a.val
        rw [ea]; omega
      · show d.val % 4 = (256 * h.val + d.val) % 4
        omega
  · intro n _ hn
    refine Finset.sum_eq_zero fun a _ => ?_
    have ea : ((finProdFinEquiv (m := 64) (n := 4)) (n, a)).val = a.val + 4 * n.val := rfl
    have ha := a.isLt
    have hne : n.val ≠ d.val / 4 := fun e => hn (Fin.ext e)
    rw [dense_apply, if_neg (by rw [ea]; omega), mul_zero, mul_zero]
  · exact fun hn => absurd (Finset.mem_univ _) hn

theorem V_gate (c : Dev nD) : V m c main_v2 = (truncf .bf16 (pad S3072x128 ![0, 0] ![0, 120] ![0, 0]
    (shapeCast S3072x8 (argWg m c) shapeCasts_S1x3072x8_S3072x8) (sitofp .f32 (constantI S_ 32 0#32)) pads_S3072x8_S3072x128_000_01200 h_S_
      : FVec Ideal S3072x128 .f32) bitsLt_bf16_f32 : FVec Ideal S3072x128 .bf16) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results_simp <;> rfl

theorem V_bias (c : Dev nD) : V m c main_v5 = broadcastInDim S1x128 ![1] bcast_S128_S1x128_1 (pad S128 ![0] ![120] ![0]
    (shapeCast S8 (argBg m c) shapeCasts_S1x8_S8) (sitofp .f32 (constantI S_ 32 0#32)) pads_S8_S128_01200 h_S_ : FVec Ideal S128 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results_simp <;> rfl

theorem V_cw (c : Dev nD) : V m c main_v6 = shapeCast S4x1024 (argCw m c) shapeCasts_S1x4x1024_S4x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results_simp <;> rfl

/-- The three vectors of the model's width. -/
theorem V_rows (c : Dev nD) :
    V m c main_v8 = broadcastInDim S1x1024 ![1] bcast_S1024_S1x1024_1 (shapeCast S1024 (argCb m c) shapeCasts_S1x1024_S1024)
    ∧ V m c main_v55 = broadcastInDim S1x1024 ![1] bcast_S1024_S1x1024_1 (shapeCast S1024 (argGh m c) shapeCasts_S1x1024_S1024)
    ∧ V m c main_v57 = broadcastInDim S1x1024 ![1] bcast_S1024_S1x1024_1 (shapeCast S1024 (argSk m c) shapeCasts_S1x1024_S1024) := by
  refine ⟨?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results_simp <;> rfl

/-- The blocks of the queries, keys and values. -/
theorem V_dense (c : Dev nD) : V m c main_v23 = dense (argWq m c) ∧ V m c main_v38 = dense (argWk m c)
    ∧ V m c main_v53 = dense (argWv m c) := by
  refine ⟨?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil,
      List.cons_append, List.nil_append]
    after_results_simp <;> rfl

/-! ## The windows -/

theorem lt_N (t : Fin cfg0.N) : t.val < 256 := lt_of_lt_of_eq t.isLt N_0

/-- Where the row windows' blocks sit at point `t`. -/
theorem idx_rows : ∀ t : Fin cfg0.N, ∀ a : Fin 2, win0_0.index t a = ![t.val, 0] a ∧ win0_1.index t a = ![t.val, 1] a
    ∧ win0_2.index t a = ![t.val, 2] a ∧ win0_12.index t a = ![t.val, 0] a :=
  (by decide +kernel : ∀ t : Fin grid0.N, ∀ a : Fin 2, win0_0.index t a = ![t.val, 0] a ∧ win0_1.index t a = ![t.val, 1] a
    ∧ win0_2.index t a = ![t.val, 2] a ∧ win0_12.index t a = ![t.val, 0] a)

/-- Where the whole-array windows' blocks sit. -/
theorem idx_full : ∀ t : Fin cfg0.N, ∀ a : Fin 2, win0_3.index t a = 0 ∧ win0_4.index t a = 0
    ∧ win0_8.index t a = 0 ∧ win0_9.index t a = 0 ∧ win0_10.index t a = 0 ∧ win0_11.index t a = 0 :=
  (by decide +kernel : ∀ t : Fin grid0.N, ∀ a : Fin 2, win0_3.index t a = 0 ∧ win0_4.index t a = 0
    ∧ win0_8.index t a = 0 ∧ win0_9.index t a = 0 ∧ win0_10.index t a = 0 ∧ win0_11.index t a = 0)

/-- The same for the three squares. -/
theorem idx_square : ∀ t : Fin cfg0.N, ∀ a : Fin 3, win0_5.index t a = 0 ∧ win0_6.index t a = 0 ∧ win0_7.index t a = 0 :=
  (by decide +kernel : ∀ t : Fin grid0.N, ∀ a : Fin 3, win0_5.index t a = 0 ∧ win0_6.index t a = 0 ∧ win0_7.index t a = 0)

theorem read_x (c : Dev nD) (t : Fin cfg0.N) (i : Fin 256) (k : Fin 1024) : iblk m c 0 t (ix2 i k) =
    argP m c (ix2 ⟨t.val * 256 + i.val, by have := lt_N t; omega⟩ ⟨k.val, by omega⟩) := by
  have e := idx_rows t
  have h : iblk m c 0 t (ix2 i k) = V m c main_arg0 (ix2 ⟨t.val * 256 + i.val, by have := lt_N t; omega⟩ ⟨k.val, by omega⟩) := by
    blk_ext [iblk, e]
  rw [h, V_main_arg0]

theorem read_z (c : Dev nD) (t : Fin cfg0.N) (i : Fin 256) (k : Fin 1024) : iblk m c 1 t (ix2 i k) =
    argP m c (ix2 ⟨t.val * 256 + i.val, by have := lt_N t; omega⟩ ⟨1024 + k.val, by omega⟩) := by
  have e := idx_rows t
  have h : iblk m c 1 t (ix2 i k) = V m c main_arg0 (ix2 ⟨t.val * 256 + i.val, by have := lt_N t; omega⟩ ⟨1024 + k.val, by omega⟩) := by
    blk_ext [iblk, e]
  rw [h, V_main_arg0]

theorem read_o (c : Dev nD) (t : Fin cfg0.N) (i : Fin 256) (k : Fin 1024) : iblk m c 2 t (ix2 i k) =
    argP m c (ix2 ⟨t.val * 256 + i.val, by have := lt_N t; omega⟩ ⟨2048 + k.val, by omega⟩) := by
  have e := idx_rows t
  have h : iblk m c 2 t (ix2 i k) = V m c main_arg0 (ix2 ⟨t.val * 256 + i.val, by have := lt_N t; omega⟩ ⟨2048 + k.val, by omega⟩) := by
    blk_ext [iblk, e]
  rw [h, V_main_arg0]

theorem read_cw (c : Dev nD) (t : Fin cfg0.N) (k : Fin 4) (n : Fin 1024) : iblk m c 3 t (ix2 k n) = argCw m c (ix3 0 k n) := by
  have e := idx_full t
  have h : iblk m c 3 t (ix2 k n) = V m c main_v6 (ix2 k n) := by blk_ext [iblk, e]
  rw [h, V_cw]
  pointwise

theorem read_cb (c : Dev nD) (t : Fin cfg0.N) (n : Fin 1024) : iblk m c 4 t (ix2 0 n) = argCb m c (ix2 0 n) := by
  have e := idx_full t
  have h : iblk m c 4 t (ix2 0 n) = V m c main_v8 (ix2 0 n) := by blk_ext [iblk, e]
  rw [h, (V_rows m c).1]
  pointwise

theorem read_wq (c : Dev nD) (t : Fin cfg0.N) (h : Fin 4) (k d : Fin 256) : iblk m c 5 t (ix3 h k d) = dense (argWq m c) (ix3 h k d) := by
  have e := idx_square t
  rw [← (V_dense m c).1]
  blk_ext [iblk, e]

theorem read_wk (c : Dev nD) (t : Fin cfg0.N) (h : Fin 4) (k d : Fin 256) : iblk m c 6 t (ix3 h k d) = dense (argWk m c) (ix3 h k d) := by
  have e := idx_square t
  rw [← (V_dense m c).2.1]
  blk_ext [iblk, e]

theorem read_wv (c : Dev nD) (t : Fin cfg0.N) (h : Fin 4) (k d : Fin 256) : iblk m c 7 t (ix3 h k d) = dense (argWv m c) (ix3 h k d) := by
  have e := idx_square t
  rw [← (V_dense m c).2.2]
  blk_ext [iblk, e]

theorem read_wg (c : Dev nD) (t : Fin cfg0.N) (j : Fin 3072) (g : Fin 8) :
    iblk m c 8 t (ix2 j ⟨g.val, by omega⟩) = argWg m c (ix3 0 j g) := by
  have e := idx_full t
  have h : iblk m c 8 t (ix2 j ⟨g.val, by omega⟩) = V m c main_v2 (ix2 j ⟨g.val, by omega⟩) := by blk_ext [iblk, e]
  rw [h, V_gate]
  pointwise

theorem read_bg (c : Dev nD) (t : Fin cfg0.N) (g : Fin 8) :
    iblk m c 9 t (ix2 0 ⟨g.val, by omega⟩) = argBg m c (ix2 0 g) := by
  have e := idx_full t
  have h : iblk m c 9 t (ix2 0 ⟨g.val, by omega⟩) = V m c main_v5 (ix2 0 ⟨g.val, by omega⟩) := by blk_ext [iblk, e]
  rw [h, V_bias]
  pointwise

theorem read_gh (c : Dev nD) (t : Fin cfg0.N) (n : Fin 1024) : iblk m c 10 t (ix2 0 n) = argGh m c (ix2 0 n) := by
  have e := idx_full t
  have h : iblk m c 10 t (ix2 0 n) = V m c main_v55 (ix2 0 n) := by blk_ext [iblk, e]
  rw [h, (V_rows m c).2.1]
  pointwise

theorem read_sk (c : Dev nD) (t : Fin cfg0.N) (n : Fin 1024) : iblk m c 11 t (ix2 0 n) = argSk m c (ix2 0 n) := by
  have e := idx_full t
  have h : iblk m c 11 t (ix2 0 n) = V m c main_v57 (ix2 0 n) := by blk_ext [iblk, e]
  rw [h, (V_rows m c).2.2]
  pointwise

/-- A row of the sequence among the batch's. -/
theorem rows_at (c : Dev nD) (t : Fin cfg0.N) (i : Fin 256) (k : Fin 3072) :
    argP m c (ix2 ⟨t.val * 256 + i.val, by have := lt_N t; omega⟩ k)
      = argP m c (ix2 ⟨2048 * (t.val / 8) + (256 * (t.val % 8) + i.val), by have := lt_N t; omega⟩ k) :=
  congrArg (fun r => argP m c (ix2 r k)) (Fin.ext (by show t.val * 256 + i.val = 2048 * (t.val / 8) + (256 * (t.val % 8) + i.val); omega))

theorem data_x (c : Dev nD) (b : Fin 32) (s : ℕ) (hs : s < 2048) (k : Fin 1024) :
    (data m c b).x s k = argP m c (ix2 ⟨2048 * b.val + s, by omega⟩ ⟨k.val, by omega⟩) := by
  unfold data seqData; dsimp only; rw [dif_pos hs]

theorem data_z (c : Dev nD) (b : Fin 32) (s : ℕ) (hs : s < 2048) (k : Fin 1024) :
    (data m c b).z s k = argP m c (ix2 ⟨2048 * b.val + s, by omega⟩ ⟨1024 + k.val, by omega⟩) := by
  unfold data seqData; dsimp only; rw [dif_pos hs]

theorem data_o (c : Dev nD) (b : Fin 32) (s : ℕ) (hs : s < 2048) (k : Fin 1024) :
    (data m c b).o s k = argP m c (ix2 ⟨2048 * b.val + s, by omega⟩ ⟨2048 + k.val, by omega⟩) := by
  unfold data seqData; dsimp only; rw [dif_pos hs]

/-- The blocks of point `t` read the rows of its chunk. -/
theorem reads (c : Dev nD) (t : Fin cfg0.N) : Reads (data m c ⟨t.val / 8, by have := lt_N t; omega⟩) (256 * (t.val % 8))
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) where
  x i k := (read_x m c t i k).trans ((rows_at m c t i _).trans (data_x m c ⟨t.val / 8, by have := lt_N t; omega⟩ (256 * (t.val % 8) + i.val) (by omega) k).symm)
  z i k := (read_z m c t i k).trans ((rows_at m c t i _).trans (data_z m c ⟨t.val / 8, by have := lt_N t; omega⟩ (256 * (t.val % 8) + i.val) (by omega) k).symm)
  o i k := (read_o m c t i k).trans ((rows_at m c t i _).trans (data_o m c ⟨t.val / 8, by have := lt_N t; omega⟩ (256 * (t.val % 8) + i.val) (by omega) k).symm)
  cw := read_cw m c t
  cb := read_cb m c t
  wq r h d := by simp only [read_wq]; exact dense_sum _ r h d
  wk r h d := by simp only [read_wk]; exact dense_sum _ r h d
  wv r h d := by simp only [read_wv]; exact dense_sum _ r h d
  wg := read_wg m c t
  bg := read_bg m c t
  gh := read_gh m c t
  sk := read_sk m c t

end Cert.MlstmIdeal.Whole
end
-- ==== Proof.MlstmValue.lean ====
/- The array the recurrence's run leaves, over the extended reals, as one formula of the ten arguments. -/
module

public import proofs.«01_k».proof.Proof.MlstmHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlstmIdeal.Whole

open Cert.MlstmIdeal Cert.MlstmIdeal.Gen Cert.MlstmIdeal.Block Cert.Mlstm Cert.Reals

variable (m : (ℓ : Loc nD τ sig) → Buf (Elt Ideal) ℓ) (ρ : Dev nD → PrngReg)

/-- The sequence point `n` belongs to. -/
abbrev seqOf (n : ℕ) (hn : n < cfg0.N) : Fin 32 := ⟨n / 8, by have := lt_N ⟨n, hn⟩; dsimp only at this; omega⟩

/-! ## What the points carry -/

/-- Before the first row everything is zero. -/
theorem before_start (D : Data) : Before D 0 (fun _ => (0 : EReal)) := by
  intro r c _
  rw [if_neg (by omega)]

theorem carries_start (D : Data) : Carries D 0 (k0_pay2 (F := Ideal)) (k0_pay3 (F := Ideal)) (k0_pay4 (F := Ideal)) := by
  intro h
  have e2 : ∀ d e, (k0_pay2 (F := Ideal)) (ix3 h d e) = (0 : EReal) := fun d e => by
    unfold k0_pay2
    pointwise
  have e3 : ∀ d, (k0_pay3 (F := Ideal)) (ix3 h 0 d) = (0 : EReal) := fun d => by
    unfold k0_pay3
    pointwise
  have e4 : (k0_pay4 (F := Ideal)) (ix3 h 0 0) = (0 : EReal) := by
    unfold k0_pay4
    pointwise
  simp only [e2, e3, e4]
  exact carried_zero _ _ _ _

/-- What point `n` leaves in the scratch buffers. -/
def Left (c : Dev nD) (n : ℕ) (hn : n < cfg0.N) : Prop :=
  (∀ (r : Fin 8) (k : Fin 1024), (outsAt0 m c n hn).2.1 (ix2 ⟨r.val, by omega⟩ k)
    = (data m c (seqOf n hn)).x (256 * (n % 8) + 256 + r.val - 8) k)
  ∧ Carries (data m c (seqOf n hn)) (256 * (n % 8) + 256) (outsAt0 m c n hn).2.2.1 (outsAt0 m c n hn).2.2.2.1 (outsAt0 m c n hn).2.2.2.2

/-- A point that starts a sequence. -/
theorem left_first (hF : ∀ c b, (data m c b).Finite) (c : Dev nD) (t : Fin cfg0.N) (h0 : t.val % 8 = 0) : Left m c t.val t.isLt := by
  have R := reads m c t
  have hs := before_start (data m c (seqOf t.val t.isLt))
  have hc := carries_start (data m c (seqOf t.val t.isLt))
  unfold Left
  rw [outsAt0_A m c t h0]
  dsimp only
  have z : 256 * (t.val % 8) = 0 := by omega
  rw [z] at R
  refine ⟨fun r k => ?_, fun h => ?_⟩
  · rw [rowsA, z]
    exact rows_read R r k
  · have h3 := next_read R hs (hF c _) hc h
    simp only [memA, nrmA, stabA]
    rw [z]
    exact h3

/-- A later point. -/
theorem left_next (hF : ∀ c b, (data m c b).Finite) (c : Dev nD) (t : Fin cfg0.N) (h0 : ¬t.val % 8 = 0)
    (ih : Left m c (t.val - 1) (Nat.lt_of_le_of_lt (Nat.sub_le _ _) t.isLt)) :
    (Before (data m c (seqOf t.val t.isLt)) (256 * (t.val % 8)) (outsAt0 m c (t.val - 1) (Nat.lt_of_le_of_lt (Nat.sub_le _ _) t.isLt)).2.1
    ∧ Carries (data m c (seqOf t.val t.isLt)) (256 * (t.val % 8)) (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2)
    ∧ Left m c t.val t.isLt := by
  have eb : seqOf (t.val - 1) (Nat.lt_of_le_of_lt (Nat.sub_le _ _) t.isLt) = seqOf t.val t.isLt := Fin.ext (by dsimp only; omega)
  have ec : 256 * ((t.val - 1) % 8) + 256 = 256 * (t.val % 8) := by omega
  unfold Left at ih
  rw [eb, ec] at ih
  obtain ⟨i1, i2⟩ := ih
  have hp : Before (data m c (seqOf t.val t.isLt)) (256 * (t.val % 8))
      (outsAt0 m c (t.val - 1) (Nat.lt_of_le_of_lt (Nat.sub_le _ _) t.isLt)).2.1 := by
    intro r k _
    rw [if_pos (by omega)]
    exact i1 r k
  refine ⟨⟨hp, i2⟩, ?_⟩
  have R := reads m c t
  unfold Left
  rw [outsAt0_B m c t h0]
  dsimp only
  refine ⟨fun r k => ?_, fun h => ?_⟩
  · rw [rowsB]
    exact rows_read R r k
  · have h3 := next_read R hp (hF c _) i2 h
    simp only [memB, nrmB, stabB]
    exact h3

theorem left_all (hF : ∀ c b, (data m c b).Finite) (c : Dev nD) : ∀ (n : ℕ) (hn : n < cfg0.N), Left m c n hn := by
  intro n
  induction n with
  | zero => exact fun hn => left_first m hF c ⟨0, hn⟩ (Nat.zero_mod _)
  | succ n ih =>
    intro hn
    by_cases h0 : (n + 1) % 8 = 0
    · exact left_first m hF c ⟨n + 1, hn⟩ h0
    · exact (left_next m hF c ⟨n + 1, hn⟩ h0 (ih _)).2

/-! ## The whole array -/

/-- The block point `t` leaves in the output's buffer. -/
theorem block (hF : ∀ c b, (data m c b).Finite) (c : Dev nD) (t : Fin cfg0.N) (h : Fin 4) (i d : Fin 256) :
    (outsAt0 m c t.val t.isLt).1 (ix2 i (lane h d)) = (data m c (seqOf t.val t.isLt)).y h (256 * (t.val % 8) + i.val) d := by
  have R := reads m c t
  by_cases h0 : t.val % 8 = 0
  · rw [outsAt0_A m c t h0]
    dsimp only
    rw [outA]
    have z : 256 * (t.val % 8) = 0 := by omega
    rw [z] at R ⊢
    exact out_read R (before_start _) (hF c _) (carries_start _) h i d
  · obtain ⟨⟨hp, hc⟩, _⟩ := left_next m hF c t h0 (left_all m hF c _ _)
    rw [outsAt0_B m c t h0]
    dsimp only
    rw [outB]
    exact out_read R hp (hF c _) hc h i d

/-- The result: row `2048 b + s` is row `s` of sequence `b`. -/
def result (c : Dev nD) : FVec Ideal S65536x1024 .bf16 := fun j =>
  (data m c ⟨(j 0).val / 2048, by have : (j 0).val < 65536 := (j 0).isLt; omega⟩).y
    ⟨(j 1).val / 256, by have : (j 1).val < 1024 := (j 1).isLt; omega⟩ ((j 0).val % 2048) ⟨(j 1).val % 256, by omega⟩

/-- The block at any of its indices. -/
theorem block' (hF : ∀ c b, (data m c b).Finite) (c : Dev nD) (t : Fin cfg0.N) (y : S256x1024.Idx) (b : Fin 32) (h : Fin 4) (s : ℕ)
    (d : Fin 256) (hb : b.val = t.val / 8) (hs : s = 256 * (t.val % 8) + (y 0).val) (hh : h.val = (y 1).val / 256)
    (hd : d.val = (y 1).val % 256) : (outsAt0 m c t.val t.isLt).1 y = (data m c b).y h s d := by
  idx_vars y
  obtain rfl : b = seqOf t.val t.isLt := Fin.ext hb
  have e : (y1 : Fin 1024) = lane h d := Fin.ext (by
    show y1.val = 256 * h.val + d.val
    change h.val = y1.val / 256 at hh
    change d.val = y1.val % 256 at hd
    omega)
  rw [e, block m hF, hs]

theorem final (hF : ∀ c b, (data m c b).Finite) (c : Dev nD) : (dats m 0 c).arrAt 12 cfg0.N = result m c := by
  refine (dats m 0 c).arrAt_eq_of_covers 12 _ (by decide +kernel) fun t hf y => ?_
  have e := idx_rows t
  have ht := lt_N t
  blk_simp
  rw [after0_12]
  refine block' m hF c t _ _ _ _ _ ?_ ?_ ?_ ?_ <;> blk_simp [e]
  all_goals (try dsimp only [Fin.isValue, Matrix.cons_val_zero, Matrix.cons_val_one, Matrix.cons_val])
  all_goals idx_bounds_all
  all_goals omega

/-- The run: the result, the arguments unchanged. -/
theorem run (hF : ∀ c b, (data m c b).Finite) : θ_run defs (onTc (τ := τ) (main (F := Ideal))) ⟨m, fun _ => 0, ρ⟩ fun r => ∀ c : Dev nD,
    r.2.mem ((c : Thread nD τ).loc main_v58) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) := by
  refine (θ_run defs _ _).mono (fun _ h c => ?_) (Value.run_blocks m ρ)
  obtain ⟨h9, ha⟩ := h c
  exact ⟨h9.trans (final m hF c), ha⟩

end Cert.MlstmIdeal.Whole
end
-- ==== Proof.MlstmRef.lean ====
/- The reference of the recurrence read entry by entry over the extended reals: the projections, the gates, and the sums of
   the forget gates' logarithms. -/
module

public import proofs.«01_k».proof.Defs
public import proofs.«01_k».proof.Proof.MlstmRows
public import proofs.«01_k».proof.Proof.Gen.MlstmRefIdeal.Run
public import Idealize.ShloMosaic.Lib.Pointwise

@[expose] public section

set_option maxRecDepth 16384

noncomputable section

open Idealize.ShloMosaic Idealize.ShloMosaic.TcCoe Idealize.SL.Sem

namespace Cert.MlstmRefIdeal.Read

open Cert.MlstmRefIdeal Cert.MlstmRefIdeal.Gen Cert.Mlstm Cert.Reals

/-! ## The sums over a window that reaches back to the start -/

/-- A left fold of additions is the start and the sum. -/
theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The entries of a window of 2048 ending at `t`, zeros before the start, sum to the entries up to `t`. -/
theorem sum_window (lf : ℕ → ℝ) (t : Fin 2048) :
    (∑ k : Fin 2048, if 2047 ≤ t.val + k.val then ((lf (t.val + k.val - 2047) : ℝ) : EReal) else 0) = ((cum lf (t.val + 1) : ℝ) : EReal) := by
  obtain ⟨t, ht⟩ := t
  dsimp only
  rw [Fin.sum_univ_eq_sum_range (fun k => if 2047 ≤ t + k then ((lf (t + k - 2047) : ℝ) : EReal) else 0) 2048, cum, coe_sum,
    show Finset.range 2048 = Finset.range ((2047 - t) + (t + 1)) from congrArg Finset.range (by omega), Finset.sum_range_add]
  rw [Finset.sum_eq_zero, zero_add]
  · refine Finset.sum_congr rfl fun k hk => ?_
    rw [if_pos (by omega)]
    exact congrArg (fun n => ((lf n : ℝ) : EReal)) (by omega)
  · intro k hk
    have := Finset.mem_range.1 hk
    rw [if_neg (by omega)]

/-- A windowed sum is the start and the sum over the window. -/
theorem window_sum {s t : Shape} (window strides lo hi : Fin s.rank → ℕ) (h : s.ReduceWindows window strides lo hi t)
    (x : s.Idx → EReal) (init : EReal) (j : t.Idx) : Ideal.hostReduceWindowAdd window strides lo hi h x init j
      = init + ∑ w : (⟨s.rank, window⟩ : Shape).Idx,
        if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩) else init := by
  unfold Ideal.hostReduceWindowAdd Host.reduceWindow
  refine (foldl_sum _ _ _).trans (congrArg (init + ·) ?_)
  rw [← List.ofFn_eq_map, List.sum_ofFn]
  refine (Finset.sum_congr rfl fun n _ => ?_).trans (Equiv.sum_comp (⟨s.rank, window⟩ : Shape).rowMajor.symm (fun w =>
    if hin : ∀ a, lo a ≤ (j (a.cast h.1.symm)).val * strides a + (w a).val
        ∧ (j (a.cast h.1.symm)).val * strides a + (w a).val - lo a < s.size a
      then x (fun a => ⟨(j (a.cast h.1.symm)).val * strides a + (w a).val - lo a, (hin a).2⟩) else init))
  dsimp only
  congr

/-- The running sums along the last axis of real entries. -/
theorem cumsum_apply (x : FVec Ideal S32x4x2048 .f32) (b : Fin 32) (h : Fin 4) (lf : ℕ → ℝ)
    (hx : ∀ s : Fin 2048, x (ix3 b h s) = ((lf s.val : ℝ) : EReal)) (t : Fin 2048) :
    Host.reduceWindowAdd ![1, 1, 2048] ![1, 1, 1] ![0, 0, 2047] ![0, 0, 0] x (broadcastInDim S_ ![] bcast_S_S_ (constant S_ .f32 0x00000000#32))
      reduceWindows_S32x4x2048_S32x4x2048_w1s1p0_0_w1s1p0_0_w2048s1p2047_0 h_S_ (ix3 b h t) = ((cum lf (t.val + 1) : ℝ) : EReal) := by
  have hv : (broadcastInDim S_ ![] bcast_S_S_ (constant S_ .f32 0x00000000#32) : FVec Ideal S_ .f32) (Shape.Idx.first h_S_) = (0 : EReal) := by
    show Ideal.ofBits .f32 0x00000000#32 = 0
    simp
  unfold Host.reduceWindowAdd
  rw [hv, Ideal.hostReduceWindowAdd_def]
  refine (window_sum _ _ _ _ _ x 0 (ix3 b h t)).trans ?_
  rw [zero_add]
  refine (sum_idx3 (n0 := 1) (n1 := 1) (n2 := 2048) _).trans ?_
  simp only [Fin.sum_univ_one, Fin.isValue]
  rw [← sum_window lf t]
  refine Finset.sum_congr rfl fun k _ => ?_
  have ht := t.isLt
  have hk := k.isLt
  have hb := b.isLt
  have hh := h.isLt
  by_cases e : 2047 ≤ t.val + k.val
  · rw [if_pos e, dif_pos (by
      intro a
      match a with
      | ⟨0, _⟩ => show 0 ≤ b.val * 1 + 0 ∧ b.val * 1 + 0 - 0 < 32; omega
      | ⟨1, _⟩ => show 0 ≤ h.val * 1 + 0 ∧ h.val * 1 + 0 - 0 < 4; omega
      | ⟨2, _⟩ => show 2047 ≤ t.val * 1 + k.val ∧ t.val * 1 + k.val - 2047 < 2048; omega)]
    refine Eq.trans (congrArg x ?_) (hx ⟨t.val + k.val - 2047, by omega⟩)
    funext a
    match a with
    | ⟨0, _⟩ => exact Fin.ext (by show b.val * 1 + 0 - 0 = b.val; omega)
    | ⟨1, _⟩ => exact Fin.ext (by show h.val * 1 + 0 - 0 = h.val; omega)
    | ⟨2, _⟩ => exact Fin.ext (by show t.val * 1 + k.val - 2047 = t.val + k.val - 2047; omega)
  · rw [if_neg e, dif_neg]
    intro hin
    have h2 := (hin 2).1
    change 2047 ≤ t.val * 1 + k.val at h2
    omega

/-! ## The rows -/

/-- The projections' rows, batch by batch. -/
def px (P : FVec Ideal S65536x3072 .bf16) : FVec Ideal S32x2048x3072 .f32 :=
  shapeCast S32x2048x3072 (extf .f32 P bitsLt_bf16_f32) shapeCasts_S65536x3072_S32x2048x3072

theorem px_apply (P : FVec Ideal S65536x3072 .bf16) (b : Fin 32) (s : Fin 2048) (n : Fin 3072) :
    px P (ix3 b s n) = P (ix2 ⟨2048 * b.val + s.val, by omega⟩ n) := by
  pointwise [px]
  simp only [Nat.mul_comm]

/-- The rows the recurrence reads. -/
def rx (P : FVec Ideal S65536x3072 .bf16) : FVec Ideal S32x2048x1024 .f32 :=
  extractStridedSlice S32x2048x1024 ![0, 0, 0] (px P) slices_S32x2048x3072_S32x2048x1024_0_0_0

theorem rx_apply (P : FVec Ideal S65536x3072 .bf16) (b : Fin 32) (s : Fin 2048) (n : Fin 1024) :
    rx P (ix3 b s n) = P (ix2 ⟨2048 * b.val + s.val, by omega⟩ ⟨n.val, by omega⟩) := by
  pointwise [rx, px_apply]

/-- The output gate's rows. -/
def rz (P : FVec Ideal S65536x3072 .bf16) : FVec Ideal S32x2048x1024 .f32 :=
  extractStridedSlice S32x2048x1024 ![0, 0, 1024] (px P) slices_S32x2048x3072_S32x2048x1024_0_0_1024

theorem rz_apply (P : FVec Ideal S65536x3072 .bf16) (b : Fin 32) (s : Fin 2048) (n : Fin 1024) :
    rz P (ix3 b s n) = P (ix2 ⟨2048 * b.val + s.val, by omega⟩ ⟨1024 + n.val, by omega⟩) := by
  pointwise [rz, px_apply]

/-- The heads' gate's rows, head by head. -/
def ro (P : FVec Ideal S65536x3072 .bf16) : FVec Ideal S32x2048x4x256 .f32 :=
  shapeCast S32x2048x4x256 (extractStridedSlice S32x2048x1024 ![0, 0, 2048] (px P) slices_S32x2048x3072_S32x2048x1024_0_0_2048)
    shapeCasts_S32x2048x1024_S32x2048x4x256

theorem ro_apply (P : FVec Ideal S65536x3072 .bf16) (b : Fin 32) (s : Fin 2048) (h : Fin 4) (d : Fin 256) :
    ro P (ix4 b s h d) = P (ix2 ⟨2048 * b.val + s.val, by omega⟩ ⟨2048 + (256 * h.val + d.val), by omega⟩) := by
  pointwise [ro, px_apply]
  simp only [Nat.mul_comm]

/-- The rows with three rows of zeros before them. -/
def padded (x : FVec Ideal S32x2048x1024 .f32) : FVec Ideal S32x2051x1024 .f32 :=
  pad S32x2051x1024 ![0, 3, 0] ![0, 0, 0] ![0, 0, 0] x (sitofp .f32 (constantI S_ 32 0#32)) pads_S32x2048x1024_S32x2051x1024_000_300_000 h_S_

theorem padded_apply (x : FVec Ideal S32x2048x1024 .f32) (b : Fin 32) (s : Fin 2051) (n : Fin 1024) :
    padded x (ix3 b s n) = if h : 3 ≤ s.val then x (ix3 b ⟨s.val - 3, by omega⟩ n) else 0 := by
  unfold padded
  pointwise
  have hs := s.isLt
  by_cases h : 3 ≤ s.val
  · rw [dif_pos h, dif_pos ⟨h, by omega⟩]
  · rw [dif_neg h, dif_neg (fun e => h e.1)]
    show (((0#32).toInt : ℝ) : EReal) = 0
    simp

/-- One tap of the convolution's weight, on every row. -/
def taps (w : FVec Ideal S1x4x1024 .f32) : FVec Ideal S4x1024 .f32 := shapeCast S4x1024 w shapeCasts_S1x4x1024_S4x1024

theorem taps_apply (w : FVec Ideal S1x4x1024 .f32) (k : Fin 4) (n : Fin 1024) : taps w (ix2 k n) = w (ix3 0 k n) := by
  pointwise [taps]

/-- The convolution. -/
def conv (x : FVec Ideal S32x2051x1024 .f32) (w : FVec Ideal S4x1024 .f32) (cb : FVec Ideal S1x1024 .f32) : FVec Ideal S32x2048x1024 .f32 :=
  addf (addf (addf (addf (addf (broadcastInDim S32x2048x1024 ![] bcast_S_S32x2048x1024 (constant S_ .f32 0x00000000#32)) (mulf (extractStridedSlice S32x2048x1024 ![0, 0, 0] x slices_S32x2051x1024_S32x2048x1024_0_0_0) (broadcastInDim S32x2048x1024 ![0, 1, 2] bcast_S1x1x1024_S32x2048x1024_0_1_2 (broadcastInDim S1x1x1024 ![2] bcast_S1024_S1x1x1024_2 (shapeCast S1024 (extractStridedSlice S1x1024 ![0, 0] w slices_S4x1024_S1x1024_0_0) shapeCasts_S1x1024_S1024))))) (mulf (extractStridedSlice S32x2048x1024 ![0, 1, 0] x slices_S32x2051x1024_S32x2048x1024_0_1_0) (broadcastInDim S32x2048x1024 ![0, 1, 2] bcast_S1x1x1024_S32x2048x1024_0_1_2 (broadcastInDim S1x1x1024 ![2] bcast_S1024_S1x1x1024_2 (shapeCast S1024 (extractStridedSlice S1x1024 ![1, 0] w slices_S4x1024_S1x1024_1_0) shapeCasts_S1x1024_S1024))))) (mulf (extractStridedSlice S32x2048x1024 ![0, 2, 0] x slices_S32x2051x1024_S32x2048x1024_0_2_0) (broadcastInDim S32x2048x1024 ![0, 1, 2] bcast_S1x1x1024_S32x2048x1024_0_1_2 (broadcastInDim S1x1x1024 ![2] bcast_S1024_S1x1x1024_2 (shapeCast S1024 (extractStridedSlice S1x1024 ![2, 0] w slices_S4x1024_S1x1024_2_0) shapeCasts_S1x1024_S1024))))) (mulf (extractStridedSlice S32x2048x1024 ![0, 3, 0] x slices_S32x2051x1024_S32x2048x1024_0_3_0) (broadcastInDim S32x2048x1024 ![0, 1, 2] bcast_S1x1x1024_S32x2048x1024_0_1_2 (broadcastInDim S1x1x1024 ![2] bcast_S1024_S1x1x1024_2 (shapeCast S1024 (extractStridedSlice S1x1024 ![3, 0] w slices_S4x1024_S1x1024_3_0) shapeCasts_S1x1024_S1024))))) (broadcastInDim S32x2048x1024 ![0, 1, 2] bcast_S1x1x1024_S32x2048x1024_0_1_2 (broadcastInDim S1x1x1024 ![2] bcast_S1024_S1x1x1024_2 (shapeCast S1024 cb shapeCasts_S1x1024_S1024)))

theorem conv_apply (x : FVec Ideal S32x2051x1024 .f32) (w : FVec Ideal S4x1024 .f32) (cb : FVec Ideal S1x1024 .f32) (b : Fin 32)
    (s : Fin 2048) (n : Fin 1024) : conv x w cb (ix3 b s n)
      = x (ix3 b ⟨s.val, by omega⟩ n) * w (ix2 0 n) + x (ix3 b ⟨1 + s.val, by omega⟩ n) * w (ix2 1 n)
        + x (ix3 b ⟨2 + s.val, by omega⟩ n) * w (ix2 2 n) + x (ix3 b ⟨3 + s.val, by omega⟩ n) * w (ix2 3 n) + cb (ix2 0 n) := by
  unfold conv
  pointwise

/-- A value times its logistic. -/
def act (x : FVec Ideal S32x2048x1024 .f32) : FVec Ideal S32x2048x1024 .f32 :=
  mulf x (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf x))))

theorem act_apply (x : FVec Ideal S32x2048x1024 .f32) (i : S32x2048x1024.Idx) : act x i = silu (x i) := by
  idx_vars i
  pointwise [act, silu, Idealize.ShloMosaic.Ideal.ofBits_one_f32, zero_sub]

/-- The rows times a weight made of blocks. -/
def blocks (w : FVec Ideal S1x256x4x4 .f32) (t : FVec Ideal S32x2048x1024 .f32) : FVec Ideal S32x2048x1024 .f32 :=
  shapeCast S32x2048x1024 (transpose S32x2048x256x4 [2, 3, 0, 1] (Host.dotGeneral (φ₁ := .f32) (φ₂ := .f32) dot_S256x4x4_S32x2048x256x4_S256x4x32x2048_1_3_2_01_0_2 none (shapeCast S256x4x4 w shapeCasts_S1x256x4x4_S256x4x4) (shapeCast S32x2048x256x4 t shapeCasts_S32x2048x1024_S32x2048x256x4) : FVec Ideal S256x4x32x2048 .f32) transposes_S256x4x32x2048_S32x2048x256x4_2_3_0_1) shapeCasts_S32x2048x256x4_S32x2048x1024

theorem blocks_apply (w : FVec Ideal S1x256x4x4 .f32) (t : FVec Ideal S32x2048x1024 .f32) (b : Fin 32) (s : Fin 2048) (n : Fin 1024) :
    blocks w t (ix3 b s n) = proj (fun k => t (ix3 b s k)) (fun n c d => w (ix4 0 n c d)) n := by
  unfold blocks proj
  pointwise
  refine Finset.sum_congr rfl fun c _ => ?_
  rw [mul_comm]
  simp only [Nat.mul_comm]

/-- Queries, keys and values side by side times the gates' weight. -/
def gates (q k v : FVec Ideal S32x2048x1024 .f32) (wg : FVec Ideal S1x3072x8 .f32) (bg : FVec Ideal S1x8 .f32) : FVec Ideal S32x2048x8 .f32 :=
  addf (Host.dotGeneral (φ₁ := .f32) (φ₂ := .f32) dot_S32x2048x3072_S3072x8_S32x2048x8_2_0_01_1_n_n none ((concatenate S32x2048x3072 2 [⟨S32x2048x1024, (q : (⟨S32x2048x1024, .f32⟩ : BufTy).Contents (Elt Ideal))⟩, ⟨S32x2048x1024, (k : (⟨S32x2048x1024, .f32⟩ : BufTy).Contents (Elt Ideal))⟩, ⟨S32x2048x1024, (v : (⟨S32x2048x1024, .f32⟩ : BufTy).Contents (Elt Ideal))⟩] concatenates_S32x2048x1024_S32x2048x1024_S32x2048x1024_S32x2048x3072_d2 : (⟨S32x2048x3072, .f32⟩ : BufTy).Contents (Elt Ideal))) (shapeCast S3072x8 wg shapeCasts_S1x3072x8_S3072x8 : FVec Ideal S3072x8 .f32)) (broadcastInDim S32x2048x8 ![0, 1, 2] bcast_S1x1x8_S32x2048x8_0_1_2 (broadcastInDim S1x1x8 ![2] bcast_S8_S1x1x8_2 (shapeCast S8 bg shapeCasts_S1x8_S8)))

theorem gates_apply (q k v : FVec Ideal S32x2048x1024 .f32) (wg : FVec Ideal S1x3072x8 .f32) (bg : FVec Ideal S1x8 .f32) (b : Fin 32)
    (s : Fin 2048) (g : Fin 8) : gates q k v wg bg (ix3 b s g)
      = (∑ j : Fin 3072, (if h : j.val < 1024 then q (ix3 b s ⟨j.val, h⟩)
          else if h : j.val - 1024 < 1024 then k (ix3 b s ⟨j.val - 1024, h⟩)
          else v (ix3 b s ⟨j.val - 1024 - 1024, by omega⟩)) * wg (ix3 0 j g)) + bg (ix2 0 g) := by
  unfold gates
  pointwise

/-- The input gates, head by head. -/
def ins (g : FVec Ideal S32x2048x8 .f32) : FVec Ideal S32x4x2048 .f32 :=
  transpose S32x4x2048 [0, 2, 1] (extractStridedSlice S32x2048x4 ![0, 0, 0] g slices_S32x2048x8_S32x2048x4_0_0_0) transposes_S32x2048x4_S32x4x2048_0_2_1

theorem ins_apply (g : FVec Ideal S32x2048x8 .f32) (b : Fin 32) (h : Fin 4) (s : Fin 2048) :
    ins g (ix3 b h s) = g (ix3 b s ⟨h.val, by omega⟩) := by
  unfold ins
  pointwise

/-- The forget gates before their function, negated. -/
def negs (g : FVec Ideal S32x2048x8 .f32) : FVec Ideal S32x4x2048 .f32 :=
  Host.negf (transpose S32x4x2048 [0, 2, 1] (extractStridedSlice S32x2048x4 ![0, 0, 4] g slices_S32x2048x8_S32x2048x4_0_0_4) transposes_S32x2048x4_S32x4x2048_0_2_1)

theorem negs_apply (g : FVec Ideal S32x2048x8 .f32) (b : Fin 32) (h : Fin 4) (s : Fin 2048) :
    negs g (ix3 b h s) = -g (ix3 b s ⟨4 + h.val, by omega⟩) := by
  unfold negs
  pointwise

/-- The same less nothing. -/
def difs (x : FVec Ideal S32x4x2048 .f32) : FVec Ideal S32x4x2048 .f32 :=
  subf x (broadcastInDim S32x4x2048 ![] bcast_S_S32x4x2048 (constant S_ .f32 0x00000000#32))

/-- The logarithms of the forget gates. -/
def logs (x : FVec Ideal S32x4x2048 .f32) : FVec Ideal S32x4x2048 .f32 :=
  Host.negf (select (cmpf .une (difs x) (difs x)) (addf x (broadcastInDim S32x4x2048 ![] bcast_S_S32x4x2048 (constant S_ .f32 0x00000000#32))) (addf (maximumf x (broadcastInDim S32x4x2048 ![] bcast_S_S32x4x2048 (constant S_ .f32 0x00000000#32))) (Host.log1p (Host.exp (Host.negf (Host.absf (difs x)))))))

theorem logs_apply (x : FVec Ideal S32x4x2048 .f32) (i : S32x4x2048.Idx) :
    logs x i = -(max (x i) 0 + Ideal.log (1 + Ideal.exp (-(max (x i - 0) (-(x i - 0)))))) := by
  idx_vars i
  unfold logs difs
  pointwise
  rw [if_neg (fun h => h rfl)]
  rfl

/-- The running sums of the forget gates' logarithms. -/
def sums (x : FVec Ideal S32x4x2048 .f32) : FVec Ideal S32x4x2048 .f32 :=
  Host.reduceWindowAdd ![1, 1, 2048] ![1, 1, 1] ![0, 0, 2047] ![0, 0, 0] (logs x) (broadcastInDim S_ ![] bcast_S_S_ (constant S_ .f32 0x00000000#32)) reduceWindows_S32x4x2048_S32x4x2048_w1s1p0_0_w1s1p0_0_w2048s1p2047_0 h_S_

end Cert.MlstmRefIdeal.Read
end
-- ==== Proof.MlstmRefHeads.lean ====
/- The reference of the recurrence read entry by entry over the extended reals: the weights of the positions, the heads, and
   the whole row. -/
module

public import proofs.«01_k».proof.Proof.MlstmRef
public import proofs.«01_k».proof.Proof.MlstmMath
public import Idealize.ShloMosaic.Lib.WordCmp

@[expose] public section

set_option maxRecDepth 16384

noncomputable section

open Idealize.ShloMosaic Idealize.ShloMosaic.TcCoe Idealize.SL.Sem

namespace Cert.MlstmRefIdeal.Read

open Cert.MlstmRefIdeal Cert.MlstmRefIdeal.Gen Cert.Mlstm Cert.Reals

/-! ## The weights of the positions -/

/-- Which positions a row sees. -/
def seen : IVec S2048x2048 1 :=
  select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))

theorem seen_apply (i j : Fin 2048) : seen (ix2 i j) = if j ≤ i then 1#1 else 0#1 := by
  pointwise [seen]
  show Scalar.select (IntOp.cmpi .sge (BitVec.ofNat 32 i.val + 0#32) (BitVec.ofNat 32 j.val)) 1#1 0#1 = _
  rw [BitVec.add_zero]
  unfold Scalar.select
  exact if_congr (WordCmp.cmpi_sge_ofNat_eq_one_iff (w := 32) (by have := i.isLt; omega) (by have := j.isLt; omega)) rfl rfl

/-- The logarithms of the positions' weights. -/
def logw (c g : FVec Ideal S32x4x2048 .f32) : FVec Ideal S32x4x2048x2048 .f32 :=
  select (broadcastInDim S32x4x2048x2048 ![2, 3] bcast_S2048x2048_S32x4x2048x2048_2_3 seen) (addf (subf (broadcastInDim S32x4x2048x2048 ![0, 1, 2, 3] bcast_S32x4x2048x1_S32x4x2048x2048_0_1_2_3 (broadcastInDim S32x4x2048x1 ![0, 1, 2] bcast_S32x4x2048_S32x4x2048x1_0_1_2 c)) (broadcastInDim S32x4x2048x2048 ![0, 1, 2, 3] bcast_S32x4x1x2048_S32x4x2048x2048_0_1_2_3 (broadcastInDim S32x4x1x2048 ![0, 1, 3] bcast_S32x4x2048_S32x4x1x2048_0_1_3 c))) (broadcastInDim S32x4x2048x2048 ![0, 1, 2, 3] bcast_S32x4x1x2048_S32x4x2048x2048_0_1_2_3 (broadcastInDim S32x4x1x2048 ![0, 1, 3] bcast_S32x4x2048_S32x4x1x2048_0_1_3 g))) (broadcastInDim S32x4x2048x2048 ![] bcast_S_S32x4x2048x2048 (id (constant S_ .f32 0xFF800000#32)))

theorem logw_apply (c g : FVec Ideal S32x4x2048 .f32) (b : Fin 32) (h : Fin 4) (i j : Fin 2048) :
    logw c g (ix4 b h i j) = dlog (fun s => c (ix3 b h s)) (fun s => g (ix3 b h s)) i j := by
  unfold logw dlog
  pointwise [seen_apply]
  show Scalar.select _ _ (Ideal.ofBits .f32 4286578688#32) = _
  rw [ofBits_bot]
  split_ifs <;> rfl

/-- A row's maximum from `⊥` is the fold of its entries. -/
theorem rowmax_apply (v : FVec Ideal S32x4x2048x2048 .f32) (b : Fin 32) (h : Fin 4) (s : Fin 2048) :
    Host.reduce FloatOps.maximumf v (constant S_ .f32 0xFF800000#32) reducesTo_S32x4x2048x2048_S32x4x2048_d3 h_S_ (ix3 b h s)
      = Finset.fold max (Ideal.ofBits .f32 4286578688#32) (fun j => v (ix4 b h s j)) Finset.univ := by
  simp only [pointwise]

/-- The stabilisers. -/
def tops (c : FVec Ideal S32x4x2048 .f32) (v : FVec Ideal S32x4x2048x2048 .f32) : FVec Ideal S32x4x2048 .f32 :=
  maximumf c (Host.reduce FloatOps.maximumf v (constant S_ .f32 0xFF800000#32) reducesTo_S32x4x2048x2048_S32x4x2048_d3 h_S_)

theorem tops_apply (c g : FVec Ideal S32x4x2048 .f32) (b : Fin 32) (h : Fin 4) (i : Fin 2048) :
    tops c (logw c g) (ix3 b h i) = stab (fun s => c (ix3 b h s)) (fun s => g (ix3 b h s)) (c (ix3 b h i)) i := by
  unfold tops stab
  refine congrArg (max (c (ix3 b h i))) ?_
  rw [rowmax_apply, ofBits_bot]
  simp only [logw_apply]

/-- Rows, head by head. -/
def heads (t : FVec Ideal S32x2048x1024 .f32) : FVec Ideal S32x4x2048x256 .f32 :=
  transpose S32x4x2048x256 [0, 2, 1, 3] (shapeCast S32x2048x4x256 t shapeCasts_S32x2048x1024_S32x2048x4x256) transposes_S32x2048x4x256_S32x4x2048x256_0_2_1_3

theorem heads_apply (t : FVec Ideal S32x2048x1024 .f32) (b : Fin 32) (h : Fin 4) (s : Fin 2048) (d : Fin 256) :
    heads t (ix4 b h s d) = t (ix3 b s (lane h d)) := by
  unfold heads lane
  pointwise
  simp only [Nat.mul_comm]

/-- The keys, scaled, head by head. -/
def keys (t : FVec Ideal S32x2048x1024 .f32) : FVec Ideal S32x4x2048x256 .f32 :=
  transpose S32x4x2048x256 [0, 2, 1, 3] (mulf (shapeCast S32x2048x4x256 t shapeCasts_S32x2048x1024_S32x2048x4x256) (broadcastInDim S32x2048x4x256 ![] bcast_S_S32x2048x4x256 (constant S_ .f32 0x3D800000#32))) transposes_S32x2048x4x256_S32x4x2048x256_0_2_1_3

theorem keys_apply (t : FVec Ideal S32x2048x1024 .f32) (b : Fin 32) (h : Fin 4) (s : Fin 2048) (d : Fin 256) :
    keys t (ix4 b h s d) = t (ix3 b s (lane h d)) * Ideal.ofBits .f32 1031798784#32 := by
  unfold keys lane
  pointwise
  simp only [Nat.mul_comm]

/-- The positions' weights. -/
def weights (v : FVec Ideal S32x4x2048x2048 .f32) (μ : FVec Ideal S32x4x2048 .f32) (q k : FVec Ideal S32x4x2048x256 .f32) :
    FVec Ideal S32x4x2048x2048 .f32 :=
  mulf (Host.exp (subf v (broadcastInDim S32x4x2048x2048 ![0, 1, 2, 3] bcast_S32x4x2048x1_S32x4x2048x2048_0_1_2_3 (broadcastInDim S32x4x2048x1 ![0, 1, 2] bcast_S32x4x2048_S32x4x2048x1_0_1_2 μ)))) (Host.dotGeneral (φ₁ := .f32) (φ₂ := .f32) dot_S32x4x2048x256_S32x4x2048x256_S32x4x2048x2048_3_3_2_2_01_01 none q k)

theorem weights_apply (v : FVec Ideal S32x4x2048x2048 .f32) (μ : FVec Ideal S32x4x2048 .f32) (q k : FVec Ideal S32x4x2048x256 .f32)
    (b : Fin 32) (h : Fin 4) (i j : Fin 2048) : weights v μ q k (ix4 b h i j)
      = Ideal.exp (v (ix4 b h i j) - μ (ix3 b h i)) * ∑ d : Fin 256, q (ix4 b h i d) * k (ix4 b h j d) := by
  unfold weights
  pointwise

/-- The heads' rows. -/
def hids (w : FVec Ideal S32x4x2048x2048 .f32) (v : FVec Ideal S32x4x2048x256 .f32) (μ : FVec Ideal S32x4x2048 .f32) :
    FVec Ideal S32x4x2048x256 .f32 :=
  Host.divf (Host.dotGeneral (φ₁ := .f32) (φ₂ := .f32) dot_S32x4x2048x2048_S32x4x2048x256_S32x4x2048x256_3_2_2_3_01_01 none w v) (broadcastInDim S32x4x2048x256 ![0, 1, 2, 3] bcast_S32x4x2048x1_S32x4x2048x256_0_1_2_3 (broadcastInDim S32x4x2048x1 ![0, 1, 2] bcast_S32x4x2048_S32x4x2048x1_0_1_2 (maximumf (Host.absf (Host.reduceAdd w (constant S_ .f32 0x00000000#32) reducesTo_S32x4x2048x2048_S32x4x2048_d3 h_S_)) (Host.exp (Host.negf μ)))))

theorem hids_apply (w : FVec Ideal S32x4x2048x2048 .f32) (v : FVec Ideal S32x4x2048x256 .f32) (μ : FVec Ideal S32x4x2048 .f32)
    (b : Fin 32) (h : Fin 4) (i : Fin 2048) (d : Fin 256) : hids w v μ (ix4 b h i d)
      = Ideal.div (∑ j : Fin 2048, w (ix4 b h i j) * v (ix4 b h j d))
        (max (max (∑ j : Fin 2048, w (ix4 b h i j)) (-∑ j : Fin 2048, w (ix4 b h i j))) (Ideal.exp (-μ (ix3 b h i)))) := by
  unfold hids
  pointwise
  rfl

/-- The gated heads, batch by batch. -/
def gated (o : FVec Ideal S32x2048x4x256 .f32) (x : FVec Ideal S32x4x2048x256 .f32) : FVec Ideal S32x2048x4x256 .f32 :=
  mulf (Host.divf (broadcastInDim S32x2048x4x256 ![] bcast_S_S32x2048x4x256 (constant S_ .f32 0x3F800000#32)) (addf (broadcastInDim S32x2048x4x256 ![] bcast_S_S32x2048x4x256 (constant S_ .f32 0x3F800000#32)) (Host.exp (Host.negf o)))) (transpose S32x2048x4x256 [0, 2, 1, 3] x transposes_S32x4x2048x256_S32x2048x4x256_0_2_1_3)

theorem gated_apply (o : FVec Ideal S32x2048x4x256 .f32) (x : FVec Ideal S32x4x2048x256 .f32) (b : Fin 32) (s : Fin 2048) (h : Fin 4)
    (d : Fin 256) : gated o x (ix4 b s h d) = Ideal.div 1 (1 + Ideal.exp (0 - o (ix4 b s h d))) * x (ix4 b h s d) := by
  unfold gated
  pointwise [Idealize.ShloMosaic.Ideal.ofBits_one_f32, zero_sub]

/-- A head's mean. -/
def mean (x : FVec Ideal S32x2048x4x256 .f32) : FVec Ideal S32x2048x4x1 .f32 :=
  Host.divf (broadcastInDim S32x2048x4x1 ![0, 1, 2] bcast_S32x2048x4_S32x2048x4x1_0_1_2 (Host.reduceAdd x (constant S_ .f32 0x00000000#32) reducesTo_S32x2048x4x256_S32x2048x4_d3 h_S_)) (broadcastInDim S32x2048x4x1 ![] bcast_S_S32x2048x4x1 (constant S_ .f32 0x43800000#32))

theorem mean_apply (x : FVec Ideal S32x2048x4x256 .f32) (b : Fin 32) (s : Fin 2048) (h : Fin 4) : mean x (ix4 b s h 0)
      = Ideal.div (∑ k : Fin 256, x (ix4 b s h k)) (Ideal.ofBits .f32 1132462080#32) := by
  unfold mean
  pointwise

/-- A head less its mean. -/
def cent (x : FVec Ideal S32x2048x4x256 .f32) : FVec Ideal S32x2048x4x256 .f32 :=
  subf x (broadcastInDim S32x2048x4x256 ![0, 1, 2, 3] bcast_S32x2048x4x1_S32x2048x4x256_0_1_2_3 (mean x))

theorem cent_apply (x : FVec Ideal S32x2048x4x256 .f32) (b : Fin 32) (s : Fin 2048) (h : Fin 4) (d : Fin 256) : cent x (ix4 b s h d)
      = x (ix4 b s h d) - Ideal.div (∑ k : Fin 256, x (ix4 b s h k)) (Ideal.ofBits .f32 1132462080#32) := by
  unfold cent
  pointwise [mean_apply]

/-- The normalised heads. -/
def normed (x : FVec Ideal S32x2048x4x256 .f32) : FVec Ideal S32x2048x4x256 .f32 :=
  mulf (cent x) (broadcastInDim S32x2048x4x256 ![0, 1, 2, 3] bcast_S32x2048x4x1_S32x2048x4x256_0_1_2_3 (Host.rsqrt (addf (Host.divf (broadcastInDim S32x2048x4x1 ![0, 1, 2] bcast_S32x2048x4_S32x2048x4x1_0_1_2 (Host.reduceAdd (mulf (cent x) (cent x)) (constant S_ .f32 0x00000000#32) reducesTo_S32x2048x4x256_S32x2048x4_d3 h_S_)) (broadcastInDim S32x2048x4x1 ![] bcast_S_S32x2048x4x1 (constant S_ .f32 0x43800000#32))) (broadcastInDim S32x2048x4x1 ![] bcast_S_S32x2048x4x1 (constant S_ .f32 0x358637BD#32)))))

theorem normed_apply (x : FVec Ideal S32x2048x4x256 .f32) (b : Fin 32) (s : Fin 2048) (h : Fin 4) (d : Fin 256) :
    normed x (ix4 b s h d) = headNorm (fun k => x (ix4 b s h k)) d := by
  unfold normed headNorm
  pointwise [cent_apply]

/-- The whole result. -/
def finished (n : FVec Ideal S32x2048x4x256 .f32) (gh sk : FVec Ideal S1x1024 .f32) (xc z : FVec Ideal S32x2048x1024 .f32) :
    FVec Ideal S65536x1024 .bf16 :=
  truncf .bf16 (shapeCast S65536x1024 (mulf (addf (mulf (shapeCast S32x2048x1024 n shapeCasts_S32x2048x4x256_S32x2048x1024) (broadcastInDim S32x2048x1024 ![0, 1, 2] bcast_S1x1x1024_S32x2048x1024_0_1_2 (broadcastInDim S1x1x1024 ![2] bcast_S1024_S1x1x1024_2 (shapeCast S1024 gh shapeCasts_S1x1024_S1024)))) (mulf (broadcastInDim S32x2048x1024 ![0, 1, 2] bcast_S1x1x1024_S32x2048x1024_0_1_2 (broadcastInDim S1x1x1024 ![2] bcast_S1024_S1x1x1024_2 (shapeCast S1024 sk shapeCasts_S1x1024_S1024))) xc)) (act z)) shapeCasts_S32x2048x1024_S65536x1024 : FVec Ideal S65536x1024 .f32) bitsLt_bf16_f32

theorem finished_apply (n : FVec Ideal S32x2048x4x256 .f32) (gh sk : FVec Ideal S1x1024 .f32) (xc z : FVec Ideal S32x2048x1024 .f32)
    (t : Fin 65536) (j : Fin 1024) : finished n gh sk xc z (ix2 t j)
      = (n (ix4 ⟨t.val / 2048, by omega⟩ ⟨t.val % 2048, by omega⟩ ⟨j.val / 256, by omega⟩ ⟨j.val % 256, by omega⟩) * gh (ix2 0 j)
        + sk (ix2 0 j) * xc (ix3 ⟨t.val / 2048, by omega⟩ ⟨t.val % 2048, by omega⟩ j))
        * silu (z (ix3 ⟨t.val / 2048, by omega⟩ ⟨t.val % 2048, by omega⟩ j)) := by
  unfold finished
  pointwise [act_apply]

end Cert.MlstmRefIdeal.Read
end
-- ==== Proof.MlstmRefWhole.lean ====
/- The reference of the recurrence as one formula of its ten arguments, and its entries on finite inputs. -/
module

public import proofs.«01_k».proof.Proof.MlstmRefHeads

@[expose] public section

set_option maxRecDepth 16384

noncomputable section

open Idealize.ShloMosaic Idealize.ShloMosaic.TcCoe Idealize.SL.Sem

namespace Cert.MlstmRefIdeal.Read

open Cert.MlstmRefIdeal Cert.MlstmRefIdeal.Gen Cert.Mlstm Cert.Reals

variable (P : FVec Ideal S65536x3072 .bf16) (Cw : FVec Ideal S1x4x1024 .f32) (Cb : FVec Ideal S1x1024 .f32)
  (Wq Wk Wv : FVec Ideal S1x256x4x4 .f32) (Wg : FVec Ideal S1x3072x8 .f32) (Bg : FVec Ideal S1x8 .f32) (Gh Sk : FVec Ideal S1x1024 .f32)

/-! ## The arrays, one of the other -/

/-- The convolution times its logistic. -/
def cx : FVec Ideal S32x2048x1024 .f32 := act (conv (padded (rx P)) (taps Cw) Cb)
/-- The queries. -/
def aq : FVec Ideal S32x2048x1024 .f32 := blocks Wq (cx P Cw Cb)
/-- The keys. -/
def ak : FVec Ideal S32x2048x1024 .f32 := blocks Wk (cx P Cw Cb)
/-- The values. -/
def av : FVec Ideal S32x2048x1024 .f32 := blocks Wv (rx P)
/-- The gates before their functions. -/
def ag : FVec Ideal S32x2048x8 .f32 := gates (aq P Cw Cb Wq) (ak P Cw Cb Wk) (av P Wv) Wg Bg
/-- The running sums of the forget gates' logarithms. -/
def ac : FVec Ideal S32x4x2048 .f32 := sums (negs (ag P Cw Cb Wq Wk Wv Wg Bg))
/-- The logarithms of the positions' weights. -/
def al : FVec Ideal S32x4x2048x2048 .f32 := logw (ac P Cw Cb Wq Wk Wv Wg Bg) (ins (ag P Cw Cb Wq Wk Wv Wg Bg))
/-- The stabilisers. -/
def am : FVec Ideal S32x4x2048 .f32 := tops (ac P Cw Cb Wq Wk Wv Wg Bg) (al P Cw Cb Wq Wk Wv Wg Bg)
/-- The positions' weights. -/
def aw : FVec Ideal S32x4x2048x2048 .f32 :=
  weights (al P Cw Cb Wq Wk Wv Wg Bg) (am P Cw Cb Wq Wk Wv Wg Bg) (heads (aq P Cw Cb Wq)) (keys (ak P Cw Cb Wk))
/-- The gated heads. -/
def ah : FVec Ideal S32x2048x4x256 .f32 :=
  gated (ro P) (hids (aw P Cw Cb Wq Wk Wv Wg Bg) (heads (av P Wv)) (am P Cw Cb Wq Wk Wv Wg Bg))
/-- The whole result. -/
def whole : FVec Ideal S65536x1024 .bf16 := finished (normed (ah P Cw Cb Wq Wk Wv Wg Bg)) Gh Sk (cx P Cw Cb) (rz P)

/-! ## Their entries -/

/-- Sequence `b` of the batch. -/
def seq (b : Fin 32) : Data :=
  seqData (fun t n => P (ix2 t n)) (fun k n => Cw (ix3 0 k n)) (fun n => Cb (ix2 0 n))
    (fun n k d => Wq (ix4 0 n k d)) (fun n k d => Wk (ix4 0 n k d)) (fun n k d => Wv (ix4 0 n k d))
    (fun j g => Wg (ix3 0 j g)) (fun g => Bg (ix2 0 g)) (fun n => Gh (ix2 0 n)) (fun n => Sk (ix2 0 n)) b

theorem rx_read (b : Fin 32) (s : Fin 2048) (n : Fin 1024) : rx P (ix3 b s n) = (seq P Cw Cb Wq Wk Wv Wg Bg Gh Sk b).x s.val n := by
  rw [rx_apply]
  unfold seq seqData
  dsimp only
  rw [dif_pos s.isLt]

theorem rz_read (b : Fin 32) (s : Fin 2048) (n : Fin 1024) : rz P (ix3 b s n) = (seq P Cw Cb Wq Wk Wv Wg Bg Gh Sk b).z s.val n := by
  rw [rz_apply]
  unfold seq seqData
  dsimp only
  rw [dif_pos s.isLt]

theorem ro_read (b : Fin 32) (s : Fin 2048) (h : Fin 4) (d : Fin 256) : ro P (ix4 b s h d) = (seq P Cw Cb Wq Wk Wv Wg Bg Gh Sk b).o s.val (lane h d) := by
  rw [ro_apply]
  unfold seq seqData
  dsimp only
  rw [dif_pos s.isLt]
  rfl

theorem tap_read (b : Fin 32) (s : Fin 2048) (k : ℕ) (hk : k ≤ 3) (u : Fin 2051) (hu : u.val = s.val + k) (n : Fin 1024) :
    padded (rx P) (ix3 b u n) = (seq P Cw Cb Wq Wk Wv Wg Bg Gh Sk b).tap k s.val n := by
  rw [padded_apply]
  unfold Data.tap
  have hs := s.isLt
  by_cases h : 3 ≤ s.val + k
  · rw [dif_pos (by omega), if_pos h, rx_read P Cw Cb Wq Wk Wv Wg Bg Gh Sk]
    exact congrArg (fun t => (seq P Cw Cb Wq Wk Wv Wg Bg Gh Sk b).x t n) (by dsimp only; omega)
  · rw [dif_neg (by omega), if_neg h]

theorem cx_read (b : Fin 32) (s : Fin 2048) (n : Fin 1024) : cx P Cw Cb (ix3 b s n) = (seq P Cw Cb Wq Wk Wv Wg Bg Gh Sk b).xc s.val n := by
  unfold cx Data.xc Data.conv
  rw [act_apply, conv_apply, tap_read P Cw Cb Wq Wk Wv Wg Bg Gh Sk b s 0 (by omega) _ rfl,
    tap_read P Cw Cb Wq Wk Wv Wg Bg Gh Sk b s 1 (by omega) ⟨1 + s.val, by omega⟩ (Nat.add_comm _ _),
    tap_read P Cw Cb Wq Wk Wv Wg Bg Gh Sk b s 2 (by omega) ⟨2 + s.val, by omega⟩ (Nat.add_comm _ _),
    tap_read P Cw Cb Wq Wk Wv Wg Bg Gh Sk b s 3 (by omega) ⟨3 + s.val, by omega⟩ (Nat.add_comm _ _),
    taps_apply, taps_apply, taps_apply, taps_apply]
  refine congrArg silu ?_
  show _ = Cb (ix2 0 n) + Cw (ix3 0 3 n) * _ + Cw (ix3 0 2 n) * _ + Cw (ix3 0 1 n) * _ + Cw (ix3 0 0 n) * _
  ac_rfl

theorem aq_read (b : Fin 32) (s : Fin 2048) (n : Fin 1024) : aq P Cw Cb Wq (ix3 b s n) = (seq P Cw Cb Wq Wk Wv Wg Bg Gh Sk b).q s.val n := by
  unfold aq
  rw [blocks_apply]
  simp only [cx_read P Cw Cb Wq Wk Wv Wg Bg Gh Sk]
  rfl

theorem ak_read (b : Fin 32) (s : Fin 2048) (n : Fin 1024) : ak P Cw Cb Wk (ix3 b s n) = (seq P Cw Cb Wq Wk Wv Wg Bg Gh Sk b).k s.val n := by
  unfold ak
  rw [blocks_apply]
  simp only [cx_read P Cw Cb Wq Wk Wv Wg Bg Gh Sk]
  rfl

theorem av_read (b : Fin 32) (s : Fin 2048) (n : Fin 1024) : av P Wv (ix3 b s n) = (seq P Cw Cb Wq Wk Wv Wg Bg Gh Sk b).v s.val n := by
  unfold av
  rw [blocks_apply]
  simp only [rx_read P Cw Cb Wq Wk Wv Wg Bg Gh Sk]
  rfl

theorem ag_read (b : Fin 32) (s : Fin 2048) (g : Fin 8) : ag P Cw Cb Wq Wk Wv Wg Bg (ix3 b s g) = (seq P Cw Cb Wq Wk Wv Wg Bg Gh Sk b).gate s.val g := by
  unfold ag
  rw [gates_apply]
  simp only [aq_read P Cw Cb Wq Wk Wv Wg Bg Gh Sk, ak_read P Cw Cb Wq Wk Wv Wg Bg Gh Sk, av_read P Cw Cb Wq Wk Wv Wg Bg Gh Sk]
  rfl

variable (hF : ∀ b, (seq P Cw Cb Wq Wk Wv Wg Bg Gh Sk b).Finite)
include hF

theorem ins_read (b : Fin 32) (h : Fin 4) (s : Fin 2048) :
    ins (ag P Cw Cb Wq Wk Wv Wg Bg) (ix3 b h s) = ((((seq P Cw Cb Wq Wk Wv Wg Bg Gh Sk b).ig h s.val).toReal : ℝ) : EReal) := by
  rw [ins_apply, ag_read P Cw Cb Wq Wk Wv Wg Bg Gh Sk]
  exact coe_toReal ((hF b).ig h s.val)

theorem ac_read (b : Fin 32) (h : Fin 4) (s : Fin 2048) :
    ac P Cw Cb Wq Wk Wv Wg Bg (ix3 b h s) = ((cum (fun t => ((seq P Cw Cb Wq Wk Wv Wg Bg Gh Sk b).fg h t).toReal) (s.val + 1) : ℝ) : EReal) := by
  unfold ac sums
  refine cumsum_apply _ b h (fun t => ((seq P Cw Cb Wq Wk Wv Wg Bg Gh Sk b).fg h t).toReal) (fun t => ?_) s
  rw [logs_apply, negs_apply, ag_read P Cw Cb Wq Wk Wv Wg Bg Gh Sk, logSig_eq ((hF b).gate t.val _)]
  exact coe_toReal ((hF b).fg h t.val)

theorem hids_read (b : Fin 32) (h : Fin 4) (s : Fin 2048) (d : Fin 256) :
    hids (aw P Cw Cb Wq Wk Wv Wg Bg) (heads (av P Wv)) (am P Cw Cb Wq Wk Wv Wg Bg) (ix4 b h s d) = (seq P Cw Cb Wq Wk Wv Wg Bg Gh Sk b).hidden h s.val d := by
  have hq (i : Fin 2048) (d : Fin 256) : heads (aq P Cw Cb Wq) (ix4 b h i d) = ((((seq P Cw Cb Wq Wk Wv Wg Bg Gh Sk b).q i.val (lane h d)).toReal : ℝ) : EReal) := by
    rw [heads_apply, aq_read P Cw Cb Wq Wk Wv Wg Bg Gh Sk]
    exact coe_toReal ((hF b).q _ _)
  have hk (i : Fin 2048) (d : Fin 256) : keys (ak P Cw Cb Wk) (ix4 b h i d) = ((((seq P Cw Cb Wq Wk Wv Wg Bg Gh Sk b).ks i.val (lane h d)).toReal : ℝ) : EReal) := by
    rw [keys_apply, ak_read P Cw Cb Wq Wk Wv Wg Bg Gh Sk]
    exact coe_toReal ((hF b).ks _ _)
  have hv (i : Fin 2048) (d : Fin 256) : heads (av P Wv) (ix4 b h i d) = ((((seq P Cw Cb Wq Wk Wv Wg Bg Gh Sk b).v i.val (lane h d)).toReal : ℝ) : EReal) := by
    rw [heads_apply, av_read P Cw Cb Wq Wk Wv Wg Bg Gh Sk]
    exact coe_toReal ((hF b).v _ _)
  have hm (i : Fin 2048) : am P Cw Cb Wq Wk Wv Wg Bg (ix3 b h i) = stab (fun s => ac P Cw Cb Wq Wk Wv Wg Bg (ix3 b h s))
      (fun s => ins (ag P Cw Cb Wq Wk Wv Wg Bg) (ix3 b h s)) (ac P Cw Cb Wq Wk Wv Wg Bg (ix3 b h i)) i := by
    unfold am al
    exact tops_apply _ _ b h i
  have hw (i j : Fin 2048) : aw P Cw Cb Wq Wk Wv Wg Bg (ix4 b h i j) = wt (fun s => ac P Cw Cb Wq Wk Wv Wg Bg (ix3 b h s))
      (fun s => ins (ag P Cw Cb Wq Wk Wv Wg Bg) (ix3 b h s)) (fun i d => heads (aq P Cw Cb Wq) (ix4 b h i d))
      (fun i d => keys (ak P Cw Cb Wk) (ix4 b h i d)) (stab (fun s => ac P Cw Cb Wq Wk Wv Wg Bg (ix3 b h s))
      (fun s => ins (ag P Cw Cb Wq Wk Wv Wg Bg) (ix3 b h s)) (ac P Cw Cb Wq Wk Wv Wg Bg (ix3 b h i)) i) i j := by
    unfold aw
    rw [weights_apply, hm]
    unfold al wt
    rw [logw_apply]
  rw [hids_apply]
  simp only [hw, hm]
  exact whole_eq (L := 2048) (D := 256) (lf := fun t => ((seq P Cw Cb Wq Wk Wv Wg Bg Gh Sk b).fg h t).toReal) (li := fun t => ((seq P Cw Cb Wq Wk Wv Wg Bg Gh Sk b).ig h t).toReal)
    (Q := fun s d => ((seq P Cw Cb Wq Wk Wv Wg Bg Gh Sk b).q s (lane h d)).toReal) (K := fun s d => ((seq P Cw Cb Wq Wk Wv Wg Bg Gh Sk b).ks s (lane h d)).toReal)
    (V := fun s d => ((seq P Cw Cb Wq Wk Wv Wg Bg Gh Sk b).v s (lane h d)).toReal) (b := fun s => ac P Cw Cb Wq Wk Wv Wg Bg (ix3 b h s))
    (ii := fun s => ins (ag P Cw Cb Wq Wk Wv Wg Bg) (ix3 b h s)) (q := fun i d => heads (aq P Cw Cb Wq) (ix4 b h i d))
    (k := fun i d => keys (ak P Cw Cb Wk) (ix4 b h i d)) (v := fun i d => heads (av P Wv) (ix4 b h i d))
    (ac_read P Cw Cb Wq Wk Wv Wg Bg Gh Sk hF b h) (ins_read P Cw Cb Wq Wk Wv Wg Bg Gh Sk hF b h) hq hk hv s d

theorem ah_read (b : Fin 32) (s : Fin 2048) (h : Fin 4) (d : Fin 256) : ah P Cw Cb Wq Wk Wv Wg Bg (ix4 b s h d)
    = Ideal.div 1 (1 + Ideal.exp (0 - (seq P Cw Cb Wq Wk Wv Wg Bg Gh Sk b).o s.val (lane h d))) * (seq P Cw Cb Wq Wk Wv Wg Bg Gh Sk b).hidden h s.val d := by
  unfold ah
  rw [gated_apply, ro_read P Cw Cb Wq Wk Wv Wg Bg Gh Sk, hids_read P Cw Cb Wq Wk Wv Wg Bg Gh Sk hF]

/-- On finite inputs the reference's row is the layer's. -/
theorem whole_read (t : Fin 65536) (n : Fin 1024) : whole P Cw Cb Wq Wk Wv Wg Bg Gh Sk (ix2 t n)
    = (seq P Cw Cb Wq Wk Wv Wg Bg Gh Sk ⟨t.val / 2048, by omega⟩).y ⟨n.val / 256, by omega⟩ (t.val % 2048) ⟨n.val % 256, by omega⟩ := by
  have e : lane ⟨n.val / 256, by omega⟩ ⟨n.val % 256, by omega⟩ = n := Fin.ext (by show 256 * (n.val / 256) + n.val % 256 = n.val; omega)
  unfold whole Data.y Data.finish
  rw [finished_apply, normed_apply, cx_read P Cw Cb Wq Wk Wv Wg Bg Gh Sk, rz_read P Cw Cb Wq Wk Wv Wg Bg Gh Sk, e]
  simp only [ah_read P Cw Cb Wq Wk Wv Wg Bg Gh Sk hF]
  rfl

end Cert.MlstmRefIdeal.Read
end
-- ==== Proof.MlstmClaims.lean ====
/- The claims about the recurrence call: on finite rows, convolution, projections and gates its array is the reference's. -/
module

public import proofs.«01_k».proof.Defs
public import proofs.«01_k».proof.Proof.MlstmValue
public import proofs.«01_k».proof.Proof.MlstmRefWhole
public import proofs.«01_k».proof.Proof.Gen.Mlstm.Frame
public import Idealize.ShloMosaic.Lib.Quiescent

@[expose] public section

set_option maxRecDepth 16384

noncomputable section

open Idealize.ShloMosaic Idealize.ShloMosaic.TcCoe Idealize.SL.Sem

/-! ## The reference's stages -/

namespace Cert.MlstmRefIdeal.Read

open Cert.MlstmRefIdeal Cert.MlstmRefIdeal.Gen Cert.MlstmRefIdeal.Value

variable (V : Valuation τ sig (Elt Ideal))

/-- The ten arguments of the reference. -/
abbrev inP : FVec Ideal S65536x3072 .bf16 := V (Proc.devRef .tc main_arg0)
abbrev inCw : FVec Ideal S1x4x1024 .f32 := V (Proc.devRef .tc main_arg1)
abbrev inCb : FVec Ideal S1x1024 .f32 := V (Proc.devRef .tc main_arg2)
abbrev inWq : FVec Ideal S1x256x4x4 .f32 := V (Proc.devRef .tc main_arg3)
abbrev inWk : FVec Ideal S1x256x4x4 .f32 := V (Proc.devRef .tc main_arg4)
abbrev inWv : FVec Ideal S1x256x4x4 .f32 := V (Proc.devRef .tc main_arg5)
abbrev inWg : FVec Ideal S1x3072x8 .f32 := V (Proc.devRef .tc main_arg6)
abbrev inBg : FVec Ideal S1x8 .f32 := V (Proc.devRef .tc main_arg7)
abbrev inGh : FVec Ideal S1x1024 .f32 := V (Proc.devRef .tc main_arg8)
abbrev inSk : FVec Ideal S1x1024 .f32 := V (Proc.devRef .tc main_arg9)

theorem v1_eq : res_main_v1 V = px (inP V) := rfl
theorem v2_eq : res_main_v2 V = rx (inP V) := by unfold res_main_v2; rw [v1_eq]; rfl
theorem v3_eq : res_main_v3 V = rz (inP V) := by unfold res_main_v3; rw [v1_eq]; rfl
theorem v5_eq : res_main_v5 V = taps (inCw V) := rfl
theorem v7_eq : res_main_v7 V = padded (rx (inP V)) := by unfold res_main_v7; rw [v2_eq]; rfl
theorem v39_eq : res_main_v39 V = conv (padded (rx (inP V))) (taps (inCw V)) (inCb V) := by
  unfold res_main_v39; rw [v5_eq, v7_eq]; rfl
theorem v40_eq : res_main_v40 V = cx (inP V) (inCw V) (inCb V) := by unfold res_main_v40; rw [v39_eq]; rfl
theorem v45_eq : res_main_v45 V = aq (inP V) (inCw V) (inCb V) (inWq V) := by unfold res_main_v45; rw [v40_eq]; rfl
theorem v50_eq : res_main_v50 V = ak (inP V) (inCw V) (inCb V) (inWk V) := by unfold res_main_v50; rw [v40_eq]; rfl
theorem v55_eq : res_main_v55 V = av (inP V) (inWv V) := by unfold res_main_v55; rw [v2_eq]; rfl
theorem v62_eq : res_main_v62 V = ag (inP V) (inCw V) (inCb V) (inWq V) (inWk V) (inWv V) (inWg V) (inBg V) := by
  unfold res_main_v62; rw [v45_eq, v50_eq, v55_eq]; rfl
theorem c0_eq : res_main_call2_v0 V = negs (ag (inP V) (inCw V) (inCb V) (inWq V) (inWk V) (inWv V) (inWg V) (inBg V)) := by
  unfold res_main_call2_v0; rw [v62_eq]; rfl
theorem c3_eq : res_main_call2_call0_v3 V
    = difs (negs (ag (inP V) (inCw V) (inCb V) (inWq V) (inWk V) (inWv V) (inWg V) (inBg V))) := by
  unfold res_main_call2_call0_v3; rw [c0_eq]; rfl
theorem v78_eq : res_main_v78 V = ac (inP V) (inCw V) (inCb V) (inWq V) (inWk V) (inWv V) (inWg V) (inBg V) := by
  unfold res_main_v78; rw [c0_eq, c3_eq]; rfl
theorem v87_eq : res_main_v87 V = al (inP V) (inCw V) (inCb V) (inWq V) (inWk V) (inWv V) (inWg V) (inBg V) := by
  unfold res_main_v87; rw [v62_eq, v78_eq]; rfl
theorem v89_eq : res_main_v89 V = am (inP V) (inCw V) (inCb V) (inWq V) (inWk V) (inWv V) (inWg V) (inBg V) := by
  unfold res_main_v89; rw [v78_eq, v87_eq]; rfl
theorem v95_eq : res_main_v95 V = aw (inP V) (inCw V) (inCb V) (inWq V) (inWk V) (inWv V) (inWg V) (inBg V) := by
  unfold res_main_v95; rw [v45_eq, v50_eq, v87_eq, v89_eq]; rfl
theorem v113_eq : res_main_v113 V = ah (inP V) (inCw V) (inCb V) (inWq V) (inWk V) (inWv V) (inWg V) (inBg V) := by
  unfold res_main_v113; rw [v1_eq, v55_eq, v89_eq, v95_eq]; rfl
theorem v118_eq : res_main_v118 V = mean (ah (inP V) (inCw V) (inCb V) (inWq V) (inWk V) (inWv V) (inWg V) (inBg V)) := by
  unfold res_main_v118; rw [v113_eq]; rfl
theorem v120_eq : res_main_v120 V = cent (ah (inP V) (inCw V) (inCb V) (inWq V) (inWk V) (inWv V) (inWg V) (inBg V)) := by
  unfold res_main_v120; rw [v113_eq, v118_eq]; rfl

end Cert.MlstmRefIdeal.Read

namespace Cert.Proof.MlstmClaims

open Cert.Reals
open Cert.Mlstm (seqData isReal_zero)

/-! ## The finite inputs -/

/-- The facts the precondition's program states. -/
instance facts_pre : Cert.Pre_finite_recurrence.Facts where
  slices_S65536x3072_S65536x1024_0_0 := by decide
  bitsLt_bf16_f32 := by decide
  bcast_S_S65536x1024 := by decide
  bcast_S_S1x4x1024 := by decide
  bcast_S_S1x1024 := by decide
  bcast_S_S1x256x4x4 := by decide
  bcast_S_S1x3072x8 := by decide
  bcast_S_S1x8 := by decide

/-- An entry whose absolute value compares below `⊤` is real. -/
theorem isReal_of_cmp {x : EReal} (h : Ideal.cmp .olt (max x (-x)) (Ideal.ofBits .f32 0x7F800000#32) = 1#1) : IsReal x := by
  rw [ofBits_top] at h
  refine isReal_of_abs_lt ?_
  by_contra hn
  simp [Ideal.cmp, hn] at h

open Cert.MlstmIdeal Cert.MlstmIdeal.Whole

variable (m : (ℓ : Loc nD τ sig) → Buf (Elt Ideal) ℓ)

/-- What the precondition says of the sequences. -/
theorem finite_of_pre (h : Cert.Pre_MlstmIdeal_finite_recurrence m) (c : Dev nD) (b : Fin 32) : (data m c b).Finite := by
  obtain ⟨h0, h1, h2, h3, h4, h5, h6, h7⟩ := h c
  refine ⟨fun s k => ?_, fun k n => isReal_of_cmp (congrFun h1 (ix3 0 k n)), fun n => isReal_of_cmp (congrFun h2 (ix2 0 n)),
    fun n k d => isReal_of_cmp (congrFun h3 (ix4 0 n k d)), fun n k d => isReal_of_cmp (congrFun h4 (ix4 0 n k d)),
    fun n k d => isReal_of_cmp (congrFun h5 (ix4 0 n k d)), fun j g => isReal_of_cmp (congrFun h6 (ix3 0 j g)),
    fun g => isReal_of_cmp (congrFun h7 (ix2 0 g))⟩
  unfold data seqData
  dsimp only
  split
  · refine isReal_of_cmp ?_
    rename_i hs
    have e' : (extractStridedSlice Cert.Pre_finite_recurrence.S65536x1024 ![0, 0] (argP m c)
        facts_pre.slices_S65536x3072_S65536x1024_0_0 : FVec Ideal Cert.Pre_finite_recurrence.S65536x1024 .bf16)
        (ix2 ⟨2048 * b.val + s, by omega⟩ k) = argP m c (ix2 ⟨2048 * b.val + s, by omega⟩ ⟨k.val, by omega⟩) := by pointwise []
    rw [← e']
    exact congrFun h0 (ix2 ⟨2048 * b.val + s, by omega⟩ k)
  · exact isReal_zero

/-- On finite inputs the kernel's array is the reference's. -/
theorem result_eq (h : Cert.Pre_MlstmIdeal_finite_recurrence m) (c : Dev nD) :
    result m c = Cert.MlstmRefIdeal.Read.whole (argP m c) (argCw m c) (argCb m c) (argWq m c) (argWk m c) (argWv m c)
      (argWg m c) (argBg m c) (argGh m c) (argSk m c) := by
  funext j
  idx_vars j
  rw [Cert.MlstmRefIdeal.Read.whole_read _ _ _ _ _ _ _ _ _ _ (fun b => finite_of_pre m h c b)]
  rfl

/-! ## The claims -/

/-- The recurrence's program ends with its arguments kept. -/
theorem frame_mlstm : Cert.quiescent_Mlstm := fun m ρ _ => Cert.Mlstm.Gen.frame m ρ
/-- So does the ideal one, on any input … -/
theorem frame_mlstm_ideal : Cert.quiescent_MlstmIdeal := fun m ρ _ => Cert.MlstmIdeal.Gen.frame m ρ
/-- … hence on the finite ones. -/
theorem frame_mlstm_ideal_pre : Cert.quiescent_MlstmIdeal_pre_finite_recurrence := fun m ρ _ => Cert.MlstmIdeal.Gen.frame m ρ
/-- The reference ends with its arguments kept, on any input … -/
theorem frame_mlstm_ref : Cert.quiescent_MlstmRefIdeal := fun m ρ _ =>
  (θ_run Cert.MlstmRefIdeal.defs _ _).mono (fun r h => ⟨fun c => (h c).2,
      Idealize.ShloMosaic.sem_eq_zero_of_no_sems (by decide) r.2⟩)
    (Cert.MlstmRefIdeal.Value.run (F := Ideal) m ρ)
/-- … hence on the finite ones. -/
theorem frame_mlstm_ref_pre : Cert.quiescent_MlstmRefIdeal_pre_finite_recurrence := fun m ρ _ => frame_mlstm_ref m ρ trivial

/-- The mask's constant is the named one. -/
theorem preserves_mlstm : Cert.preserves_Mlstm_MlstmIdeal :=
  IdealRules.named_const.statement Cert.MlstmIdeal.κ "mask" .f32 0xF149F2CA#32 ⊥ rfl

/-- On finite inputs the recurrence's array is the reference's, element by element. -/
theorem algebraic_mlstm : Cert.algebraic_MlstmIdeal_MlstmRefIdeal_pre_finite_recurrence := by
  intro m ρ m' ρ' hpre hag
  refine ⟨fun c => result m c, run m ρ (finite_of_pre m hpre),
    (θ_run _ _ _).mono (fun _ h c => ?_) (Cert.MlstmRefIdeal.Value.run (F := Ideal) m' ρ')⟩
  obtain ⟨h0, ha⟩ := h c
  obtain ⟨e0, e1, e2, e3, e4, e5, e6, e7, e8, e9⟩ := hag c
  refine ⟨h0.trans ?_, ha⟩
  rw [Cert.MlstmRefIdeal.Read.v120_eq, Cert.MlstmRefIdeal.Read.v118_eq, Cert.MlstmRefIdeal.Read.v113_eq, Cert.MlstmRefIdeal.Read.v40_eq,
    Cert.MlstmRefIdeal.Read.v3_eq]
  show Cert.MlstmRefIdeal.Read.whole (m' ((c.tc : Thread Cert.MlstmRefIdeal.nD Cert.MlstmRefIdeal.τ).loc Cert.MlstmRefIdeal.main_arg0)) (m' ((c.tc : Thread Cert.MlstmRefIdeal.nD Cert.MlstmRefIdeal.τ).loc Cert.MlstmRefIdeal.main_arg1)) (m' ((c.tc : Thread Cert.MlstmRefIdeal.nD Cert.MlstmRefIdeal.τ).loc Cert.MlstmRefIdeal.main_arg2)) (m' ((c.tc : Thread Cert.MlstmRefIdeal.nD Cert.MlstmRefIdeal.τ).loc Cert.MlstmRefIdeal.main_arg3)) (m' ((c.tc : Thread Cert.MlstmRefIdeal.nD Cert.MlstmRefIdeal.τ).loc Cert.MlstmRefIdeal.main_arg4)) (m' ((c.tc : Thread Cert.MlstmRefIdeal.nD Cert.MlstmRefIdeal.τ).loc Cert.MlstmRefIdeal.main_arg5)) (m' ((c.tc : Thread Cert.MlstmRefIdeal.nD Cert.MlstmRefIdeal.τ).loc Cert.MlstmRefIdeal.main_arg6)) (m' ((c.tc : Thread Cert.MlstmRefIdeal.nD Cert.MlstmRefIdeal.τ).loc Cert.MlstmRefIdeal.main_arg7)) (m' ((c.tc : Thread Cert.MlstmRefIdeal.nD Cert.MlstmRefIdeal.τ).loc Cert.MlstmRefIdeal.main_arg8)) (m' ((c.tc : Thread Cert.MlstmRefIdeal.nD Cert.MlstmRefIdeal.τ).loc Cert.MlstmRefIdeal.main_arg9)) = _
  rw [e0, e1, e2, e3, e4, e5, e6, e7, e8, e9]
  exact (result_eq m hpre c).symm

end Cert.Proof.MlstmClaims
end
-- ==== Proof.lean ====
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.OutIdeal.Value
public import proofs.«01_k».proof.Proof.Gen.InIdeal.Value
public import proofs.«01_k».proof.Proof.Gen.OutRefIdeal.Run
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmRefIdeal
public import proofs.«01_k».proof.Proof.Gen.MlstmIdeal.Value
public import proofs.«01_k».proof.Proof.Gen.MlstmRefIdeal.Run
public import proofs.«01_k».proof.Proof.Gen.InRefIdeal.Run
public import proofs.«01_k».proof.Proof.InValue
public import proofs.«01_k».proof.Proof.OutClaims
public import proofs.«01_k».proof.Proof.MlstmClaims
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Out.Gen.facts, Cert.OutIdeal.Gen.facts, Cert.OutRefIdeal.Gen.facts, Cert.In.Gen.facts,
  Cert.InIdeal.Gen.facts, Cert.InRefIdeal.Gen.facts, Cert.Mlstm.Gen.facts, Cert.MlstmIdeal.Gen.facts,
  Cert.MlstmRefIdeal.Gen.facts, OutClaims.facts_pre, MlstmClaims.facts_pre, OutClaims.frame_out, OutClaims.frame_out_ideal,
  OutClaims.frame_out_ideal_pre, OutClaims.frame_out_ref, OutClaims.frame_out_ref_pre, InClaims.frame_in,
  InClaims.frame_in_ideal, InClaims.frame_in_ref, MlstmClaims.frame_mlstm, MlstmClaims.frame_mlstm_ideal,
  MlstmClaims.frame_mlstm_ideal_pre, MlstmClaims.frame_mlstm_ref, MlstmClaims.frame_mlstm_ref_pre,
  OutClaims.preserves_out, OutClaims.algebraic_out, InClaims.preserves_in, InClaims.algebraic_in,
  MlstmClaims.preserves_mlstm, MlstmClaims.algebraic_mlstm⟩

end Cert.Proof

end
